-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpFirst (m : (ℓ : Loc Cert.FfnUpFirst.nD Cert.FfnUpFirst.τ Cert.FfnUpFirst.sig) → Buf (Elt Bits) ℓ) : Prop :=
  True

def Pre_FfnUpFirstIdeal (m : (ℓ : Loc Cert.FfnUpFirstIdeal.nD Cert.FfnUpFirstIdeal.τ Cert.FfnUpFirstIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjFirst (m : (ℓ : Loc Cert.OutProjFirst.nD Cert.OutProjFirst.τ Cert.OutProjFirst.sig) → Buf (Elt Bits) ℓ) : Prop :=
  True

def Pre_OutProjFirstIdeal (m : (ℓ : Loc Cert.OutProjFirstIdeal.nD Cert.OutProjFirstIdeal.τ Cert.OutProjFirstIdeal.sig) → Buf (Elt Ideal) ℓ) : Prop :=
  True

def Pre_MmRes (m : (ℓ : Loc Cert.MmRes.nD Cert.MmRes.τ Cert.MmRes.sig) → Buf (Elt Bits) ℓ) : Prop :=
  True

def Pre_MmResIdeal (m : (ℓ : Loc Cert.MmResIdeal.nD Cert.MmResIdeal.τ Cert.MmResIdeal.sig) → Buf (Elt Ideal) ℓ) : Prop :=
  True

def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_Regroup (m : (ℓ : Loc Cert.Regroup.nD Cert.Regroup.τ Cert.Regroup.sig) → Buf (Elt Bits) ℓ) : Prop :=
  True

def Pre_RegroupIdeal (m : (ℓ : Loc Cert.RegroupIdeal.nD Cert.RegroupIdeal.τ Cert.RegroupIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnUpFirstRefIdeal (m : (ℓ : Loc Cert.FfnUpFirstRefIdeal.nD Cert.FfnUpFirstRefIdeal.τ Cert.FfnUpFirstRefIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjFirstRefIdeal (m : (ℓ : Loc Cert.OutProjFirstRefIdeal.nD Cert.OutProjFirstRefIdeal.τ Cert.OutProjFirstRefIdeal.sig) → Buf (Elt Ideal) ℓ) : Prop :=
  True

def Pre_MmResRefIdeal (m : (ℓ : Loc Cert.MmResRefIdeal.nD Cert.MmResRefIdeal.τ Cert.MmResRefIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_RegroupRefIdeal (m : (ℓ : Loc Cert.RegroupRefIdeal.nD Cert.RegroupRefIdeal.τ Cert.RegroupRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpFirst [hFfnUpFirst : Cert.FfnUpFirst.Facts] : Prop :=
  ∀ (m : (ℓ : Loc Cert.FfnUpFirst.nD Cert.FfnUpFirst.τ Cert.FfnUpFirst.sig) → Buf (Elt Bits) ℓ) (g : Dev Cert.FfnUpFirst.nD → PrngReg), Pre_FfnUpFirst m →
    θ_run (Cert.FfnUpFirst.defs (F := Bits)) (onTc (τ := Cert.FfnUpFirst.τ) (Cert.FfnUpFirst.main (F := Bits))) ⟨m, fun _ => 0, g⟩ (fun r => (∀ c : Dev Cert.FfnUpFirst.nD,
      r.2.mem ((c.tc : Thread Cert.FfnUpFirst.nD Cert.FfnUpFirst.τ).loc Cert.FfnUpFirst.main_arg0) = m ((c.tc : Thread Cert.FfnUpFirst.nD Cert.FfnUpFirst.τ).loc Cert.FfnUpFirst.main_arg0)
      ∧ r.2.mem ((c.tc : Thread Cert.FfnUpFirst.nD Cert.FfnUpFirst.τ).loc Cert.FfnUpFirst.main_arg1) = m ((c.tc : Thread Cert.FfnUpFirst.nD Cert.FfnUpFirst.τ).loc Cert.FfnUpFirst.main_arg1)
      ∧ r.2.mem ((c.tc : Thread Cert.FfnUpFirst.nD Cert.FfnUpFirst.τ).loc Cert.FfnUpFirst.main_arg2) = m ((c.tc : Thread Cert.FfnUpFirst.nD Cert.FfnUpFirst.τ).loc Cert.FfnUpFirst.main_arg2)
      ∧ r.2.mem ((c.tc : Thread Cert.FfnUpFirst.nD Cert.FfnUpFirst.τ).loc Cert.FfnUpFirst.main_arg3) = m ((c.tc : Thread Cert.FfnUpFirst.nD Cert.FfnUpFirst.τ).loc Cert.FfnUpFirst.main_arg3))
      ∧ r.2.sem = fun _ => 0)

def quiescent_FfnUpFirstIdeal [hFfnUpFirstIdeal : Cert.FfnUpFirstIdeal.Facts] : Prop :=
  ∀ (m : (ℓ : Loc Cert.FfnUpFirstIdeal.nD Cert.FfnUpFirstIdeal.τ Cert.FfnUpFirstIdeal.sig) → Buf (Elt Ideal) ℓ) (g : Dev Cert.FfnUpFirstIdeal.nD → PrngReg), Pre_FfnUpFirstIdeal m →
    θ_run (Cert.FfnUpFirstIdeal.defs (F := Ideal)) (onTc (τ := Cert.FfnUpFirstIdeal.τ) (Cert.FfnUpFirstIdeal.main (F := Ideal))) ⟨m, fun _ => 0, g⟩ (fun r => (∀ c : Dev Cert.FfnUpFirstIdeal.nD,
      r.2.mem ((c.tc : Thread Cert.FfnUpFirstIdeal.nD Cert.FfnUpFirstIdeal.τ).loc Cert.FfnUpFirstIdeal.main_arg0) = m ((c.tc : Thread Cert.FfnUpFirstIdeal.nD Cert.FfnUpFirstIdeal.τ).loc Cert.FfnUpFirstIdeal.main_arg0)
      ∧ r.2.mem ((c.tc : Thread Cert.FfnUpFirstIdeal.nD Cert.FfnUpFirstIdeal.τ).loc Cert.FfnUpFirstIdeal.main_arg1) = m ((c.tc : Thread Cert.FfnUpFirstIdeal.nD Cert.FfnUpFirstIdeal.τ).loc Cert.FfnUpFirstIdeal.main_arg1)
      ∧ r.2.mem ((c.tc : Thread Cert.FfnUpFirstIdeal.nD Cert.FfnUpFirstIdeal.τ).loc Cert.FfnUpFirstIdeal.main_arg2) = m ((c.tc : Thread Cert.FfnUpFirstIdeal.nD Cert.FfnUpFirstIdeal.τ).loc Cert.FfnUpFirstIdeal.main_arg2)
      ∧ r.2.mem ((c.tc : Thread Cert.FfnUpFirstIdeal.nD Cert.FfnUpFirstIdeal.τ).loc Cert.FfnUpFirstIdeal.main_arg3) = m ((c.tc : Thread Cert.FfnUpFirstIdeal.nD Cert.FfnUpFirstIdeal.τ).loc Cert.FfnUpFirstIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjFirst [hOutProjFirst : Cert.OutProjFirst.Facts] : Prop :=
  ∀ (m : (ℓ : Loc Cert.OutProjFirst.nD Cert.OutProjFirst.τ Cert.OutProjFirst.sig) → Buf (Elt Bits) ℓ) (g : Dev Cert.OutProjFirst.nD → PrngReg), Pre_OutProjFirst m →
    θ_run (Cert.OutProjFirst.defs (F := Bits)) (onTc (τ := Cert.OutProjFirst.τ) (Cert.OutProjFirst.main (F := Bits))) ⟨m, fun _ => 0, g⟩ (fun r => (∀ c : Dev Cert.OutProjFirst.nD,
      r.2.mem ((c.tc : Thread Cert.OutProjFirst.nD Cert.OutProjFirst.τ).loc Cert.OutProjFirst.main_arg0) = m ((c.tc : Thread Cert.OutProjFirst.nD Cert.OutProjFirst.τ).loc Cert.OutProjFirst.main_arg0)
      ∧ r.2.mem ((c.tc : Thread Cert.OutProjFirst.nD Cert.OutProjFirst.τ).loc Cert.OutProjFirst.main_arg1) = m ((c.tc : Thread Cert.OutProjFirst.nD Cert.OutProjFirst.τ).loc Cert.OutProjFirst.main_arg1)
      ∧ r.2.mem ((c.tc : Thread Cert.OutProjFirst.nD Cert.OutProjFirst.τ).loc Cert.OutProjFirst.main_arg2) = m ((c.tc : Thread Cert.OutProjFirst.nD Cert.OutProjFirst.τ).loc Cert.OutProjFirst.main_arg2)
      ∧ r.2.mem ((c.tc : Thread Cert.OutProjFirst.nD Cert.OutProjFirst.τ).loc Cert.OutProjFirst.main_arg3) = m ((c.tc : Thread Cert.OutProjFirst.nD Cert.OutProjFirst.τ).loc Cert.OutProjFirst.main_arg3)
      ∧ r.2.mem ((c.tc : Thread Cert.OutProjFirst.nD Cert.OutProjFirst.τ).loc Cert.OutProjFirst.main_arg4) = m ((c.tc : Thread Cert.OutProjFirst.nD Cert.OutProjFirst.τ).loc Cert.OutProjFirst.main_arg4)
      ∧ r.2.mem ((c.tc : Thread Cert.OutProjFirst.nD Cert.OutProjFirst.τ).loc Cert.OutProjFirst.main_arg5) = m ((c.tc : Thread Cert.OutProjFirst.nD Cert.OutProjFirst.τ).loc Cert.OutProjFirst.main_arg5))
      ∧ r.2.sem = fun _ => 0)

def quiescent_OutProjFirstIdeal [hOutProjFirstIdeal : Cert.OutProjFirstIdeal.Facts] : Prop :=
  ∀ (m : (ℓ : Loc Cert.OutProjFirstIdeal.nD Cert.OutProjFirstIdeal.τ Cert.OutProjFirstIdeal.sig) → Buf (Elt Ideal) ℓ) (g : Dev Cert.OutProjFirstIdeal.nD → PrngReg), Pre_OutProjFirstIdeal m →
    θ_run (Cert.OutProjFirstIdeal.defs (F := Ideal)) (onTc (τ := Cert.OutProjFirstIdeal.τ) (Cert.OutProjFirstIdeal.main (F := Ideal))) ⟨m, fun _ => 0, g⟩ (fun r => (∀ c : Dev Cert.OutProjFirstIdeal.nD,
      r.2.mem ((c.tc : Thread Cert.OutProjFirstIdeal.nD Cert.OutProjFirstIdeal.τ).loc Cert.OutProjFirstIdeal.main_arg0) = m ((c.tc : Thread Cert.OutProjFirstIdeal.nD Cert.OutProjFirstIdeal.τ).loc Cert.OutProjFirstIdeal.main_arg0)
      ∧ r.2.mem ((c.tc : Thread Cert.OutProjFirstIdeal.nD Cert.OutProjFirstIdeal.τ).loc Cert.OutProjFirstIdeal.main_arg1) = m ((c.tc : Thread Cert.OutProjFirstIdeal.nD Cert.OutProjFirstIdeal.τ).loc Cert.OutProjFirstIdeal.main_arg1)
      ∧ r.2.mem ((c.tc : Thread Cert.OutProjFirstIdeal.nD Cert.OutProjFirstIdeal.τ).loc Cert.OutProjFirstIdeal.main_arg2) = m ((c.tc : Thread Cert.OutProjFirstIdeal.nD Cert.OutProjFirstIdeal.τ).loc Cert.OutProjFirstIdeal.main_arg2)
      ∧ r.2.mem ((c.tc : Thread Cert.OutProjFirstIdeal.nD Cert.OutProjFirstIdeal.τ).loc Cert.OutProjFirstIdeal.main_arg3) = m ((c.tc : Thread Cert.OutProjFirstIdeal.nD Cert.OutProjFirstIdeal.τ).loc Cert.OutProjFirstIdeal.main_arg3)
      ∧ r.2.mem ((c.tc : Thread Cert.OutProjFirstIdeal.nD Cert.OutProjFirstIdeal.τ).loc Cert.OutProjFirstIdeal.main_arg4) = m ((c.tc : Thread Cert.OutProjFirstIdeal.nD Cert.OutProjFirstIdeal.τ).loc Cert.OutProjFirstIdeal.main_arg4)
      ∧ r.2.mem ((c.tc : Thread Cert.OutProjFirstIdeal.nD Cert.OutProjFirstIdeal.τ).loc Cert.OutProjFirstIdeal.main_arg5) = m ((c.tc : Thread Cert.OutProjFirstIdeal.nD Cert.OutProjFirstIdeal.τ).loc Cert.OutProjFirstIdeal.main_arg5))
      ∧ r.2.sem = fun _ => 0)

def quiescent_MmRes [hMmRes : Cert.MmRes.Facts] : Prop :=
  ∀ (m : (ℓ : Loc Cert.MmRes.nD Cert.MmRes.τ Cert.MmRes.sig) → Buf (Elt Bits) ℓ) (g : Dev Cert.MmRes.nD → PrngReg), Pre_MmRes m →
    θ_run (Cert.MmRes.defs (F := Bits)) (onTc (τ := Cert.MmRes.τ) (Cert.MmRes.main (F := Bits))) ⟨m, fun _ => 0, g⟩ (fun r => (∀ c : Dev Cert.MmRes.nD,
      r.2.mem ((c.tc : Thread Cert.MmRes.nD Cert.MmRes.τ).loc Cert.MmRes.main_arg0) = m ((c.tc : Thread Cert.MmRes.nD Cert.MmRes.τ).loc Cert.MmRes.main_arg0)
      ∧ r.2.mem ((c.tc : Thread Cert.MmRes.nD Cert.MmRes.τ).loc Cert.MmRes.main_arg1) = m ((c.tc : Thread Cert.MmRes.nD Cert.MmRes.τ).loc Cert.MmRes.main_arg1)
      ∧ r.2.mem ((c.tc : Thread Cert.MmRes.nD Cert.MmRes.τ).loc Cert.MmRes.main_arg2) = m ((c.tc : Thread Cert.MmRes.nD Cert.MmRes.τ).loc Cert.MmRes.main_arg2)
      ∧ r.2.mem ((c.tc : Thread Cert.MmRes.nD Cert.MmRes.τ).loc Cert.MmRes.main_arg3) = m ((c.tc : Thread Cert.MmRes.nD Cert.MmRes.τ).loc Cert.MmRes.main_arg3)
      ∧ r.2.mem ((c.tc : Thread Cert.MmRes.nD Cert.MmRes.τ).loc Cert.MmRes.main_arg4) = m ((c.tc : Thread Cert.MmRes.nD Cert.MmRes.τ).loc Cert.MmRes.main_arg4))
      ∧ r.2.sem = fun _ => 0)

def quiescent_MmResIdeal [hMmResIdeal : Cert.MmResIdeal.Facts] : Prop :=
  ∀ (m : (ℓ : Loc Cert.MmResIdeal.nD Cert.MmResIdeal.τ Cert.MmResIdeal.sig) → Buf (Elt Ideal) ℓ) (g : Dev Cert.MmResIdeal.nD → PrngReg), Pre_MmResIdeal m →
    θ_run (Cert.MmResIdeal.defs (F := Ideal)) (onTc (τ := Cert.MmResIdeal.τ) (Cert.MmResIdeal.main (F := Ideal))) ⟨m, fun _ => 0, g⟩ (fun r => (∀ c : Dev Cert.MmResIdeal.nD,
      r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
      ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
      ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2)
      ∧ r.2.mem ((c.tc : Thread Cert.MmResIdeal.nD Cert.MmResIdeal.τ).loc Cert.MmResIdeal.main_arg3) = m ((c.tc : Thread Cert.MmResIdeal.nD Cert.MmResIdeal.τ).loc Cert.MmResIdeal.main_arg3)
      ∧ r.2.mem ((c.tc : Thread Cert.MmResIdeal.nD Cert.MmResIdeal.τ).loc Cert.MmResIdeal.main_arg4) = m ((c.tc : Thread Cert.MmResIdeal.nD Cert.MmResIdeal.τ).loc Cert.MmResIdeal.main_arg4))
      ∧ r.2.sem = fun _ => 0)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1))
      ∧ r.2.sem = fun _ => 0)

def quiescent_Regroup [hRegroup : Cert.Regroup.Facts] : Prop :=
  ∀ (m : (ℓ : Loc Cert.Regroup.nD Cert.Regroup.τ Cert.Regroup.sig) → Buf (Elt Bits) ℓ) (g : Dev Cert.Regroup.nD → PrngReg), Pre_Regroup m →
    θ_run (Cert.Regroup.defs (F := Bits)) (onTc (τ := Cert.Regroup.τ) (Cert.Regroup.main (F := Bits))) ⟨m, fun _ => 0, g⟩ (fun r => (∀ c : Dev Cert.Regroup.nD,
      r.2.mem ((c.tc : Thread Cert.Regroup.nD Cert.Regroup.τ).loc Cert.Regroup.main_arg0) = m ((c.tc : Thread Cert.Regroup.nD Cert.Regroup.τ).loc Cert.Regroup.main_arg0)
      ∧ r.2.mem ((c.tc : Thread Cert.Regroup.nD Cert.Regroup.τ).loc Cert.Regroup.main_arg1) = m ((c.tc : Thread Cert.Regroup.nD Cert.Regroup.τ).loc Cert.Regroup.main_arg1))
      ∧ r.2.sem = fun _ => 0)

def quiescent_RegroupIdeal [hRegroupIdeal : Cert.RegroupIdeal.Facts] : Prop :=
  ∀ (m : (ℓ : Loc Cert.RegroupIdeal.nD Cert.RegroupIdeal.τ Cert.RegroupIdeal.sig) → Buf (Elt Ideal) ℓ) (g : Dev Cert.RegroupIdeal.nD → PrngReg), Pre_RegroupIdeal m →
    θ_run (Cert.RegroupIdeal.defs (F := Ideal)) (onTc (τ := Cert.RegroupIdeal.τ) (Cert.RegroupIdeal.main (F := Ideal))) ⟨m, fun _ => 0, g⟩ (fun r => (∀ c : Dev Cert.RegroupIdeal.nD,
      r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0)
      ∧ r.2.mem ((c.tc : Thread Cert.RegroupIdeal.nD Cert.RegroupIdeal.τ).loc Cert.RegroupIdeal.main_arg1) = m ((c.tc : Thread Cert.RegroupIdeal.nD Cert.RegroupIdeal.τ).loc Cert.RegroupIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnUpFirstRefIdeal [hFfnUpFirstRefIdeal : Cert.FfnUpFirstRefIdeal.Facts] : Prop :=
  ∀ (m : (ℓ : Loc Cert.FfnUpFirstRefIdeal.nD Cert.FfnUpFirstRefIdeal.τ Cert.FfnUpFirstRefIdeal.sig) → Buf (Elt Ideal) ℓ) (g : Dev Cert.FfnUpFirstRefIdeal.nD → PrngReg), Pre_FfnUpFirstRefIdeal m →
    θ_run (Cert.FfnUpFirstRefIdeal.defs (F := Ideal)) (onTc (τ := Cert.FfnUpFirstRefIdeal.τ) (Cert.FfnUpFirstRefIdeal.main (F := Ideal))) ⟨m, fun _ => 0, g⟩ (fun r => (∀ c : Dev Cert.FfnUpFirstRefIdeal.nD,
      r.2.mem ((c.tc : Thread Cert.FfnUpFirstRefIdeal.nD Cert.FfnUpFirstRefIdeal.τ).loc Cert.FfnUpFirstRefIdeal.main_arg0) = m ((c.tc : Thread Cert.FfnUpFirstRefIdeal.nD Cert.FfnUpFirstRefIdeal.τ).loc Cert.FfnUpFirstRefIdeal.main_arg0)
      ∧ r.2.mem ((c.tc : Thread Cert.FfnUpFirstRefIdeal.nD Cert.FfnUpFirstRefIdeal.τ).loc Cert.FfnUpFirstRefIdeal.main_arg1) = m ((c.tc : Thread Cert.FfnUpFirstRefIdeal.nD Cert.FfnUpFirstRefIdeal.τ).loc Cert.FfnUpFirstRefIdeal.main_arg1)
      ∧ r.2.mem ((c.tc : Thread Cert.FfnUpFirstRefIdeal.nD Cert.FfnUpFirstRefIdeal.τ).loc Cert.FfnUpFirstRefIdeal.main_arg2) = m ((c.tc : Thread Cert.FfnUpFirstRefIdeal.nD Cert.FfnUpFirstRefIdeal.τ).loc Cert.FfnUpFirstRefIdeal.main_arg2)
      ∧ r.2.mem ((c.tc : Thread Cert.FfnUpFirstRefIdeal.nD Cert.FfnUpFirstRefIdeal.τ).loc Cert.FfnUpFirstRefIdeal.main_arg3) = m ((c.tc : Thread Cert.FfnUpFirstRefIdeal.nD Cert.FfnUpFirstRefIdeal.τ).loc Cert.FfnUpFirstRefIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_OutProjFirstRefIdeal [hOutProjFirstRefIdeal : Cert.OutProjFirstRefIdeal.Facts] : Prop :=
  ∀ (m : (ℓ : Loc Cert.OutProjFirstRefIdeal.nD Cert.OutProjFirstRefIdeal.τ Cert.OutProjFirstRefIdeal.sig) → Buf (Elt Ideal) ℓ) (g : Dev Cert.OutProjFirstRefIdeal.nD → PrngReg), Pre_OutProjFirstRefIdeal m →
    θ_run (Cert.OutProjFirstRefIdeal.defs (F := Ideal)) (onTc (τ := Cert.OutProjFirstRefIdeal.τ) (Cert.OutProjFirstRefIdeal.main (F := Ideal))) ⟨m, fun _ => 0, g⟩ (fun r => (∀ c : Dev Cert.OutProjFirstRefIdeal.nD,
      r.2.mem ((c.tc : Thread Cert.OutProjFirstRefIdeal.nD Cert.OutProjFirstRefIdeal.τ).loc Cert.OutProjFirstRefIdeal.main_arg0) = m ((c.tc : Thread Cert.OutProjFirstRefIdeal.nD Cert.OutProjFirstRefIdeal.τ).loc Cert.OutProjFirstRefIdeal.main_arg0)
      ∧ r.2.mem ((c.tc : Thread Cert.OutProjFirstRefIdeal.nD Cert.OutProjFirstRefIdeal.τ).loc Cert.OutProjFirstRefIdeal.main_arg1) = m ((c.tc : Thread Cert.OutProjFirstRefIdeal.nD Cert.OutProjFirstRefIdeal.τ).loc Cert.OutProjFirstRefIdeal.main_arg1)
      ∧ r.2.mem ((c.tc : Thread Cert.OutProjFirstRefIdeal.nD Cert.OutProjFirstRefIdeal.τ).loc Cert.OutProjFirstRefIdeal.main_arg2) = m ((c.tc : Thread Cert.OutProjFirstRefIdeal.nD Cert.OutProjFirstRefIdeal.τ).loc Cert.OutProjFirstRefIdeal.main_arg2)
      ∧ r.2.mem ((c.tc : Thread Cert.OutProjFirstRefIdeal.nD Cert.OutProjFirstRefIdeal.τ).loc Cert.OutProjFirstRefIdeal.main_arg3) = m ((c.tc : Thread Cert.OutProjFirstRefIdeal.nD Cert.OutProjFirstRefIdeal.τ).loc Cert.OutProjFirstRefIdeal.main_arg3)
      ∧ r.2.mem ((c.tc : Thread Cert.OutProjFirstRefIdeal.nD Cert.OutProjFirstRefIdeal.τ).loc Cert.OutProjFirstRefIdeal.main_arg4) = m ((c.tc : Thread Cert.OutProjFirstRefIdeal.nD Cert.OutProjFirstRefIdeal.τ).loc Cert.OutProjFirstRefIdeal.main_arg4)
      ∧ r.2.mem ((c.tc : Thread Cert.OutProjFirstRefIdeal.nD Cert.OutProjFirstRefIdeal.τ).loc Cert.OutProjFirstRefIdeal.main_arg5) = m ((c.tc : Thread Cert.OutProjFirstRefIdeal.nD Cert.OutProjFirstRefIdeal.τ).loc Cert.OutProjFirstRefIdeal.main_arg5))
      ∧ r.2.sem = fun _ => 0)

def quiescent_MmResRefIdeal [hMmResRefIdeal : Cert.MmResRefIdeal.Facts] : Prop :=
  ∀ (m : (ℓ : Loc Cert.MmResRefIdeal.nD Cert.MmResRefIdeal.τ Cert.MmResRefIdeal.sig) → Buf (Elt Ideal) ℓ) (g : Dev Cert.MmResRefIdeal.nD → PrngReg), Pre_MmResRefIdeal m →
    θ_run (Cert.MmResRefIdeal.defs (F := Ideal)) (onTc (τ := Cert.MmResRefIdeal.τ) (Cert.MmResRefIdeal.main (F := Ideal))) ⟨m, fun _ => 0, g⟩ (fun r => (∀ c : Dev Cert.MmResRefIdeal.nD,
      r.2.mem ((c.tc : Thread Cert.MmResRefIdeal.nD Cert.MmResRefIdeal.τ).loc Cert.MmResRefIdeal.main_arg0) = m ((c.tc : Thread Cert.MmResRefIdeal.nD Cert.MmResRefIdeal.τ).loc Cert.MmResRefIdeal.main_arg0)
      ∧ r.2.mem ((c.tc : Thread Cert.MmResRefIdeal.nD Cert.MmResRefIdeal.τ).loc Cert.MmResRefIdeal.main_arg1) = m ((c.tc : Thread Cert.MmResRefIdeal.nD Cert.MmResRefIdeal.τ).loc Cert.MmResRefIdeal.main_arg1)
      ∧ r.2.mem ((c.tc : Thread Cert.MmResRefIdeal.nD Cert.MmResRefIdeal.τ).loc Cert.MmResRefIdeal.main_arg2) = m ((c.tc : Thread Cert.MmResRefIdeal.nD Cert.MmResRefIdeal.τ).loc Cert.MmResRefIdeal.main_arg2)
      ∧ r.2.mem ((c.tc : Thread Cert.MmResRefIdeal.nD Cert.MmResRefIdeal.τ).loc Cert.MmResRefIdeal.main_arg3) = m ((c.tc : Thread Cert.MmResRefIdeal.nD Cert.MmResRefIdeal.τ).loc Cert.MmResRefIdeal.main_arg3)
      ∧ r.2.mem ((c.tc : Thread Cert.MmResRefIdeal.nD Cert.MmResRefIdeal.τ).loc Cert.MmResRefIdeal.main_arg4) = m ((c.tc : Thread Cert.MmResRefIdeal.nD Cert.MmResRefIdeal.τ).loc Cert.MmResRefIdeal.main_arg4))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1))
      ∧ r.2.sem = fun _ => 0)

def quiescent_RegroupRefIdeal [hRegroupRefIdeal : Cert.RegroupRefIdeal.Facts] : Prop :=
  ∀ (m : (ℓ : Loc Cert.RegroupRefIdeal.nD Cert.RegroupRefIdeal.τ Cert.RegroupRefIdeal.sig) → Buf (Elt Ideal) ℓ) (g : Dev Cert.RegroupRefIdeal.nD → PrngReg), Pre_RegroupRefIdeal m →
    θ_run (Cert.RegroupRefIdeal.defs (F := Ideal)) (onTc (τ := Cert.RegroupRefIdeal.τ) (Cert.RegroupRefIdeal.main (F := Ideal))) ⟨m, fun _ => 0, g⟩ (fun r => (∀ c : Dev Cert.RegroupRefIdeal.nD,
      r.2.mem ((c.tc : Thread Cert.RegroupRefIdeal.nD Cert.RegroupRefIdeal.τ).loc Cert.RegroupRefIdeal.main_arg0) = m ((c.tc : Thread Cert.RegroupRefIdeal.nD Cert.RegroupRefIdeal.τ).loc Cert.RegroupRefIdeal.main_arg0)
      ∧ r.2.mem ((c.tc : Thread Cert.RegroupRefIdeal.nD Cert.RegroupRefIdeal.τ).loc Cert.RegroupRefIdeal.main_arg1) = m ((c.tc : Thread Cert.RegroupRefIdeal.nD Cert.RegroupRefIdeal.τ).loc Cert.RegroupRefIdeal.main_arg1))
      ∧ r.2.sem = fun _ => 0)

def preserves_Kernel_KernelIdeal : Prop :=
  IdealRules.named_const.Statement Cert.KernelIdeal.κ "qscale" .f32 0x3E38AA3B#32 (((Real.sqrt 64)⁻¹ * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def preserves_FfnUp_FfnUpIdeal : Prop :=
  True

def preserves_FfnUpFirst_FfnUpFirstIdeal : Prop :=
  True

def preserves_OutProj_OutProjIdeal : Prop :=
  True

def preserves_OutProjFirst_OutProjFirstIdeal : Prop :=
  True

def preserves_MmRes_MmResIdeal : Prop :=
  True

def preserves_Sconv_SconvIdeal : Prop :=
  True

def preserves_Regroup_RegroupIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v19) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def algebraic_FfnUpFirstIdeal_FfnUpFirstRefIdeal [hFfnUpFirstIdeal : Cert.FfnUpFirstIdeal.Facts] [hFfnUpFirstRefIdeal : Cert.FfnUpFirstRefIdeal.Facts] : Prop :=
  ∀ (m : (ℓ : Loc Cert.FfnUpFirstIdeal.nD Cert.FfnUpFirstIdeal.τ Cert.FfnUpFirstIdeal.sig) → Buf (Elt Ideal) ℓ) (g : Dev Cert.FfnUpFirstIdeal.nD → PrngReg)
    (m' : (ℓ : Loc Cert.FfnUpFirstRefIdeal.nD Cert.FfnUpFirstRefIdeal.τ Cert.FfnUpFirstRefIdeal.sig) → Buf (Elt Ideal) ℓ) (g' : Dev Cert.FfnUpFirstRefIdeal.nD → PrngReg), Pre_FfnUpFirstIdeal m →
    (∀ c : Dev Cert.FfnUpFirstIdeal.nD,
      m' ((c.tc : Thread Cert.FfnUpFirstRefIdeal.nD Cert.FfnUpFirstRefIdeal.τ).loc Cert.FfnUpFirstRefIdeal.main_arg0) = m ((c.tc : Thread Cert.FfnUpFirstIdeal.nD Cert.FfnUpFirstIdeal.τ).loc Cert.FfnUpFirstIdeal.main_arg0)
      ∧ m' ((c.tc : Thread Cert.FfnUpFirstRefIdeal.nD Cert.FfnUpFirstRefIdeal.τ).loc Cert.FfnUpFirstRefIdeal.main_arg1) = m ((c.tc : Thread Cert.FfnUpFirstIdeal.nD Cert.FfnUpFirstIdeal.τ).loc Cert.FfnUpFirstIdeal.main_arg1)
      ∧ m' ((c.tc : Thread Cert.FfnUpFirstRefIdeal.nD Cert.FfnUpFirstRefIdeal.τ).loc Cert.FfnUpFirstRefIdeal.main_arg2) = m ((c.tc : Thread Cert.FfnUpFirstIdeal.nD Cert.FfnUpFirstIdeal.τ).loc Cert.FfnUpFirstIdeal.main_arg2)
      ∧ m' ((c.tc : Thread Cert.FfnUpFirstRefIdeal.nD Cert.FfnUpFirstRefIdeal.τ).loc Cert.FfnUpFirstRefIdeal.main_arg3) = m ((c.tc : Thread Cert.FfnUpFirstIdeal.nD Cert.FfnUpFirstIdeal.τ).loc Cert.FfnUpFirstIdeal.main_arg3)) →
    ∃ (v0 : (c : Dev Cert.FfnUpFirstIdeal.nD) → Buf (Elt Ideal) ((c.tc : Thread Cert.FfnUpFirstIdeal.nD Cert.FfnUpFirstIdeal.τ).loc Cert.FfnUpFirstIdeal.main_v0_0)) (v1 : (c : Dev Cert.FfnUpFirstIdeal.nD) → Buf (Elt Ideal) ((c.tc : Thread Cert.FfnUpFirstIdeal.nD Cert.FfnUpFirstIdeal.τ).loc Cert.FfnUpFirstIdeal.main_v0_1)) (v2 : (c : Dev Cert.FfnUpFirstIdeal.nD) → Buf (Elt Ideal) ((c.tc : Thread Cert.FfnUpFirstIdeal.nD Cert.FfnUpFirstIdeal.τ).loc Cert.FfnUpFirstIdeal.main_v0_2)),
      θ_run (Cert.FfnUpFirstIdeal.defs (F := Ideal)) (onTc (τ := Cert.FfnUpFirstIdeal.τ) (Cert.FfnUpFirstIdeal.main (F := Ideal))) ⟨m, fun _ => 0, g⟩ (fun r => ∀ c : Dev Cert.FfnUpFirstIdeal.nD,
          r.2.mem ((c.tc : Thread Cert.FfnUpFirstIdeal.nD Cert.FfnUpFirstIdeal.τ).loc Cert.FfnUpFirstIdeal.main_v0_0) = v0 c
          ∧ r.2.mem ((c.tc : Thread Cert.FfnUpFirstIdeal.nD Cert.FfnUpFirstIdeal.τ).loc Cert.FfnUpFirstIdeal.main_v0_1) = v1 c
          ∧ r.2.mem ((c.tc : Thread Cert.FfnUpFirstIdeal.nD Cert.FfnUpFirstIdeal.τ).loc Cert.FfnUpFirstIdeal.main_v0_2) = v2 c
          ∧ r.2.mem ((c.tc : Thread Cert.FfnUpFirstIdeal.nD Cert.FfnUpFirstIdeal.τ).loc Cert.FfnUpFirstIdeal.main_arg0) = m ((c.tc : Thread Cert.FfnUpFirstIdeal.nD Cert.FfnUpFirstIdeal.τ).loc Cert.FfnUpFirstIdeal.main_arg0)
          ∧ r.2.mem ((c.tc : Thread Cert.FfnUpFirstIdeal.nD Cert.FfnUpFirstIdeal.τ).loc Cert.FfnUpFirstIdeal.main_arg1) = m ((c.tc : Thread Cert.FfnUpFirstIdeal.nD Cert.FfnUpFirstIdeal.τ).loc Cert.FfnUpFirstIdeal.main_arg1)
          ∧ r.2.mem ((c.tc : Thread Cert.FfnUpFirstIdeal.nD Cert.FfnUpFirstIdeal.τ).loc Cert.FfnUpFirstIdeal.main_arg2) = m ((c.tc : Thread Cert.FfnUpFirstIdeal.nD Cert.FfnUpFirstIdeal.τ).loc Cert.FfnUpFirstIdeal.main_arg2)
          ∧ r.2.mem ((c.tc : Thread Cert.FfnUpFirstIdeal.nD Cert.FfnUpFirstIdeal.τ).loc Cert.FfnUpFirstIdeal.main_arg3) = m ((c.tc : Thread Cert.FfnUpFirstIdeal.nD Cert.FfnUpFirstIdeal.τ).loc Cert.FfnUpFirstIdeal.main_arg3))
      ∧ θ_run (Cert.FfnUpFirstRefIdeal.defs (F := Ideal)) (onTc (τ := Cert.FfnUpFirstRefIdeal.τ) (Cert.FfnUpFirstRefIdeal.main (F := Ideal))) ⟨m', fun _ => 0, g'⟩ (fun r => ∀ c : Dev Cert.FfnUpFirstRefIdeal.nD,
          r.2.mem ((c.tc : Thread Cert.FfnUpFirstRefIdeal.nD Cert.FfnUpFirstRefIdeal.τ).loc Cert.FfnUpFirstRefIdeal.main_v38) = v0 c
          ∧ r.2.mem ((c.tc : Thread Cert.FfnUpFirstRefIdeal.nD Cert.FfnUpFirstRefIdeal.τ).loc Cert.FfnUpFirstRefIdeal.main_v40) = v1 c
          ∧ r.2.mem ((c.tc : Thread Cert.FfnUpFirstRefIdeal.nD Cert.FfnUpFirstRefIdeal.τ).loc Cert.FfnUpFirstRefIdeal.main_v42) = v2 c
          ∧ r.2.mem ((c.tc : Thread Cert.FfnUpFirstRefIdeal.nD Cert.FfnUpFirstRefIdeal.τ).loc Cert.FfnUpFirstRefIdeal.main_arg0) = m' ((c.tc : Thread Cert.FfnUpFirstRefIdeal.nD Cert.FfnUpFirstRefIdeal.τ).loc Cert.FfnUpFirstRefIdeal.main_arg0)
          ∧ r.2.mem ((c.tc : Thread Cert.FfnUpFirstRefIdeal.nD Cert.FfnUpFirstRefIdeal.τ).loc Cert.FfnUpFirstRefIdeal.main_arg1) = m' ((c.tc : Thread Cert.FfnUpFirstRefIdeal.nD Cert.FfnUpFirstRefIdeal.τ).loc Cert.FfnUpFirstRefIdeal.main_arg1)
          ∧ r.2.mem ((c.tc : Thread Cert.FfnUpFirstRefIdeal.nD Cert.FfnUpFirstRefIdeal.τ).loc Cert.FfnUpFirstRefIdeal.main_arg2) = m' ((c.tc : Thread Cert.FfnUpFirstRefIdeal.nD Cert.FfnUpFirstRefIdeal.τ).loc Cert.FfnUpFirstRefIdeal.main_arg2)
          ∧ r.2.mem ((c.tc : Thread Cert.FfnUpFirstRefIdeal.nD Cert.FfnUpFirstRefIdeal.τ).loc Cert.FfnUpFirstRefIdeal.main_arg3) = m' ((c.tc : Thread Cert.FfnUpFirstRefIdeal.nD Cert.FfnUpFirstRefIdeal.τ).loc Cert.FfnUpFirstRefIdeal.main_arg3))

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_v9) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def algebraic_OutProjFirstIdeal_OutProjFirstRefIdeal [hOutProjFirstIdeal : Cert.OutProjFirstIdeal.Facts] [hOutProjFirstRefIdeal : Cert.OutProjFirstRefIdeal.Facts] : Prop :=
  ∀ (m : (ℓ : Loc Cert.OutProjFirstIdeal.nD Cert.OutProjFirstIdeal.τ Cert.OutProjFirstIdeal.sig) → Buf (Elt Ideal) ℓ) (g : Dev Cert.OutProjFirstIdeal.nD → PrngReg)
    (m' : (ℓ : Loc Cert.OutProjFirstRefIdeal.nD Cert.OutProjFirstRefIdeal.τ Cert.OutProjFirstRefIdeal.sig) → Buf (Elt Ideal) ℓ) (g' : Dev Cert.OutProjFirstRefIdeal.nD → PrngReg), Pre_OutProjFirstIdeal m →
    (∀ c : Dev Cert.OutProjFirstIdeal.nD,
      m' ((c.tc : Thread Cert.OutProjFirstRefIdeal.nD Cert.OutProjFirstRefIdeal.τ).loc Cert.OutProjFirstRefIdeal.main_arg0) = m ((c.tc : Thread Cert.OutProjFirstIdeal.nD Cert.OutProjFirstIdeal.τ).loc Cert.OutProjFirstIdeal.main_arg0)
      ∧ m' ((c.tc : Thread Cert.OutProjFirstRefIdeal.nD Cert.OutProjFirstRefIdeal.τ).loc Cert.OutProjFirstRefIdeal.main_arg1) = m ((c.tc : Thread Cert.OutProjFirstIdeal.nD Cert.OutProjFirstIdeal.τ).loc Cert.OutProjFirstIdeal.main_arg1)
      ∧ m' ((c.tc : Thread Cert.OutProjFirstRefIdeal.nD Cert.OutProjFirstRefIdeal.τ).loc Cert.OutProjFirstRefIdeal.main_arg2) = m ((c.tc : Thread Cert.OutProjFirstIdeal.nD Cert.OutProjFirstIdeal.τ).loc Cert.OutProjFirstIdeal.main_arg2)
      ∧ m' ((c.tc : Thread Cert.OutProjFirstRefIdeal.nD Cert.OutProjFirstRefIdeal.τ).loc Cert.OutProjFirstRefIdeal.main_arg3) = m ((c.tc : Thread Cert.OutProjFirstIdeal.nD Cert.OutProjFirstIdeal.τ).loc Cert.OutProjFirstIdeal.main_arg3)
      ∧ m' ((c.tc : Thread Cert.OutProjFirstRefIdeal.nD Cert.OutProjFirstRefIdeal.τ).loc Cert.OutProjFirstRefIdeal.main_arg4) = m ((c.tc : Thread Cert.OutProjFirstIdeal.nD Cert.OutProjFirstIdeal.τ).loc Cert.OutProjFirstIdeal.main_arg4)
      ∧ m' ((c.tc : Thread Cert.OutProjFirstRefIdeal.nD Cert.OutProjFirstRefIdeal.τ).loc Cert.OutProjFirstRefIdeal.main_arg5) = m ((c.tc : Thread Cert.OutProjFirstIdeal.nD Cert.OutProjFirstIdeal.τ).loc Cert.OutProjFirstIdeal.main_arg5)) →
    ∃ (v0 : (c : Dev Cert.OutProjFirstIdeal.nD) → Buf (Elt Ideal) ((c.tc : Thread Cert.OutProjFirstIdeal.nD Cert.OutProjFirstIdeal.τ).loc Cert.OutProjFirstIdeal.main_v0_0)) (v1 : (c : Dev Cert.OutProjFirstIdeal.nD) → Buf (Elt Ideal) ((c.tc : Thread Cert.OutProjFirstIdeal.nD Cert.OutProjFirstIdeal.τ).loc Cert.OutProjFirstIdeal.main_v0_1)) (v2 : (c : Dev Cert.OutProjFirstIdeal.nD) → Buf (Elt Ideal) ((c.tc : Thread Cert.OutProjFirstIdeal.nD Cert.OutProjFirstIdeal.τ).loc Cert.OutProjFirstIdeal.main_v0_2)),
      θ_run (Cert.OutProjFirstIdeal.defs (F := Ideal)) (onTc (τ := Cert.OutProjFirstIdeal.τ) (Cert.OutProjFirstIdeal.main (F := Ideal))) ⟨m, fun _ => 0, g⟩ (fun r => ∀ c : Dev Cert.OutProjFirstIdeal.nD,
          r.2.mem ((c.tc : Thread Cert.OutProjFirstIdeal.nD Cert.OutProjFirstIdeal.τ).loc Cert.OutProjFirstIdeal.main_v0_0) = v0 c
          ∧ r.2.mem ((c.tc : Thread Cert.OutProjFirstIdeal.nD Cert.OutProjFirstIdeal.τ).loc Cert.OutProjFirstIdeal.main_v0_1) = v1 c
          ∧ r.2.mem ((c.tc : Thread Cert.OutProjFirstIdeal.nD Cert.OutProjFirstIdeal.τ).loc Cert.OutProjFirstIdeal.main_v0_2) = v2 c
          ∧ r.2.mem ((c.tc : Thread Cert.OutProjFirstIdeal.nD Cert.OutProjFirstIdeal.τ).loc Cert.OutProjFirstIdeal.main_arg0) = m ((c.tc : Thread Cert.OutProjFirstIdeal.nD Cert.OutProjFirstIdeal.τ).loc Cert.OutProjFirstIdeal.main_arg0)
          ∧ r.2.mem ((c.tc : Thread Cert.OutProjFirstIdeal.nD Cert.OutProjFirstIdeal.τ).loc Cert.OutProjFirstIdeal.main_arg1) = m ((c.tc : Thread Cert.OutProjFirstIdeal.nD Cert.OutProjFirstIdeal.τ).loc Cert.OutProjFirstIdeal.main_arg1)
          ∧ r.2.mem ((c.tc : Thread Cert.OutProjFirstIdeal.nD Cert.OutProjFirstIdeal.τ).loc Cert.OutProjFirstIdeal.main_arg2) = m ((c.tc : Thread Cert.OutProjFirstIdeal.nD Cert.OutProjFirstIdeal.τ).loc Cert.OutProjFirstIdeal.main_arg2)
          ∧ r.2.mem ((c.tc : Thread Cert.OutProjFirstIdeal.nD Cert.OutProjFirstIdeal.τ).loc Cert.OutProjFirstIdeal.main_arg3) = m ((c.tc : Thread Cert.OutProjFirstIdeal.nD Cert.OutProjFirstIdeal.τ).loc Cert.OutProjFirstIdeal.main_arg3)
          ∧ r.2.mem ((c.tc : Thread Cert.OutProjFirstIdeal.nD Cert.OutProjFirstIdeal.τ).loc Cert.OutProjFirstIdeal.main_arg4) = m ((c.tc : Thread Cert.OutProjFirstIdeal.nD Cert.OutProjFirstIdeal.τ).loc Cert.OutProjFirstIdeal.main_arg4)
          ∧ r.2.mem ((c.tc : Thread Cert.OutProjFirstIdeal.nD Cert.OutProjFirstIdeal.τ).loc Cert.OutProjFirstIdeal.main_arg5) = m ((c.tc : Thread Cert.OutProjFirstIdeal.nD Cert.OutProjFirstIdeal.τ).loc Cert.OutProjFirstIdeal.main_arg5))
      ∧ θ_run (Cert.OutProjFirstRefIdeal.defs (F := Ideal)) (onTc (τ := Cert.OutProjFirstRefIdeal.τ) (Cert.OutProjFirstRefIdeal.main (F := Ideal))) ⟨m', fun _ => 0, g'⟩ (fun r => ∀ c : Dev Cert.OutProjFirstRefIdeal.nD,
          r.2.mem ((c.tc : Thread Cert.OutProjFirstRefIdeal.nD Cert.OutProjFirstRefIdeal.τ).loc Cert.OutProjFirstRefIdeal.main_v7) = v0 c
          ∧ r.2.mem ((c.tc : Thread Cert.OutProjFirstRefIdeal.nD Cert.OutProjFirstRefIdeal.τ).loc Cert.OutProjFirstRefIdeal.main_v8) = v1 c
          ∧ r.2.mem ((c.tc : Thread Cert.OutProjFirstRefIdeal.nD Cert.OutProjFirstRefIdeal.τ).loc Cert.OutProjFirstRefIdeal.main_v11) = v2 c
          ∧ r.2.mem ((c.tc : Thread Cert.OutProjFirstRefIdeal.nD Cert.OutProjFirstRefIdeal.τ).loc Cert.OutProjFirstRefIdeal.main_arg0) = m' ((c.tc : Thread Cert.OutProjFirstRefIdeal.nD Cert.OutProjFirstRefIdeal.τ).loc Cert.OutProjFirstRefIdeal.main_arg0)
          ∧ r.2.mem ((c.tc : Thread Cert.OutProjFirstRefIdeal.nD Cert.OutProjFirstRefIdeal.τ).loc Cert.OutProjFirstRefIdeal.main_arg1) = m' ((c.tc : Thread Cert.OutProjFirstRefIdeal.nD Cert.OutProjFirstRefIdeal.τ).loc Cert.OutProjFirstRefIdeal.main_arg1)
          ∧ r.2.mem ((c.tc : Thread Cert.OutProjFirstRefIdeal.nD Cert.OutProjFirstRefIdeal.τ).loc Cert.OutProjFirstRefIdeal.main_arg2) = m' ((c.tc : Thread Cert.OutProjFirstRefIdeal.nD Cert.OutProjFirstRefIdeal.τ).loc Cert.OutProjFirstRefIdeal.main_arg2)
          ∧ r.2.mem ((c.tc : Thread Cert.OutProjFirstRefIdeal.nD Cert.OutProjFirstRefIdeal.τ).loc Cert.OutProjFirstRefIdeal.main_arg3) = m' ((c.tc : Thread Cert.OutProjFirstRefIdeal.nD Cert.OutProjFirstRefIdeal.τ).loc Cert.OutProjFirstRefIdeal.main_arg3)
          ∧ r.2.mem ((c.tc : Thread Cert.OutProjFirstRefIdeal.nD Cert.OutProjFirstRefIdeal.τ).loc Cert.OutProjFirstRefIdeal.main_arg4) = m' ((c.tc : Thread Cert.OutProjFirstRefIdeal.nD Cert.OutProjFirstRefIdeal.τ).loc Cert.OutProjFirstRefIdeal.main_arg4)
          ∧ r.2.mem ((c.tc : Thread Cert.OutProjFirstRefIdeal.nD Cert.OutProjFirstRefIdeal.τ).loc Cert.OutProjFirstRefIdeal.main_arg5) = m' ((c.tc : Thread Cert.OutProjFirstRefIdeal.nD Cert.OutProjFirstRefIdeal.τ).loc Cert.OutProjFirstRefIdeal.main_arg5))

def algebraic_MmResIdeal_MmResRefIdeal [hMmResIdeal : Cert.MmResIdeal.Facts] [hMmResRefIdeal : Cert.MmResRefIdeal.Facts] : Prop :=
  ∀ (m : (ℓ : Loc Cert.MmResIdeal.nD Cert.MmResIdeal.τ Cert.MmResIdeal.sig) → Buf (Elt Ideal) ℓ) (g : Dev Cert.MmResIdeal.nD → PrngReg)
    (m' : (ℓ : Loc Cert.MmResRefIdeal.nD Cert.MmResRefIdeal.τ Cert.MmResRefIdeal.sig) → Buf (Elt Ideal) ℓ) (g' : Dev Cert.MmResRefIdeal.nD → PrngReg), Pre_MmResIdeal m →
    (∀ c : Dev Cert.MmResIdeal.nD,
      m' ((c.tc : Thread Cert.MmResRefIdeal.nD Cert.MmResRefIdeal.τ).loc Cert.MmResRefIdeal.main_arg0) = m ((c.tc : Thread Cert.MmResIdeal.nD Cert.MmResIdeal.τ).loc Cert.MmResIdeal.main_arg0)
      ∧ m' ((c.tc : Thread Cert.MmResRefIdeal.nD Cert.MmResRefIdeal.τ).loc Cert.MmResRefIdeal.main_arg1) = m ((c.tc : Thread Cert.MmResIdeal.nD Cert.MmResIdeal.τ).loc Cert.MmResIdeal.main_arg1)
      ∧ m' ((c.tc : Thread Cert.MmResRefIdeal.nD Cert.MmResRefIdeal.τ).loc Cert.MmResRefIdeal.main_arg2) = m ((c.tc : Thread Cert.MmResIdeal.nD Cert.MmResIdeal.τ).loc Cert.MmResIdeal.main_arg2)
      ∧ m' ((c.tc : Thread Cert.MmResRefIdeal.nD Cert.MmResRefIdeal.τ).loc Cert.MmResRefIdeal.main_arg3) = m ((c.tc : Thread Cert.MmResIdeal.nD Cert.MmResIdeal.τ).loc Cert.MmResIdeal.main_arg3)
      ∧ m' ((c.tc : Thread Cert.MmResRefIdeal.nD Cert.MmResRefIdeal.τ).loc Cert.MmResRefIdeal.main_arg4) = m ((c.tc : Thread Cert.MmResIdeal.nD Cert.MmResIdeal.τ).loc Cert.MmResIdeal.main_arg4)) →
    ∃ (v0 : (c : Dev Cert.MmResIdeal.nD) → Buf (Elt Ideal) ((c.tc : Thread Cert.MmResIdeal.nD Cert.MmResIdeal.τ).loc Cert.MmResIdeal.main_v0_0)) (v1 : (c : Dev Cert.MmResIdeal.nD) → Buf (Elt Ideal) ((c.tc : Thread Cert.MmResIdeal.nD Cert.MmResIdeal.τ).loc Cert.MmResIdeal.main_v0_1)),
      θ_run (Cert.MmResIdeal.defs (F := Ideal)) (onTc (τ := Cert.MmResIdeal.τ) (Cert.MmResIdeal.main (F := Ideal))) ⟨m, fun _ => 0, g⟩ (fun r => ∀ c : Dev Cert.MmResIdeal.nD,
          r.2.mem ((c.tc : Thread Cert.MmResIdeal.nD Cert.MmResIdeal.τ).loc Cert.MmResIdeal.main_v0_0) = v0 c
          ∧ r.2.mem ((c.tc : Thread Cert.MmResIdeal.nD Cert.MmResIdeal.τ).loc Cert.MmResIdeal.main_v0_1) = v1 c
          ∧ r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
          ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
          ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2)
          ∧ r.2.mem ((c.tc : Thread Cert.MmResIdeal.nD Cert.MmResIdeal.τ).loc Cert.MmResIdeal.main_arg3) = m ((c.tc : Thread Cert.MmResIdeal.nD Cert.MmResIdeal.τ).loc Cert.MmResIdeal.main_arg3)
          ∧ r.2.mem ((c.tc : Thread Cert.MmResIdeal.nD Cert.MmResIdeal.τ).loc Cert.MmResIdeal.main_arg4) = m ((c.tc : Thread Cert.MmResIdeal.nD Cert.MmResIdeal.τ).loc Cert.MmResIdeal.main_arg4))
      ∧ θ_run (Cert.MmResRefIdeal.defs (F := Ideal)) (onTc (τ := Cert.MmResRefIdeal.τ) (Cert.MmResRefIdeal.main (F := Ideal))) ⟨m', fun _ => 0, g'⟩ (fun r => ∀ c : Dev Cert.MmResRefIdeal.nD,
          r.2.mem ((c.tc : Thread Cert.MmResRefIdeal.nD Cert.MmResRefIdeal.τ).loc Cert.MmResRefIdeal.main_v6) = v0 c
          ∧ r.2.mem ((c.tc : Thread Cert.MmResRefIdeal.nD Cert.MmResRefIdeal.τ).loc Cert.MmResRefIdeal.main_v8) = v1 c
          ∧ r.2.mem ((c.tc : Thread Cert.MmResRefIdeal.nD Cert.MmResRefIdeal.τ).loc Cert.MmResRefIdeal.main_arg0) = m' ((c.tc : Thread Cert.MmResRefIdeal.nD Cert.MmResRefIdeal.τ).loc Cert.MmResRefIdeal.main_arg0)
          ∧ r.2.mem ((c.tc : Thread Cert.MmResRefIdeal.nD Cert.MmResRefIdeal.τ).loc Cert.MmResRefIdeal.main_arg1) = m' ((c.tc : Thread Cert.MmResRefIdeal.nD Cert.MmResRefIdeal.τ).loc Cert.MmResRefIdeal.main_arg1)
          ∧ r.2.mem ((c.tc : Thread Cert.MmResRefIdeal.nD Cert.MmResRefIdeal.τ).loc Cert.MmResRefIdeal.main_arg2) = m' ((c.tc : Thread Cert.MmResRefIdeal.nD Cert.MmResRefIdeal.τ).loc Cert.MmResRefIdeal.main_arg2)
          ∧ r.2.mem ((c.tc : Thread Cert.MmResRefIdeal.nD Cert.MmResRefIdeal.τ).loc Cert.MmResRefIdeal.main_arg3) = m' ((c.tc : Thread Cert.MmResRefIdeal.nD Cert.MmResRefIdeal.τ).loc Cert.MmResRefIdeal.main_arg3)
          ∧ r.2.mem ((c.tc : Thread Cert.MmResRefIdeal.nD Cert.MmResRefIdeal.τ).loc Cert.MmResRefIdeal.main_arg4) = m' ((c.tc : Thread Cert.MmResRefIdeal.nD Cert.MmResRefIdeal.τ).loc Cert.MmResRefIdeal.main_arg4))

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)) →
    ∃ (v0 : (c : Dev Cert.SconvIdeal.nD) → Buf (Elt Ideal) ((c.tc : Thread Cert.SconvIdeal.nD Cert.SconvIdeal.τ).loc Cert.SconvIdeal.main_v0)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v0) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v30) = v0 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1))

def algebraic_RegroupIdeal_RegroupRefIdeal [hRegroupIdeal : Cert.RegroupIdeal.Facts] [hRegroupRefIdeal : Cert.RegroupRefIdeal.Facts] : Prop :=
  ∀ (m : (ℓ : Loc Cert.RegroupIdeal.nD Cert.RegroupIdeal.τ Cert.RegroupIdeal.sig) → Buf (Elt Ideal) ℓ) (g : Dev Cert.RegroupIdeal.nD → PrngReg)
    (m' : (ℓ : Loc Cert.RegroupRefIdeal.nD Cert.RegroupRefIdeal.τ Cert.RegroupRefIdeal.sig) → Buf (Elt Ideal) ℓ) (g' : Dev Cert.RegroupRefIdeal.nD → PrngReg), Pre_RegroupIdeal m →
    (∀ c : Dev Cert.RegroupIdeal.nD,
      m' ((c.tc : Thread Cert.RegroupRefIdeal.nD Cert.RegroupRefIdeal.τ).loc Cert.RegroupRefIdeal.main_arg0) = m ((c.tc : Thread Cert.RegroupIdeal.nD Cert.RegroupIdeal.τ).loc Cert.RegroupIdeal.main_arg0)
      ∧ m' ((c.tc : Thread Cert.RegroupRefIdeal.nD Cert.RegroupRefIdeal.τ).loc Cert.RegroupRefIdeal.main_arg1) = m ((c.tc : Thread Cert.RegroupIdeal.nD Cert.RegroupIdeal.τ).loc Cert.RegroupIdeal.main_arg1)) →
    ∃ (v0 : (c : Dev Cert.RegroupIdeal.nD) → Buf (Elt Ideal) ((c.tc : Thread Cert.RegroupIdeal.nD Cert.RegroupIdeal.τ).loc Cert.RegroupIdeal.main_v2)),
      θ_run (Cert.RegroupIdeal.defs (F := Ideal)) (onTc (τ := Cert.RegroupIdeal.τ) (Cert.RegroupIdeal.main (F := Ideal))) ⟨m, fun _ => 0, g⟩ (fun r => ∀ c : Dev Cert.RegroupIdeal.nD,
          r.2.mem ((c.tc : Thread Cert.RegroupIdeal.nD Cert.RegroupIdeal.τ).loc Cert.RegroupIdeal.main_v2) = v0 c
          ∧ r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0)
          ∧ r.2.mem ((c.tc : Thread Cert.RegroupIdeal.nD Cert.RegroupIdeal.τ).loc Cert.RegroupIdeal.main_arg1) = m ((c.tc : Thread Cert.RegroupIdeal.nD Cert.RegroupIdeal.τ).loc Cert.RegroupIdeal.main_arg1))
      ∧ θ_run (Cert.RegroupRefIdeal.defs (F := Ideal)) (onTc (τ := Cert.RegroupRefIdeal.τ) (Cert.RegroupRefIdeal.main (F := Ideal))) ⟨m', fun _ => 0, g'⟩ (fun r => ∀ c : Dev Cert.RegroupRefIdeal.nD,
          r.2.mem ((c.tc : Thread Cert.RegroupRefIdeal.nD Cert.RegroupRefIdeal.τ).loc Cert.RegroupRefIdeal.main_v9) = v0 c
          ∧ r.2.mem ((c.tc : Thread Cert.RegroupRefIdeal.nD Cert.RegroupRefIdeal.τ).loc Cert.RegroupRefIdeal.main_arg0) = m' ((c.tc : Thread Cert.RegroupRefIdeal.nD Cert.RegroupRefIdeal.τ).loc Cert.RegroupRefIdeal.main_arg0)
          ∧ r.2.mem ((c.tc : Thread Cert.RegroupRefIdeal.nD Cert.RegroupRefIdeal.τ).loc Cert.RegroupRefIdeal.main_arg1) = m' ((c.tc : Thread Cert.RegroupRefIdeal.nD Cert.RegroupRefIdeal.τ).loc Cert.RegroupRefIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hFfnUp : Cert.FfnUp.Facts) (hFfnUpIdeal : Cert.FfnUpIdeal.Facts) (hFfnUpFirst : Cert.FfnUpFirst.Facts) (hFfnUpFirstIdeal : Cert.FfnUpFirstIdeal.Facts) (hOutProj : Cert.OutProj.Facts) (hOutProjIdeal : Cert.OutProjIdeal.Facts) (hOutProjFirst : Cert.OutProjFirst.Facts) (hOutProjFirstIdeal : Cert.OutProjFirstIdeal.Facts) (hMmRes : Cert.MmRes.Facts) (hMmResIdeal : Cert.MmResIdeal.Facts) (hSconv : Cert.Sconv.Facts) (hSconvIdeal : Cert.SconvIdeal.Facts) (hRegroup : Cert.Regroup.Facts) (hRegroupIdeal : Cert.RegroupIdeal.Facts) (hInProjRefIdeal : Cert.InProjRefIdeal.Facts) (hFfnUpRefIdeal : Cert.FfnUpRefIdeal.Facts) (hFfnUpFirstRefIdeal : Cert.FfnUpFirstRefIdeal.Facts) (hOutProjRefIdeal : Cert.OutProjRefIdeal.Facts) (hOutProjFirstRefIdeal : Cert.OutProjFirstRefIdeal.Facts) (hMmResRefIdeal : Cert.MmResRefIdeal.Facts) (hSconvRefIdeal : Cert.SconvRefIdeal.Facts) (hRegroupRefIdeal : Cert.RegroupRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_FfnUp (hFfnUp := hFfnUp)
    ∧ quiescent_FfnUpIdeal (hFfnUpIdeal := hFfnUpIdeal)
    ∧ quiescent_FfnUpFirst (hFfnUpFirst := hFfnUpFirst)
    ∧ quiescent_FfnUpFirstIdeal (hFfnUpFirstIdeal := hFfnUpFirstIdeal)
    ∧ quiescent_OutProj (hOutProj := hOutProj)
    ∧ quiescent_OutProjIdeal (hOutProjIdeal := hOutProjIdeal)
    ∧ quiescent_OutProjFirst (hOutProjFirst := hOutProjFirst)
    ∧ quiescent_OutProjFirstIdeal (hOutProjFirstIdeal := hOutProjFirstIdeal)
    ∧ quiescent_MmRes (hMmRes := hMmRes)
    ∧ quiescent_MmResIdeal (hMmResIdeal := hMmResIdeal)
    ∧ quiescent_Sconv (hSconv := hSconv)
    ∧ quiescent_SconvIdeal (hSconvIdeal := hSconvIdeal)
    ∧ quiescent_Regroup (hRegroup := hRegroup)
    ∧ quiescent_RegroupIdeal (hRegroupIdeal := hRegroupIdeal)
    ∧ quiescent_InProjRefIdeal (hInProjRefIdeal := hInProjRefIdeal)
    ∧ quiescent_FfnUpRefIdeal (hFfnUpRefIdeal := hFfnUpRefIdeal)
    ∧ quiescent_FfnUpFirstRefIdeal (hFfnUpFirstRefIdeal := hFfnUpFirstRefIdeal)
    ∧ quiescent_OutProjRefIdeal (hOutProjRefIdeal := hOutProjRefIdeal)
    ∧ quiescent_OutProjFirstRefIdeal (hOutProjFirstRefIdeal := hOutProjFirstRefIdeal)
    ∧ quiescent_MmResRefIdeal (hMmResRefIdeal := hMmResRefIdeal)
    ∧ quiescent_SconvRefIdeal (hSconvRefIdeal := hSconvRefIdeal)
    ∧ quiescent_RegroupRefIdeal (hRegroupRefIdeal := hRegroupRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ preserves_FfnUp_FfnUpIdeal
    ∧ preserves_FfnUpFirst_FfnUpFirstIdeal
    ∧ preserves_OutProj_OutProjIdeal
    ∧ preserves_OutProjFirst_OutProjFirstIdeal
    ∧ preserves_MmRes_MmResIdeal
    ∧ preserves_Sconv_SconvIdeal
    ∧ preserves_Regroup_RegroupIdeal
    ∧ algebraic_InProjIdeal_InProjRefIdeal (hInProjIdeal := hInProjIdeal) (hInProjRefIdeal := hInProjRefIdeal)
    ∧ algebraic_FfnUpIdeal_FfnUpRefIdeal (hFfnUpIdeal := hFfnUpIdeal) (hFfnUpRefIdeal := hFfnUpRefIdeal)
    ∧ algebraic_FfnUpFirstIdeal_FfnUpFirstRefIdeal (hFfnUpFirstIdeal := hFfnUpFirstIdeal) (hFfnUpFirstRefIdeal := hFfnUpFirstRefIdeal)
    ∧ algebraic_OutProjIdeal_OutProjRefIdeal (hOutProjIdeal := hOutProjIdeal) (hOutProjRefIdeal := hOutProjRefIdeal)
    ∧ algebraic_OutProjFirstIdeal_OutProjFirstRefIdeal (hOutProjFirstIdeal := hOutProjFirstIdeal) (hOutProjFirstRefIdeal := hOutProjFirstRefIdeal)
    ∧ algebraic_MmResIdeal_MmResRefIdeal (hMmResIdeal := hMmResIdeal) (hMmResRefIdeal := hMmResRefIdeal)
    ∧ algebraic_SconvIdeal_SconvRefIdeal (hSconvIdeal := hSconvIdeal) (hSconvRefIdeal := hSconvRefIdeal)
    ∧ algebraic_RegroupIdeal_RegroupRefIdeal (hRegroupIdeal := hRegroupIdeal) (hRegroupRefIdeal := hRegroupRefIdeal)
-- ==== Pre_finite.lean ====
abbrev S16384x11776 : Shape := ⟨2, ![16384, 11776]⟩
abbrev S64 : Shape := ⟨1, ![64]⟩
abbrev S16 : Shape := ⟨1, ![16]⟩
abbrev S_ : Shape := ⟨0, ![]⟩

class Facts : Prop where
  bcast_S_S16384x11776 : S_.BroadcastsInDim S16384x11776 (![] : Fin 0 → Fin S16384x11776.rank)
  bcast_S_S64 : S_.BroadcastsInDim S64 (![] : Fin 0 → Fin S64.rank)
  bcast_S_S16 : S_.BroadcastsInDim S16 (![] : Fin 0 → Fin S16.rank)

variable [Facts]

def fn {F : FTy → Type} [FloatOps F] (main_arg0 : FVec F S16384x11776 .f32) (main_arg1 : FVec F S64 .f32) (main_arg2 : FVec F S64 .f32) (main_arg3 : FVec F S16 .f32) : IVec S16384x11776 1 × IVec S64 1 × IVec S64 1 × IVec S16 1 :=
  let main_v0 : FVec F S16384x11776 .f32 := Host.absf main_arg0
  let main_cst : FVec F S_ .f32 := constant S_ .f32 0x7F800000#32
  let main_v1 : FVec F S16384x11776 .f32 := broadcastInDim S16384x11776 ![] bcast_S_S16384x11776 main_cst
  let main_v2 : IVec S16384x11776 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S16384x11776 : Shape := ⟨2, ![16384, 11776]⟩
abbrev S64 : Shape := ⟨1, ![64]⟩
abbrev S16 : Shape := ⟨1, ![16]⟩
abbrev S16x128 : Shape := ⟨2, ![16, 128]⟩
abbrev S2048 : Shape := ⟨1, ![2048]⟩
abbrev S8x256 : Shape := ⟨2, ![8, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x1024 : Shape := ⟨2, ![16384, 1024]⟩
abbrev S512x1024 : Shape := ⟨2, ![512, 1024]⟩
abbrev S512x128 : Shape := ⟨2, ![512, 128]⟩
abbrev S128x128 : Shape := ⟨2, ![128, 128]⟩
abbrev S640x128 : Shape := ⟨2, ![640, 128]⟩
abbrev S640 : Shape := ⟨1, ![640]⟩
abbrev S640x1 : Shape := ⟨2, ![640, 1]⟩
abbrev S128x640 : Shape := ⟨2, ![128, 640]⟩
abbrev S256x256 : Shape := ⟨2, ![256, 256]⟩
abbrev S128x1 : Shape := ⟨2, ![128, 1]⟩
abbrev S128x256 : Shape := ⟨2, ![128, 256]⟩
abbrev S256x128 : Shape := ⟨2, ![256, 128]⟩
abbrev S1x256 : Shape := ⟨2, ![1, 256]⟩
abbrev S256 : Shape := ⟨1, ![256]⟩
abbrev S64x256 : Shape := ⟨2, ![64, 256]⟩
abbrev S64x128 : Shape := ⟨2, ![64, 128]⟩

abbrev nBuf : Space → Nat
  | .hbm => 16
  | .vmem => 15
  | .smem => 0
  | _ => 0

abbrev bufTy : (tb : Table) → Fin (tcTables nBuf tb) → BufTy
  | .hbm, ⟨0, _⟩ => ⟨S16384x11776, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S16x128, .f32⟩
  | .hbm, ⟨5, _⟩ => ⟨S2048, .f32⟩
  | .hbm, ⟨6, _⟩ => ⟨S8x256, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S8x256, .f32⟩
  | .local _ .vmem, ⟨13, _⟩ => ⟨S512x1024, .bf16⟩
  | .local _ .vmem, ⟨14, _⟩ => ⟨S512x1024, .bf16⟩
  | _, _ => ⟨S16384x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c88_i32 : BitVec 32 := 88#32
  let c0_i32 : BitVec 32 := 0#32
  ![arg0.toNat, c88_i32.toNat]

def cc0_transform_2 (i : grid0.Coords) : Fin 2 → Nat :=
  let arg0 : BitVec 32 := BitVec.ofNat 32 (i 0).val
  let c89_i32 : BitVec 32 := 89#32
  let c0_i32 : BitVec 32 := 0#32
  ![arg0.toNat, c89_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c88_i32 : BitVec 32 := 88#32
  let c0_i32_0 : BitVec 32 := 0#32
  ![v2.toNat, c88_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c89_i32 : BitVec 32 := 89#32
  let c0_i32_0 : BitVec 32 := 0#32
  ![v2.toNat, c89_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.sqrt 64)⁻¹ * (Real.log 2)⁻¹ : ℝ) : EReal)
  | _ => none
-- ==== ReferenceIdeal.lean ====
abbrev S16384x11776 : Shape := ⟨2, ![16384, 11776]⟩
abbrev S64 : Shape := ⟨1, ![64]⟩
abbrev S16 : Shape := ⟨1, ![16]⟩
abbrev S16384x1024 : Shape := ⟨2, ![16384, 1024]⟩
abbrev S2x8192x16x64 : Shape := ⟨4, ![2, 8192, 16, 64]⟩
abbrev S_ : Shape := ⟨0, ![]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S16384x128 : Shape := ⟨2, ![16384, 128]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x64x128x2x8x64 : Shape := ⟨6, ![2, 64, 128, 2, 8, 64]⟩
abbrev S2x8320x2x64 : Shape := ⟨4, ![2, 8320, 2, 64]⟩
abbrev S2x65x128x2x64 : Shape := ⟨5, ![2, 65, 128, 2, 64]⟩
abbrev S2x64x128x2x64 : Shape := ⟨5, ![2, 64, 128, 2, 64]⟩
abbrev S2x64x256x2x64 : Shape := ⟨5, ![2, 64, 256, 2, 64]⟩
abbrev S2x2x64x256x128x8 : Shape := ⟨6, ![2, 2, 64, 256, 128, 8]⟩
abbrev S2x2x8x64x128x256 : Shape := ⟨6, ![2, 2, 8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S64x1x1 : Shape := ⟨3, ![64, 1, 1]⟩
abbrev S128x256 : Shape := ⟨2, ![128, 256]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x8 : Shape := ⟨2, ![2, 8]⟩
abbrev S1x2x8x1x1x1 : Shape := ⟨6, ![1, 2, 8, 1, 1, 1]⟩
abbrev S2x2x8x64x128x1 : Shape := ⟨6, ![2, 2, 8, 64, 128, 1]⟩
abbrev S2x2x8x64x128x257 : Shape := ⟨6, ![2, 2, 8, 64, 128, 257]⟩
abbrev S2x2x8x64x128 : Shape := ⟨5, ![2, 2, 8, 64, 128]⟩
abbrev S2x64x2x64x8x128 : Shape := ⟨6, ![2, 64, 2, 64, 8, 128]⟩

abbrev nBuf : Space → Nat
  | .hbm => 123
  | .vmem => 0
  | .smem => 0
  | _ => 0

abbrev bufTy : (tb : Table) → Fin (tcTables nBuf tb) → BufTy
  | .hbm, ⟨0, _⟩ => ⟨S16384x11776, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S16384x1024, .f32⟩
  | .hbm, ⟨5, _⟩ => ⟨S2x8192x16x64, .f32⟩
  | .hbm, ⟨6, _⟩ => ⟨S2x8192x16x64, .f32⟩
  | .hbm, ⟨7, _⟩ => ⟨S_, .f32⟩
  | .hbm, ⟨8, _⟩ => ⟨S2x8192x16, .f32⟩
  | .hbm, ⟨9, _⟩ => ⟨S2x8192x16x1, .f32⟩
  | .hbm, ⟨10, _⟩ => ⟨S_, .f32⟩
  | .hbm, ⟨11, _⟩ => ⟨S2x8192x16x1, .f32⟩
  | .hbm, ⟨12, _⟩ => ⟨S2x8192x16x1, .f32⟩
  | .hbm, ⟨13, _⟩ => ⟨S_, .f32⟩
  | .hbm, ⟨14, _⟩ => ⟨S2x8192x16x1, .f32⟩
  | .hbm, ⟨15, _⟩ => ⟨S2x8192x16x1, .f32⟩
  | .hbm, ⟨16, _⟩ => ⟨S2x8192x16x1, .f32⟩
  | .hbm, ⟨17, _⟩ => ⟨S2x8192x16x64, .f32⟩
  | .hbm, ⟨18, _⟩ => ⟨S2x8192x16x64, .f32⟩
  | .hbm, ⟨19, _⟩ => ⟨S1x1x1x64, .f32⟩
  | .hbm, ⟨20, _⟩ => ⟨S2x8192x16x64, .f32⟩
  | .hbm, ⟨21, _⟩ => ⟨S2x8192x16x64, .f32⟩
  | .hbm, ⟨22, _⟩ => ⟨S16384x128, .f32⟩
  | .hbm, ⟨23, _⟩ => ⟨S2x8192x2x64, .f32⟩
  | .hbm, ⟨24, _⟩ => ⟨S2x8192x2x64, .f32⟩
  | .hbm, ⟨25, _⟩ => ⟨S_, .f32⟩
  | .hbm, ⟨26, _⟩ => ⟨S2x8192x2, .f32⟩
  | .hbm, ⟨27, _⟩ => ⟨S2x8192x2x1, .f32⟩
  | .hbm, ⟨28, _⟩ => ⟨S_, .f32⟩
  | .hbm, ⟨29, _⟩ => ⟨S2x8192x2x1, .f32⟩
  | .hbm, ⟨30, _⟩ => ⟨S2x8192x2x1, .f32⟩
  | .hbm, ⟨31, _⟩ => ⟨S_, .f32⟩
  | .hbm, ⟨32, _⟩ => ⟨S2x8192x2x1, .f32⟩
  | .hbm, ⟨33, _⟩ => ⟨S2x8192x2x1, .f32⟩
  | .hbm, ⟨34, _⟩ => ⟨S2x8192x2x1, .f32⟩
  | .hbm, ⟨35, _⟩ => ⟨S2x8192x2x64, .f32⟩
  | .hbm, ⟨36, _⟩ => ⟨S2x8192x2x64, .f32⟩
  | .hbm, ⟨37, _⟩ => ⟨S1x1x1x64, .f32⟩
  | .hbm, ⟨38, _⟩ => ⟨S2x8192x2x64, .f32⟩
  | .hbm, ⟨39, _⟩ => ⟨S2x8192x2x64, .f32⟩
  | .hbm, ⟨40, _⟩ => ⟨S16384x128, .f32⟩
  | .hbm, ⟨41, _⟩ => ⟨S2x8192x2x64, .f32⟩
  | .hbm, ⟨42, _⟩ => ⟨S2x64x128x2x8x64, .f32⟩
  | .hbm, ⟨43, _⟩ => ⟨S_, .i32⟩
  | .hbm, ⟨44, _⟩ => ⟨S_, .f32⟩
  | .hbm, ⟨45, _⟩ => ⟨S2x8320x2x64, .f32⟩
  | .hbm, ⟨46, _⟩ => ⟨S2x65x128x2x64, .f32⟩
  | .hbm, ⟨47, _⟩ => ⟨S_, .i32⟩
  | .hbm, ⟨48, _⟩ => ⟨S_, .f32⟩
  | .hbm, ⟨49, _⟩ => ⟨S2x8320x2x64, .f32⟩
  | .hbm, ⟨50, _⟩ => ⟨S2x65x128x2x64, .f32⟩
  | .hbm, ⟨51, _⟩ => ⟨S2x64x128x2x64, .f32⟩
  | .hbm, ⟨52, _⟩ => ⟨S2x64x128x2x64, .f32⟩
  | .hbm, ⟨53, _⟩ => ⟨S2x64x256x2x64, .f32⟩
  | .hbm, ⟨54, _⟩ => ⟨S2x64x128x2x64, .f32⟩
  | .hbm, ⟨55, _⟩ => ⟨S2x64x128x2x64, .f32⟩
  | .hbm, ⟨56, _⟩ => ⟨S2x64x256x2x64, .f32⟩
  | .hbm, ⟨57, _⟩ => ⟨S2x2x64x256x128x8, .f32⟩
  | .hbm, ⟨58, _⟩ => ⟨S2x2x8x64x128x256, .f32⟩
  | .hbm, ⟨59, _⟩ => ⟨S_, .f32⟩
  | .hbm, ⟨60, _⟩ => ⟨S2x2x8x64x128x256, .f32⟩
  | .hbm, ⟨61, _⟩ => ⟨S2x2x8x64x128x256, .f32⟩
  | .hbm, ⟨62, _⟩ => ⟨S128, .i32⟩
  | .hbm, ⟨63, _⟩ => ⟨S128x1, .i32⟩
  | .hbm, ⟨64, _⟩ => ⟨S_, .i32⟩
  | .hbm, ⟨65, _⟩ => ⟨S128x1, .i32⟩
  | .hbm, ⟨66, _⟩ => ⟨S128x1, .i32⟩
  | .hbm, ⟨67, _⟩ => ⟨S256, .i32⟩
  | .hbm, ⟨68, _⟩ => ⟨S1x256, .i32⟩
  | .hbm, ⟨69, _⟩ => ⟨S64, .i32⟩
  | .hbm, ⟨70, _⟩ => ⟨S64x1x1, .i32⟩
  | .hbm, ⟨71, _⟩ => ⟨S128x256, .i32⟩
  | .hbm, ⟨72, _⟩ => ⟨S128x256, .i32⟩
  | .hbm, ⟨73, _⟩ => ⟨S128x256, .i1⟩
  | .hbm, ⟨74, _⟩ => ⟨S_, .i32⟩
  | .hbm, ⟨75, _⟩ => ⟨S128x1, .i32⟩
  | .hbm, ⟨76, _⟩ => ⟨S128x1, .i32⟩
  | .hbm, ⟨77, _⟩ => ⟨S128x256, .i32⟩
  | .hbm, ⟨78, _⟩ => ⟨S128x256, .i32⟩
  | .hbm, ⟨79, _⟩ => ⟨S128x256, .i1⟩
  | .hbm, ⟨80, _⟩ => ⟨S128x256, .i1⟩
  | .hbm, ⟨81, _⟩ => ⟨S_, .i32⟩
  | .hbm, ⟨82, _⟩ => ⟨S64x1x1, .i32⟩
  | .hbm, ⟨83, _⟩ => ⟨S64x1x1, .i1⟩
  | .hbm, ⟨84, _⟩ => ⟨S_, .i32⟩
  | .hbm, ⟨85, _⟩ => ⟨S1x256, .i32⟩
  | .hbm, ⟨86, _⟩ => ⟨S1x256, .i1⟩
  | .hbm, ⟨87, _⟩ => ⟨S1x1x256, .i1⟩
  | .hbm, ⟨88, _⟩ => ⟨S64x1x256, .i1⟩
  | .hbm, ⟨89, _⟩ => ⟨S64x1x256, .i1⟩
  | .hbm, ⟨90, _⟩ => ⟨S64x1x256, .i1⟩
  | .hbm, ⟨91, _⟩ => ⟨S1x128x256, .i1⟩
  | .hbm, ⟨92, _⟩ => ⟨S64x128x256, .i1⟩
  | .hbm, ⟨93, _⟩ => ⟨S64x128x256, .i1⟩
  | .hbm, ⟨94, _⟩ => ⟨S64x128x256, .i1⟩
  | .hbm, ⟨95, _⟩ => ⟨S_, .f32⟩
  | .hbm, ⟨96, _⟩ => ⟨S_, .f32⟩
  | .hbm, ⟨97, _⟩ => ⟨S2x2x8x64x128x256, .i1⟩
  | .hbm, ⟨98, _⟩ => ⟨S2x2x8x64x128x256, .f32⟩
  | .hbm, ⟨99, _⟩ => ⟨S2x2x8x64x128x256, .f32⟩
  | .hbm, ⟨100, _⟩ => ⟨S2x8, .f32⟩
  | .hbm, ⟨101, _⟩ => ⟨S1x2x8x1x1x1, .f32⟩
  | .hbm, ⟨102, _⟩ => ⟨S2x2x8x64x128x1, .f32⟩
  | .hbm, ⟨103, _⟩ => ⟨S2x2x8x64x128x257, .f32⟩
  | .hbm, ⟨104, _⟩ => ⟨S_, .f32⟩
  | .hbm, ⟨105, _⟩ => ⟨S2x2x8x64x128, .f32⟩
  | .hbm, ⟨106, _⟩ => ⟨S_, .f32⟩
  | .hbm, ⟨107, _⟩ => ⟨S2x2x8x64x128, .f32⟩
  | .hbm, ⟨108, _⟩ => ⟨S2x2x8x64x128, .f32⟩
  | .hbm, ⟨109, _⟩ => ⟨S2x2x8x64x128x1, .f32⟩
  | .hbm, ⟨110, _⟩ => ⟨S2x2x8x64x128x257, .f32⟩
  | .hbm, ⟨111, _⟩ => ⟨S2x2x8x64x128x257, .f32⟩
  | .hbm, ⟨112, _⟩ => ⟨S2x2x8x64x128x257, .f32⟩
  | .hbm, ⟨113, _⟩ => ⟨S_, .f32⟩
  | .hbm, ⟨114, _⟩ => ⟨S2x2x8x64x128, .f32⟩
  | .hbm, ⟨115, _⟩ => ⟨S2x2x8x64x128x1, .f32⟩
  | .hbm, ⟨116, _⟩ => ⟨S2x2x8x64x128x257, .f32⟩
  | .hbm, ⟨117, _⟩ => ⟨S2x2x8x64x128x257, .f32⟩
  | .hbm, ⟨118, _⟩ => ⟨S2x2x8x64x128x256, .f32⟩
  | .hbm, ⟨119, _⟩ => ⟨S2x64x2x64x8x128, .f32⟩
  | .hbm, ⟨120, _⟩ => ⟨S2x64x128x2x8x64, .f32⟩
  | .hbm, ⟨121, _⟩ => ⟨S16384x1024, .f32⟩
  | .hbm, ⟨122, _⟩ => ⟨S16384x1024, .bf16⟩
  | _, _ => ⟨S16384x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_call1_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_9 : Ref sig .tc := ⟨.hbm, 81, rfl⟩
abbrev main_v64 : Ref sig .tc := ⟨.hbm, 82, rfl⟩
abbrev main_v65 : Ref sig .tc := ⟨.hbm, 83, rfl⟩
abbrev main_c_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== InProj.lean ====
abbrev S16384x4096 : Shape := ⟨2, ![16384, 4096]⟩
abbrev S2x11776x4096 : Shape := ⟨3, ![2, 11776, 4096]⟩
abbrev S16384x11776 : Shape := ⟨2, ![16384, 11776]⟩
abbrev S2048x4096 : Shape := ⟨2, ![2048, 4096]⟩
abbrev S1x512x4096 : Shape := ⟨3, ![1, 512, 4096]⟩
abbrev S2048x512 : Shape := ⟨2, ![2048, 512]⟩
abbrev S2048x128 : Shape := ⟨2, ![2048, 128]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S512x4096 : Shape := ⟨2, ![512, 4096]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2x11776x4096, .bf16⟩
  | .hbm, ⟨2, _⟩ => ⟨S16384x11776, .f32⟩
  | .local _ .vmem, ⟨0, _⟩ => ⟨S2048x4096, .bf16⟩
  | .local _ .vmem, ⟨1, _⟩ => ⟨S2048x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S2048x512, .f32⟩
  | .local _ .vmem, ⟨5, _⟩ => ⟨S2048x512, .f32⟩
  | .local _ .vmem, ⟨6, _⟩ => ⟨S2048x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 23], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v18 : BitVec 32 := Scalar.addi c0_i32_9 c8_i32
  let c1_i32 : BitVec 32 := 1#32
  ⟨c0_i32_9, v18, c1_i32⟩
def k0_mult1 (k0_t1 : Fin k0_t1_loop.trips) : BitVec 32 :=
  let c0_i32_9 : BitVec 32 := 0#32
  let c1_i32 : BitVec 32 := 1#32
  let arg6 : BitVec 32 := Scf.iv c0_i32_9 c1_i32 k0_t1
  let c256_i32 : BitVec 32 := 256#32
  let v19 : BitVec 32 := Scalar.muli arg6 c256_i32
  v19
def k0_off1 (k0_t1 : Fin k0_t1_loop.trips) : Fin 2 → Nat :=
  let c0_i32_9 : BitVec 32 := 0#32
  let c1_i32 : BitVec 32 := 1#32
  let arg6 : BitVec 32 := Scf.iv c0_i32_9 c1_i32 k0_t1
  let c256_i32 : BitVec 32 := 256#32
  let v19 : BitVec 32 := Scalar.muli arg6 c256_i32
  let v20 : BitVec 32 := v19
  let v21 : Index := Scalar.indexCast v20
  let c0_11 : Index := 0#32
  ![v21.toNat, 0]
def k0_off2 (k0_t1 : Fin k0_t1_loop.trips) : Fin 2 → Nat :=
  let c0_i32_9 : BitVec 32 := 0#32
  let c1_i32 : BitVec 32 := 1#32
  let arg6 : BitVec 32 := Scf.iv c0_i32_9 c1_i32 k0_t1
  let c256_i32 : BitVec 32 := 256#32
  let v19 : BitVec 32 := Scalar.muli arg6 c256_i32
  let v20 : BitVec 32 := v19
  let v34 : Index := Scalar.indexCast v20
  let c0_15 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUp.lean ====
abbrev S16384x4096 : Shape := ⟨2, ![16384, 4096]⟩
abbrev S4096x11264 : Shape := ⟨2, ![4096, 11264]⟩
abbrev S1024x11264 : Shape := ⟨2, ![1024, 11264]⟩
abbrev S16384x11264 : Shape := ⟨2, ![16384, 11264]⟩
abbrev S1024x4096 : Shape := ⟨2, ![1024, 4096]⟩
abbrev S4096x512 : Shape := ⟨2, ![4096, 512]⟩
abbrev S1024x512 : Shape := ⟨2, ![1024, 512]⟩
abbrev S1024x128 : Shape := ⟨2, ![1024, 128]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 5
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S1024x11264, .bf16⟩
  | .hbm, ⟨4, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg0 : BitVec 32 := BitVec.ofNat 32 (i 0).val
  let c15_i32 : BitVec 32 := 15#32
  let v0 : BitVec 1 := Scalar.cmpi .slt arg0 c15_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_21 : BitVec 32 := 0#32
  let c4_i32 : BitVec 32 := 4#32
  let v46 : BitVec 32 := Scalar.addi c0_i32_21 c4_i32
  let c1_i32 : BitVec 32 := 1#32
  ⟨c0_i32_21, v46, c1_i32⟩
def k0_mult1 (k0_t1 : Fin k0_t1_loop.trips) : BitVec 32 :=
  let c0_i32_21 : BitVec 32 := 0#32
  let c1_i32 : BitVec 32 := 1#32
  let arg8 : BitVec 32 := Scf.iv c0_i32_21 c1_i32 k0_t1
  let c256_i32 : BitVec 32 := 256#32
  let v47 : BitVec 32 := Scalar.muli arg8 c256_i32
  v47
def k0_off1 (k0_t1 : Fin k0_t1_loop.trips) : Fin 2 → Nat :=
  let c0_i32_21 : BitVec 32 := 0#32
  let c1_i32 : BitVec 32 := 1#32
  let arg8 : BitVec 32 := Scf.iv c0_i32_21 c1_i32 k0_t1
  let c256_i32 : BitVec 32 := 256#32
  let v47 : BitVec 32 := Scalar.muli arg8 c256_i32
  let v48 : BitVec 32 := v47
  let v49 : Index := Scalar.indexCast v48
  let c0_23 : Index := 0#32
  ![v49.toNat, 0]
def k0_off2 (k0_t1 : Fin k0_t1_loop.trips) : Fin 2 → Nat :=
  let c0_i32_21 : BitVec 32 := 0#32
  let c1_i32 : BitVec 32 := 1#32
  let arg8 : BitVec 32 := Scf.iv c0_i32_21 c1_i32 k0_t1
  let c256_i32 : BitVec 32 := 256#32
  let v47 : BitVec 32 := Scalar.muli arg8 c256_i32
  let v48 : BitVec 32 := v47
  let v62 : Index := Scalar.indexCast v48
  let c0_27 : Index := 0#32
  ![v62.toNat, 0]
def k0_cond3 (i : grid0.Coords) : BitVec 1 :=
  let arg0 : BitVec 32 := BitVec.ofNat 32 (i 0).val
  let c15_i32_0 : BitVec 32 := 15#32
  let v3 : BitVec 1 := Scalar.cmpi .eq arg0 c15_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .eq arg0 c15_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpFirst.lean ====
abbrev S16384x4096 : Shape := ⟨2, ![16384, 4096]⟩
abbrev S2x4096x1 : Shape := ⟨3, ![2, 4096, 1]⟩
abbrev S2x4096x11008 : Shape := ⟨3, ![2, 4096, 11008]⟩
abbrev S1024x11264 : Shape := ⟨2, ![1024, 11264]⟩
abbrev S4096x11264 : Shape := ⟨2, ![4096, 11264]⟩
abbrev S1024x4096 : Shape := ⟨2, ![1024, 4096]⟩
abbrev S1x4096x1 : Shape := ⟨3, ![1, 4096, 1]⟩
abbrev S1x4096x256 : Shape := ⟨3, ![1, 4096, 256]⟩
abbrev S1024x256 : Shape := ⟨2, ![1024, 256]⟩
abbrev S4096x256 : Shape := ⟨2, ![4096, 256]⟩
abbrev S1024x128 : Shape := ⟨2, ![1024, 128]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S4096x1 : Shape := ⟨2, ![4096, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S2x4096x1, .f32⟩
  | .hbm, ⟨2, _⟩ => ⟨S2x4096x11008, .f32⟩
  | .hbm, ⟨3, _⟩ => ⟨S2x4096x11008, .f32⟩
  | .hbm, ⟨4, _⟩ => ⟨S1024x11264, .bf16⟩
  | .hbm, ⟨5, _⟩ => ⟨S4096x11264, .bf16⟩
  | .hbm, ⟨6, _⟩ => ⟨S4096x11264, .bf16⟩
  | .local _ .vmem, ⟨0, _⟩ => ⟨S1024x4096, .bf16⟩
  | .local _ .vmem, ⟨1, _⟩ => ⟨S1x4096x1, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![44], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_37 : BitVec 32 := 0#32
  let c4_i32 : BitVec 32 := 4#32
  let v62 : BitVec 32 := Scalar.addi c0_i32_37 c4_i32
  let c1_i32 : BitVec 32 := 1#32
  ⟨c0_i32_37, v62, c1_i32⟩
def k0_mult1 (k0_t1 : Fin k0_t1_loop.trips) : BitVec 32 :=
  let c0_i32_37 : BitVec 32 := 0#32
  let c1_i32 : BitVec 32 := 1#32
  let arg9 : BitVec 32 := Scf.iv c0_i32_37 c1_i32 k0_t1
  let c256_i32_39 : BitVec 32 := 256#32
  let v63 : BitVec 32 := Scalar.muli arg9 c256_i32_39
  v63
def k0_off1 (k0_t1 : Fin k0_t1_loop.trips) : Fin 2 → Nat :=
  let c0_i32_37 : BitVec 32 := 0#32
  let c1_i32 : BitVec 32 := 1#32
  let arg9 : BitVec 32 := Scf.iv c0_i32_37 c1_i32 k0_t1
  let c256_i32_39 : BitVec 32 := 256#32
  let v63 : BitVec 32 := Scalar.muli arg9 c256_i32_39
  let v64 : BitVec 32 := v63
  let v65 : Index := Scalar.indexCast v64
  let c0_40 : Index := 0#32
  ![v65.toNat, 0]
def k0_off2 (k0_t1 : Fin k0_t1_loop.trips) : Fin 2 → Nat :=
  let c0_i32_37 : BitVec 32 := 0#32
  let c1_i32 : BitVec 32 := 1#32
  let arg9 : BitVec 32 := Scf.iv c0_i32_37 c1_i32 k0_t1
  let c256_i32_39 : BitVec 32 := 256#32
  let v63 : BitVec 32 := Scalar.muli arg9 c256_i32_39
  let v64 : BitVec 32 := v63
  let v78 : Index := Scalar.indexCast v64
  let c0_44 : Index := 0#32
  ![v78.toNat, 0]
def cc0_transform_0 (i : grid0.Coords) : Fin 2 → Nat :=
  let arg0 : BitVec 32 := BitVec.ofNat 32 (i 0).val
  let c15_i32 : BitVec 32 := 15#32
  let c0_i32 : BitVec 32 := 0#32
  let c0_i32_0 : BitVec 32 := 0#32
  ![c15_i32.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c42_i32 : BitVec 32 := 42#32
  let v0 : BitVec 32 := Scalar.minsi arg0 c42_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c42_i32 : BitVec 32 := 42#32
  let v0 : BitVec 32 := Scalar.minsi arg0 c42_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProj.lean ====
abbrev S16384x1024 : Shape := ⟨2, ![16384, 1024]⟩
abbrev S4096x4096 : Shape := ⟨2, ![4096, 4096]⟩
abbrev S16384x4096 : Shape := ⟨2, ![16384, 4096]⟩
abbrev S1024x4096 : Shape := ⟨2, ![1024, 4096]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 10
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4096x4096, .bf16⟩
  | .hbm, ⟨5, _⟩ => ⟨S16384x4096, .f32⟩
  | .hbm, ⟨6, _⟩ => ⟨S1024x4096, .f32⟩
  | .hbm, ⟨7, _⟩ => ⟨S1024x4096, .bf16⟩
  | .hbm, ⟨8, _⟩ => ⟨S16384x4096, .f32⟩
  | .hbm, ⟨9, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4096x512, .bf16⟩
  | .local _ .vmem, ⟨9, _⟩ => ⟨S4096x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c15_i32 : BitVec 32 := 15#32
  let v0 : BitVec 1 := Scalar.cmpi .slt arg0 c15_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c15_i32_0 : BitVec 32 := 15#32
  let v3 : BitVec 1 := Scalar.cmpi .eq arg0 c15_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .eq arg0 c15_i32
  let c0_i32 : BitVec 32 := 0#32
  let v1 : BitVec 32 := Scalar.select v0 c0_i32 arg1
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .eq arg0 c15_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 1 := Scalar.cmpi .eq arg0 c15_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutProjFirst.lean ====
abbrev S16384x1024 : Shape := ⟨2, ![16384, 1024]⟩
abbrev S2x4096x4096 : Shape := ⟨3, ![2, 4096, 4096]⟩
abbrev S16384x4096 : Shape := ⟨2, ![16384, 4096]⟩
abbrev S1024x4096 : Shape := ⟨2, ![1024, 4096]⟩
abbrev S4096x4096 : Shape := ⟨2, ![4096, 4096]⟩
abbrev S1024x1024 : Shape := ⟨2, ![1024, 1024]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x4096x4096, .f32⟩
  | .hbm, ⟨5, _⟩ => ⟨S16384x4096, .f32⟩
  | .hbm, ⟨6, _⟩ => ⟨S1024x4096, .f32⟩
  | .hbm, ⟨7, _⟩ => ⟨S1024x4096, .bf16⟩
  | .hbm, ⟨8, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x4096x256, .f32⟩
  | .local _ .vmem, ⟨5, _⟩ => ⟨S1x4096x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let c0_i32 : BitVec 32 := 0#32
  let c0_i32_0 : BitVec 32 := 0#32
  ![c15_i32.toNat, c0_i32.toNat]

def cc0_transform_1 (i : grid0.Coords) : Fin 2 → Nat :=
  let arg0 : BitVec 32 := BitVec.ofNat 32 (i 0).val
  let c15_i32 : BitVec 32 := 15#32
  let c0_i32 : BitVec 32 := 0#32
  let c0_i32_0 : BitVec 32 := 0#32
  ![c15_i32.toNat, c0_i32.toNat]

def cc0_transform_2 (i : grid0.Coords) : Fin 2 → Nat :=
  let arg0 : BitVec 32 := BitVec.ofNat 32 (i 0).val
  let c15_i32 : BitVec 32 := 15#32
  let c0_i32 : BitVec 32 := 0#32
  let c0_i32_0 : BitVec 32 := 0#32
  ![c15_i32.toNat, c0_i32.toNat]

def cc0_transform_3 (i : grid0.Coords) : Fin 2 → Nat :=
  let arg0 : BitVec 32 := BitVec.ofNat 32 (i 0).val
  let c15_i32 : BitVec 32 := 15#32
  let c0_i32 : BitVec 32 := 0#32
  let c0_i32_0 : BitVec 32 := 0#32
  ![c15_i32.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c15_i32 : BitVec 32 := 15#32
  let c0_i32 : BitVec 32 := 0#32
  ![c15_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MmRes.lean ====
abbrev S16384x11264 : Shape := ⟨2, ![16384, 11264]⟩
abbrev S11264x4096 : Shape := ⟨2, ![11264, 4096]⟩
abbrev S16384x4096 : Shape := ⟨2, ![16384, 4096]⟩
abbrev S1024x4096 : Shape := ⟨2, ![1024, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S1024x4096, .f32⟩
  | .hbm, ⟨4, _⟩ => ⟨S1024x4096, .bf16⟩
  | .hbm, ⟨5, _⟩ => ⟨S16384x4096, .f32⟩
  | .hbm, ⟨6, _⟩ => ⟨S16384x4096, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 4], ![false, false, false]⟩

def k0_cond1 (i : grid0.Coords) : BitVec 1 :=
  let arg0 : BitVec 32 := BitVec.ofNat 32 (i 0).val
  let c15_i32 : BitVec 32 := 15#32
  let v0 : BitVec 1 := Scalar.cmpi .slt arg0 c15_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg2 : BitVec 32 := BitVec.ofNat 32 (i 2).val
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .ne v12 c0_i32_6
  v13

def k0_cond5 (i : grid0.Coords) : BitVec 1 :=
  let arg0 : BitVec 32 := BitVec.ofNat 32 (i 0).val
  let c15_i32_0 : BitVec 32 := 15#32
  let v3 : BitVec 1 := Scalar.cmpi .eq arg0 c15_i32_0
  let arg2 : BitVec 32 := BitVec.ofNat 32 (i 2).val
  let c0_i32_1 : BitVec 32 := 0#32
  let v4 : BitVec 1 := Scalar.cmpi .eq arg2 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

def k0_cond4 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 1 := Scalar.cmpi .eq arg0 c15_i32
  let c0_i32 : BitVec 32 := 0#32
  let v1 : BitVec 32 := Scalar.select v0 c0_i32 arg2
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 1 := Scalar.cmpi .eq arg0 c15_i32
  let c0_i32 : BitVec 32 := 0#32
  let v1 : BitVec 32 := Scalar.select v0 c0_i32 arg2
  let c15_i32_0 : BitVec 32 := 15#32
  let v2 : BitVec 1 := Scalar.cmpi .eq arg0 c15_i32_0
  let c0_i32_1 : BitVec 32 := 0#32
  let v3 : BitVec 32 := Scalar.select v2 c0_i32_1 arg1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 1 := Scalar.cmpi .eq arg0 c15_i32
  let c0_i32 : BitVec 32 := 0#32
  let v1 : BitVec 32 := Scalar.select v0 c0_i32 arg1
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 1 := Scalar.cmpi .eq arg0 c15_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 1 := Scalar.cmpi .eq arg0 c15_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Sconv.lean ====
abbrev S16384x11776 : Shape := ⟨2, ![16384, 11776]⟩
abbrev S3x1024 : Shape := ⟨2, ![3, 1024]⟩
abbrev S16384x1024 : Shape := ⟨2, ![16384, 1024]⟩
abbrev S512x1024 : Shape := ⟨2, ![512, 1024]⟩
abbrev S8x1024 : Shape := ⟨2, ![8, 1024]⟩
abbrev S520x1024 : Shape := ⟨2, ![520, 1024]⟩
abbrev S1x1024 : Shape := ⟨2, ![1, 1024]⟩

abbrev nBuf : Space → Nat
  | .hbm => 3
  | .vmem => 13
  | .smem => 0
  | _ => 0

abbrev bufTy : (tb : Table) → Fin (tcTables nBuf tb) → BufTy
  | .hbm, ⟨0, _⟩ => ⟨S16384x11776, .f32⟩
  | .hbm, ⟨1, _⟩ => ⟨S3x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S3x1024, .f32⟩
  | .local _ .vmem, ⟨11, _⟩ => ⟨S512x1024, .bf16⟩
  | .local _ .vmem, ⟨12, _⟩ => ⟨S512x1024, .bf16⟩
  | _, _ => ⟨S16384x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Regroup.lean ====
abbrev S2x4096x11536 : Shape := ⟨3, ![2, 4096, 11536]⟩
abbrev S2x4096 : Shape := ⟨2, ![2, 4096]⟩
abbrev S2x11536x4096 : Shape := ⟨3, ![2, 11536, 4096]⟩
abbrev S2x1x4096 : Shape := ⟨3, ![2, 1, 4096]⟩
abbrev S2x11776x4096 : Shape := ⟨3, ![2, 11776, 4096]⟩
abbrev S1x256x4096 : Shape := ⟨3, ![1, 256, 4096]⟩
abbrev S1x16x4096 : Shape := ⟨3, ![1, 16, 4096]⟩
abbrev S1x1x4096 : Shape := ⟨3, ![1, 1, 4096]⟩
abbrev S1x4096 : Shape := ⟨2, ![1, 4096]⟩
abbrev S256x4096 : Shape := ⟨2, ![256, 4096]⟩
abbrev S1x240x4096 : Shape := ⟨3, ![1, 240, 4096]⟩
abbrev S240x4096 : Shape := ⟨2, ![240, 4096]⟩
abbrev S16x4096 : Shape := ⟨2, ![16, 4096]⟩

abbrev nBuf : Space → Nat
  | .hbm => 5
  | .vmem => 10
  | .smem => 0
  | _ => 0

abbrev bufTy : (tb : Table) → Fin (tcTables nBuf tb) → BufTy
  | .hbm, ⟨0, _⟩ => ⟨S2x4096x11536, .f32⟩
  | .hbm, ⟨1, _⟩ => ⟨S2x4096, .f32⟩
  | .hbm, ⟨2, _⟩ => ⟨S2x11536x4096, .f32⟩
  | .hbm, ⟨3, _⟩ => ⟨S2x1x4096, .f32⟩
  | .hbm, ⟨4, _⟩ => ⟨S2x11776x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x256x4096, .bf16⟩
  | .local _ .vmem, ⟨9, _⟩ => ⟨S1x256x4096, .bf16⟩
  | _, _ => ⟨S2x4096x11536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 46], ![false, false]⟩

def k0_cond1 (i : grid0.Coords) : BitVec 1 :=
  let arg1 : BitVec 32 := BitVec.ofNat 32 (i 1).val
  let c24_i32 : BitVec 32 := 24#32
  let v2 : BitVec 1 := Scalar.cmpi .slt arg1 c24_i32
  let v3 : BitVec 32 := Scalar.extui v2
  let c0_i32 : BitVec 32 := 0#32
  let v4 : BitVec 1 := Scalar.cmpi .ne v3 c0_i32
  v4

def k0_cond2 (i : grid0.Coords) : BitVec 1 :=
  let arg1 : BitVec 32 := BitVec.ofNat 32 (i 1).val
  let c24_i32_2 : BitVec 32 := 24#32
  let v5 : BitVec 1 := Scalar.cmpi .sge arg1 c24_i32_2
  let c45_i32 : BitVec 32 := 45#32
  let v6 : BitVec 1 := Scalar.cmpi .slt arg1 c45_i32
  let v7 : BitVec 1 := Scalar.andi v5 v6
  let v8 : BitVec 32 := Scalar.extui v7
  let c0_i32_3 : BitVec 32 := 0#32
  let v9 : BitVec 1 := Scalar.cmpi .ne v8 c0_i32_3
  v9

def k0_cond3 (i : grid0.Coords) : BitVec 1 :=
  let arg1 : BitVec 32 := BitVec.ofNat 32 (i 1).val
  let c45_i32_4 : BitVec 32 := 45#32
  let v10 : BitVec 1 := Scalar.cmpi .eq arg1 c45_i32_4
  let v11 : BitVec 32 := Scalar.extui v10
  let c0_i32_5 : BitVec 32 := 0#32
  let v12 : BitVec 1 := Scalar.cmpi .ne v11 c0_i32_5
  v12

def cc0_transform_0 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.minsi arg1 c44_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli c16_i32 v0
  let c720_i32 : BitVec 32 := 720#32
  let v2 : BitVec 32 := Scalar.minsi v1 c720_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c384_i32 : BitVec 32 := 384#32
  let c0_i32 : BitVec 32 := 0#32
  let c0_i32_0 : BitVec 32 := 0#32
  ![arg0.toNat, c384_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S16384x4096 : Shape := ⟨2, ![16384, 4096]⟩
abbrev S2x11776x4096 : Shape := ⟨3, ![2, 11776, 4096]⟩
abbrev S_ : Shape := ⟨0, ![]⟩
abbrev S16384 : Shape := ⟨1, ![16384]⟩
abbrev S16384x1 : Shape := ⟨2, ![16384, 1]⟩
abbrev S1x11776x4096 : Shape := ⟨3, ![1, 11776, 4096]⟩
abbrev S11776x4096 : Shape := ⟨2, ![11776, 4096]⟩
abbrev S4096x11776 : Shape := ⟨2, ![4096, 11776]⟩
abbrev S16384x11776 : Shape := ⟨2, ![16384, 11776]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x11776x4096, .bf16⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x11776x4096, .bf16⟩
  | .hbm, ⟨17, _⟩ => ⟨S11776x4096, .bf16⟩
  | .hbm, ⟨18, _⟩ => ⟨S11776x4096, .f32⟩
  | .hbm, ⟨19, _⟩ => ⟨S4096x11776, .f32⟩
  | .hbm, ⟨20, _⟩ => ⟨S16384x11776, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FfnUpRefIdeal.lean ====
abbrev S16384x4096 : Shape := ⟨2, ![16384, 4096]⟩
abbrev S4096x11264 : Shape := ⟨2, ![4096, 11264]⟩
abbrev S1024x11264 : Shape := ⟨2, ![1024, 11264]⟩
abbrev S15360x4096 : Shape := ⟨2, ![15360, 4096]⟩
abbrev S_ : Shape := ⟨0, ![]⟩
abbrev S15360 : Shape := ⟨1, ![15360]⟩
abbrev S15360x1 : Shape := ⟨2, ![15360, 1]⟩
abbrev S15360x11264 : Shape := ⟨2, ![15360, 11264]⟩
abbrev S16384x11264 : Shape := ⟨2, ![16384, 11264]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S4096x11264, .bf16⟩
  | .hbm, ⟨3, _⟩ => ⟨S1024x11264, .bf16⟩
  | .hbm, ⟨4, _⟩ => ⟨S15360x4096, .bf16⟩
  | .hbm, ⟨5, _⟩ => ⟨S15360x4096, .f32⟩
  | .hbm, ⟨6, _⟩ => ⟨S15360x4096, .f32⟩
  | .hbm, ⟨7, _⟩ => ⟨S_, .f32⟩
  | .hbm, ⟨8, _⟩ => ⟨S15360, .f32⟩
  | .hbm, ⟨9, _⟩ => ⟨S15360x1, .f32⟩
  | .hbm, ⟨10, _⟩ => ⟨S_, .f32⟩
  | .hbm, ⟨11, _⟩ => ⟨S15360x1, .f32⟩
  | .hbm, ⟨12, _⟩ => ⟨S15360x1, .f32⟩
  | .hbm, ⟨13, _⟩ => ⟨S_, .f32⟩
  | .hbm, ⟨14, _⟩ => ⟨S15360x1, .f32⟩
  | .hbm, ⟨15, _⟩ => ⟨S15360x1, .f32⟩
  | .hbm, ⟨16, _⟩ => ⟨S15360x1, .f32⟩
  | .hbm, ⟨17, _⟩ => ⟨S15360x4096, .f32⟩
  | .hbm, ⟨18, _⟩ => ⟨S15360x4096, .f32⟩
  | .hbm, ⟨19, _⟩ => ⟨S4096x11264, .f32⟩
  | .hbm, ⟨20, _⟩ => ⟨S15360x11264, .f32⟩
  | .hbm, ⟨21, _⟩ => ⟨S15360x11264, .f32⟩
  | .hbm, ⟨22, _⟩ => ⟨S15360x11264, .f32⟩
  | .hbm, ⟨23, _⟩ => ⟨S_, .f32⟩
  | .hbm, ⟨24, _⟩ => ⟨S15360x11264, .f32⟩
  | .hbm, ⟨25, _⟩ => ⟨S15360x11264, .f32⟩
  | .hbm, ⟨26, _⟩ => ⟨S_, .f32⟩
  | .hbm, ⟨27, _⟩ => ⟨S15360x11264, .f32⟩
  | .hbm, ⟨28, _⟩ => ⟨S15360x11264, .f32⟩
  | .hbm, ⟨29, _⟩ => ⟨S15360x11264, .f32⟩
  | .hbm, ⟨30, _⟩ => ⟨S4096x11264, .f32⟩
  | .hbm, ⟨31, _⟩ => ⟨S15360x11264, .f32⟩
  | .hbm, ⟨32, _⟩ => ⟨S15360x11264, .f32⟩
  | .hbm, ⟨33, _⟩ => ⟨S15360x11264, .bf16⟩
  | .hbm, ⟨34, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== FfnUpFirstRefIdeal.lean ====
abbrev S16384x4096 : Shape := ⟨2, ![16384, 4096]⟩
abbrev S2x4096x1 : Shape := ⟨3, ![2, 4096, 1]⟩
abbrev S2x4096x11008 : Shape := ⟨3, ![2, 4096, 11008]⟩
abbrev S1024x4096 : Shape := ⟨2, ![1024, 4096]⟩
abbrev S_ : Shape := ⟨0, ![]⟩
abbrev S1024 : Shape := ⟨1, ![1024]⟩
abbrev S1024x1 : Shape := ⟨2, ![1024, 1]⟩
abbrev S1x4096x1 : Shape := ⟨3, ![1, 4096, 1]⟩
abbrev S4096 : Shape := ⟨1, ![4096]⟩
abbrev S1x4096 : Shape := ⟨2, ![1, 4096]⟩
abbrev S1x4096x11008 : Shape := ⟨3, ![1, 4096, 11008]⟩
abbrev S4096x11008 : Shape := ⟨2, ![4096, 11008]⟩
abbrev S1024x11008 : Shape := ⟨2, ![1024, 11008]⟩
abbrev S4096x1 : Shape := ⟨2, ![4096, 1]⟩
abbrev S1024x11264 : Shape := ⟨2, ![1024, 11264]⟩
abbrev S4096x11264 : Shape := ⟨2, ![4096, 11264]⟩

abbrev nBuf : Space → Nat
  | .hbm => 64
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x1, .f32⟩
  | .hbm, ⟨2, _⟩ => ⟨S2x4096x11008, .f32⟩
  | .hbm, ⟨3, _⟩ => ⟨S2x4096x11008, .f32⟩
  | .hbm, ⟨4, _⟩ => ⟨S1024x4096, .bf16⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x4096, .f32⟩
  | .hbm, ⟨18, _⟩ => ⟨S1024x4096, .f32⟩
  | .hbm, ⟨19, _⟩ => ⟨S1x4096x1, .f32⟩
  | .hbm, ⟨20, _⟩ => ⟨S4096, .f32⟩
  | .hbm, ⟨21, _⟩ => ⟨S1x4096, .f32⟩
  | .hbm, ⟨22, _⟩ => ⟨S1024x4096, .f32⟩
  | .hbm, ⟨23, _⟩ => ⟨S1024x4096, .f32⟩
  | .hbm, ⟨24, _⟩ => ⟨S1x4096x11008, .f32⟩
  | .hbm, ⟨25, _⟩ => ⟨S4096x11008, .f32⟩
  | .hbm, ⟨26, _⟩ => ⟨S1024x11008, .f32⟩
  | .hbm, ⟨27, _⟩ => ⟨S1024x11008, .f32⟩
  | .hbm, ⟨28, _⟩ => ⟨S1024x11008, .f32⟩
  | .hbm, ⟨29, _⟩ => ⟨S_, .f32⟩
  | .hbm, ⟨30, _⟩ => ⟨S1024x11008, .f32⟩
  | .hbm, ⟨31, _⟩ => ⟨S1024x11008, .f32⟩
  | .hbm, ⟨32, _⟩ => ⟨S_, .f32⟩
  | .hbm, ⟨33, _⟩ => ⟨S1024x11008, .f32⟩
  | .hbm, ⟨34, _⟩ => ⟨S1024x11008, .f32⟩
  | .hbm, ⟨35, _⟩ => ⟨S1024x11008, .f32⟩
  | .hbm, ⟨36, _⟩ => ⟨S1x4096x11008, .f32⟩
  | .hbm, ⟨37, _⟩ => ⟨S4096x11008, .f32⟩
  | .hbm, ⟨38, _⟩ => ⟨S1024x11008, .f32⟩
  | .hbm, ⟨39, _⟩ => ⟨S1024x11008, .f32⟩
  | .hbm, ⟨40, _⟩ => ⟨S1x4096x11008, .f32⟩
  | .hbm, ⟨41, _⟩ => ⟨S4096x11008, .f32⟩
  | .hbm, ⟨42, _⟩ => ⟨S1x4096x1, .f32⟩
  | .hbm, ⟨43, _⟩ => ⟨S4096x1, .f32⟩
  | .hbm, ⟨44, _⟩ => ⟨S4096x11008, .f32⟩
  | .hbm, ⟨45, _⟩ => ⟨S4096x11008, .f32⟩
  | .hbm, ⟨46, _⟩ => ⟨S1x4096x11008, .f32⟩
  | .hbm, ⟨47, _⟩ => ⟨S4096x11008, .f32⟩
  | .hbm, ⟨48, _⟩ => ⟨S1x4096x1, .f32⟩
  | .hbm, ⟨49, _⟩ => ⟨S4096x1, .f32⟩
  | .hbm, ⟨50, _⟩ => ⟨S4096x11008, .f32⟩
  | .hbm, ⟨51, _⟩ => ⟨S4096x11008, .f32⟩
  | .hbm, ⟨52, _⟩ => ⟨S_, .i32⟩
  | .hbm, ⟨53, _⟩ => ⟨S_, .f32⟩
  | .hbm, ⟨54, _⟩ => ⟨S1024x11264, .f32⟩
  | .hbm, ⟨55, _⟩ => ⟨S1024x11264, .bf16⟩
  | .hbm, ⟨56, _⟩ => ⟨S_, .i32⟩
  | .hbm, ⟨57, _⟩ => ⟨S_, .f32⟩
  | .hbm, ⟨58, _⟩ => ⟨S4096x11264, .f32⟩
  | .hbm, ⟨59, _⟩ => ⟨S4096x11264, .bf16⟩
  | .hbm, ⟨60, _⟩ => ⟨S_, .i32⟩
  | .hbm, ⟨61, _⟩ => ⟨S_, .f32⟩
  | .hbm, ⟨62, _⟩ => ⟨S4096x11264, .f32⟩
  | .hbm, ⟨63, _⟩ => ⟨S4096x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call1_v0 : Ref sig .tc := ⟨.hbm, 53, rfl⟩
abbrev main_v37 : Ref sig .tc := ⟨.hbm, 54, rfl⟩
abbrev main_v38 : Ref sig .tc := ⟨.hbm, 55, rfl⟩
abbrev main_c_2 : Ref sig .tc := ⟨.hbm, 56, rfl⟩
abbrev main_call2_v0 : Ref sig .tc := ⟨.hbm, 57, rfl⟩
abbrev main_v39 : Ref sig .tc := ⟨.hbm, 58, rfl⟩
abbrev main_v40 : Ref sig .tc := ⟨.hbm, 59, rfl⟩
abbrev main_c_3 : Ref sig .tc := ⟨.hbm, 60, rfl⟩
abbrev main_call3_v0 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== OutProjRefIdeal.lean ====
abbrev S16384x1024 : Shape := ⟨2, ![16384, 1024]⟩
abbrev S4096x4096 : Shape := ⟨2, ![4096, 4096]⟩
abbrev S16384x4096 : Shape := ⟨2, ![16384, 4096]⟩
abbrev S1024x4096 : Shape := ⟨2, ![1024, 4096]⟩
abbrev S15360x4096 : Shape := ⟨2, ![15360, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4096x4096, .bf16⟩
  | .hbm, ⟨5, _⟩ => ⟨S16384x4096, .f32⟩
  | .hbm, ⟨6, _⟩ => ⟨S1024x4096, .f32⟩
  | .hbm, ⟨7, _⟩ => ⟨S1024x4096, .bf16⟩
  | .hbm, ⟨8, _⟩ => ⟨S16384x4096, .bf16⟩
  | .hbm, ⟨9, _⟩ => ⟨S15360x4096, .bf16⟩
  | .hbm, ⟨10, _⟩ => ⟨S15360x4096, .f32⟩
  | .hbm, ⟨11, _⟩ => ⟨S15360x4096, .f32⟩
  | .hbm, ⟨12, _⟩ => ⟨S4096x4096, .f32⟩
  | .hbm, ⟨13, _⟩ => ⟨S15360x4096, .f32⟩
  | .hbm, ⟨14, _⟩ => ⟨S15360x4096, .f32⟩
  | .hbm, ⟨15, _⟩ => ⟨S16384x4096, .f32⟩
  | .hbm, ⟨16, _⟩ => ⟨S15360x4096, .bf16⟩
  | .hbm, ⟨17, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== OutProjFirstRefIdeal.lean ====
abbrev S16384x1024 : Shape := ⟨2, ![16384, 1024]⟩
abbrev S2x4096x4096 : Shape := ⟨3, ![2, 4096, 4096]⟩
abbrev S16384x4096 : Shape := ⟨2, ![16384, 4096]⟩
abbrev S1024x4096 : Shape := ⟨2, ![1024, 4096]⟩
abbrev S1x4096x4096 : Shape := ⟨3, ![1, 4096, 4096]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x4096x4096, .f32⟩
  | .hbm, ⟨5, _⟩ => ⟨S16384x4096, .f32⟩
  | .hbm, ⟨6, _⟩ => ⟨S16384x4096, .bf16⟩
  | .hbm, ⟨7, _⟩ => ⟨S1024x4096, .bf16⟩
  | .hbm, ⟨8, _⟩ => ⟨S1024x4096, .f32⟩
  | .hbm, ⟨9, _⟩ => ⟨S1024x4096, .f32⟩
  | .hbm, ⟨10, _⟩ => ⟨S1x4096x4096, .f32⟩
  | .hbm, ⟨11, _⟩ => ⟨S4096x4096, .f32⟩
  | .hbm, ⟨12, _⟩ => ⟨S1024x4096, .f32⟩
  | .hbm, ⟨13, _⟩ => ⟨S1024x4096, .f32⟩
  | .hbm, ⟨14, _⟩ => ⟨S1024x4096, .bf16⟩
  | .hbm, ⟨15, _⟩ => ⟨S1x4096x4096, .f32⟩
  | .hbm, ⟨16, _⟩ => ⟨S4096x4096, .f32⟩
  | .hbm, ⟨17, _⟩ => ⟨S4096x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== MmResRefIdeal.lean ====
abbrev S16384x11264 : Shape := ⟨2, ![16384, 11264]⟩
abbrev S11264x4096 : Shape := ⟨2, ![11264, 4096]⟩
abbrev S16384x4096 : Shape := ⟨2, ![16384, 4096]⟩
abbrev S1024x4096 : Shape := ⟨2, ![1024, 4096]⟩
abbrev S15360x4096 : Shape := ⟨2, ![15360, 4096]⟩
abbrev S15360x11264 : Shape := ⟨2, ![15360, 11264]⟩

abbrev nBuf : Space → Nat
  | .hbm => 14
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S1024x4096, .f32⟩
  | .hbm, ⟨4, _⟩ => ⟨S1024x4096, .bf16⟩
  | .hbm, ⟨5, _⟩ => ⟨S15360x4096, .f32⟩
  | .hbm, ⟨6, _⟩ => ⟨S15360x11264, .bf16⟩
  | .hbm, ⟨7, _⟩ => ⟨S15360x11264, .f32⟩
  | .hbm, ⟨8, _⟩ => ⟨S11264x4096, .f32⟩
  | .hbm, ⟨9, _⟩ => ⟨S15360x4096, .f32⟩
  | .hbm, ⟨10, _⟩ => ⟨S15360x4096, .f32⟩
  | .hbm, ⟨11, _⟩ => ⟨S16384x4096, .f32⟩
  | .hbm, ⟨12, _⟩ => ⟨S15360x4096, .bf16⟩
  | .hbm, ⟨13, _⟩ => ⟨S16384x4096, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SconvRefIdeal.lean ====
abbrev S16384x11776 : Shape := ⟨2, ![16384, 11776]⟩
abbrev S3x1024 : Shape := ⟨2, ![3, 1024]⟩
abbrev S16384x1024 : Shape := ⟨2, ![16384, 1024]⟩
abbrev S2x8192x1024 : Shape := ⟨3, ![2, 8192, 1024]⟩
abbrev S_ : Shape := ⟨0, ![]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x11776, .f32⟩
  | .hbm, ⟨1, _⟩ => ⟨S3x1024, .f32⟩
  | .hbm, ⟨2, _⟩ => ⟨S16384x1024, .f32⟩
  | .hbm, ⟨3, _⟩ => ⟨S2x8192x1024, .f32⟩
  | .hbm, ⟨4, _⟩ => ⟨S16384x1024, .f32⟩
  | .hbm, ⟨5, _⟩ => ⟨S2x8192x1024, .f32⟩
  | .hbm, ⟨6, _⟩ => ⟨S16384x1024, .f32⟩
  | .hbm, ⟨7, _⟩ => ⟨S2x8192x1024, .f32⟩
  | .hbm, ⟨8, _⟩ => ⟨S2x8192x1024, .f32⟩
  | .hbm, ⟨9, _⟩ => ⟨S_, .i32⟩
  | .hbm, ⟨10, _⟩ => ⟨S_, .f32⟩
  | .hbm, ⟨11, _⟩ => ⟨S2x8194x1024, .f32⟩
  | .hbm, ⟨12, _⟩ => ⟨S2x8192x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S16384x1024, .f32⟩
  | .hbm, ⟨34, _⟩ => ⟨S16384x1024, .bf16⟩
  | _, _ => ⟨S16384x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== RegroupRefIdeal.lean ====
abbrev S2x4096x11536 : Shape := ⟨3, ![2, 4096, 11536]⟩
abbrev S2x4096 : Shape := ⟨2, ![2, 4096]⟩
abbrev S2x4096x1 : Shape := ⟨3, ![2, 4096, 1]⟩
abbrev S2x11536x4096 : Shape := ⟨3, ![2, 11536, 4096]⟩
abbrev S2x6144x4096 : Shape := ⟨3, ![2, 6144, 4096]⟩
abbrev S2x5376x4096 : Shape := ⟨3, ![2, 5376, 4096]⟩
abbrev S2x16x4096 : Shape := ⟨3, ![2, 16, 4096]⟩
abbrev S_ : Shape := ⟨0, ![]⟩
abbrev S2x240x4096 : Shape := ⟨3, ![2, 240, 4096]⟩
abbrev S2x11776x4096 : Shape := ⟨3, ![2, 11776, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x11536, .f32⟩
  | .hbm, ⟨1, _⟩ => ⟨S2x4096, .f32⟩
  | .hbm, ⟨2, _⟩ => ⟨S2x4096x1, .f32⟩
  | .hbm, ⟨3, _⟩ => ⟨S2x4096x11536, .f32⟩
  | .hbm, ⟨4, _⟩ => ⟨S2x4096x11536, .f32⟩
  | .hbm, ⟨5, _⟩ => ⟨S2x11536x4096, .f32⟩
  | .hbm, ⟨6, _⟩ => ⟨S2x6144x4096, .f32⟩
  | .hbm, ⟨7, _⟩ => ⟨S2x5376x4096, .f32⟩
  | .hbm, ⟨8, _⟩ => ⟨S2x16x4096, .f32⟩
  | .hbm, ⟨9, _⟩ => ⟨S_, .f32⟩
  | .hbm, ⟨10, _⟩ => ⟨S2x240x4096, .f32⟩
  | .hbm, ⟨11, _⟩ => ⟨S2x11776x4096, .f32⟩
  | .hbm, ⟨12, _⟩ => ⟨S2x11776x4096, .bf16⟩
  | _, _ => ⟨S2x4096x11536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Swa.Tile.lean ====
/- The sliding-window attention's body as ONE function per stage. The printed body writes its 32 output tiles (four
   groups of 128 query rows, eight pairs of query heads) by the same operations on different operands; the stages here
   are those operations as functions of the operands, and `tile` is one output tile. -/
module

public import proofs.«01_k».proof.Proof.Gen.KernelIdeal.Skeleton

@[expose] public section

set_option maxRecDepth 16384

noncomputable section

namespace Cert.KernelIdeal.Swa

open Cert.KernelIdeal Cert.KernelIdeal.Gen Idealize.ShloMosaic Idealize.ShloMosaic.TcCoe Idealize.SL.Sem

/-! ## The query side -/

/-- Lanes below 64: the first head of the pair. -/
def lowLane : IVec S128x128 1 :=
  cmpi .slt (iota .tc S128x128 32 [1] iota_S128x128_d1_w32) (broadcast S128x128 64#32)

/-- One over the root of the mean square of one half of the lanes, the other half's squares put to zero. -/
def halfScale (sq : FVec Ideal S128x128 .f32) : FVec Ideal S128x1 .f32 :=
  rsqrt (addf (mulf (shapeCast S128x1 (multiReduction .add [1] S128 sq 0x00000000#32 reduces_S128x128_S128 (.inl rfl) rfl) shapeCasts_S128_S128x1)
    (broadcast S128x1 (Scalar.ofBits .f32 0x3C800000#32))) (broadcast S128x1 (Scalar.ofBits .f32 0x358637BD#32)))

/-- A pair of query heads, each normalised over its 64 lanes, times the gain and the score scale. -/
def qNorm (x : Vec Ideal S128x128 .f32) (g : Vec Ideal S1x128 .f32) : FVec Ideal S128x128 .f32 :=
  mulf (mulf (mulf x (select lowLane
      (broadcastTo S128x128 (shapeCast S128x1 (halfScale (select lowLane (mulf x x) (broadcast S128x128 (Scalar.ofBits .f32 0x00000000#32)))) shapeCasts_S128x1_S128x1) broadcasts_S128x1_S128x128)
      (broadcastTo S128x128 (shapeCast S128x1 (halfScale (select lowLane (broadcast S128x128 (Scalar.ofBits .f32 0x00000000#32)) (mulf x x))) shapeCasts_S128x1_S128x1) broadcasts_S128x1_S128x128)))
    (broadcastTo S128x128 (shapeCast S1x128 g shapeCasts_S1x128_S1x128) broadcasts_S1x128_S128x128))
    (broadcast S128x128 (Named.named κ "qscale" 0x3E38AA3B#32))

/-- The two heads side by side as columns, each with the other head's lanes put to zero. -/
def qCols (q : FVec Ideal S128x128 .f32) : FVec Ideal S128x256 .bf16 :=
  truncf .bf16 (concatenate S128x256 1
    [⟨S128x128, transpose S128x128 [1, 0] (select lowLane q (broadcast S128x128 (Scalar.ofBits .f32 0x00000000#32))) transposes_S128x128_p1_0_S128x128⟩,
     ⟨S128x128, transpose S128x128 [1, 0] (select lowLane (broadcast S128x128 (Scalar.ofBits .f32 0x00000000#32)) q) transposes_S128x128_p1_0_S128x128⟩]
    concatenates_S128x128_S128x128_S128x256_d1) bitsLt_bf16_f32

/-! ## The key side -/

/-- Lanes below 64: the first key head. -/
def lowLaneK : IVec S640x128 1 :=
  cmpi .slt (iota .tc S640x128 32 [1] iota_S640x128_d1_w32) (broadcast S640x128 64#32)

/-- `halfScale` at the keys' 640 rows. -/
def halfScaleK (sq : FVec Ideal S640x128 .f32) : FVec Ideal S640x1 .f32 :=
  rsqrt (addf (mulf (shapeCast S640x1 (multiReduction .add [1] S640 sq 0x00000000#32 reduces_S640x128_S640 (.inl rfl) rfl) shapeCasts_S640_S640x1)
    (broadcast S640x1 (Scalar.ofBits .f32 0x3C800000#32))) (broadcast S640x1 (Scalar.ofBits .f32 0x358637BD#32)))

/-- The 128 rows before the block, then the block's 512 rows. -/
def withHalo (h : Vec Ideal S128x128 .f32) (x : Vec Ideal S512x128 .f32) : FVec Ideal S640x128 .f32 :=
  concatenate S640x128 0 [⟨S128x128, h⟩, ⟨S512x128, x⟩] concatenates_S128x128_S512x128_S640x128_d0

/-- The two key heads, each normalised over its 64 lanes, times the gain. -/
def kNorm (x : FVec Ideal S640x128 .f32) (g : Vec Ideal S1x128 .f32) : FVec Ideal S640x128 .f32 :=
  mulf (mulf x (select lowLaneK
      (broadcastTo S640x128 (shapeCast S640x1 (halfScaleK (select lowLaneK (mulf x x) (broadcast S640x128 (Scalar.ofBits .f32 0x00000000#32)))) shapeCasts_S640x1_S640x1) broadcasts_S640x1_S640x128)
      (broadcastTo S640x128 (shapeCast S640x1 (halfScaleK (select lowLaneK (broadcast S640x128 (Scalar.ofBits .f32 0x00000000#32)) (mulf x x))) shapeCasts_S640x1_S640x1) broadcasts_S640x1_S640x128)))
    (broadcastTo S640x128 (shapeCast S1x128 g shapeCasts_S1x128_S1x128) broadcasts_S1x128_S640x128)

/-- The keys with the two heads' lanes exchanged. -/
def kRoll (k : FVec Ideal S640x128 .f32) : FVec Ideal S640x128 .f32 := dynamicRotate 1 64#32 none k rotates_S640x128_d1

/-- Key head `h` in both halves of the lanes. -/
def kDup (h : Nat) (k : FVec Ideal S640x128 .f32) : FVec Ideal S640x128 .bf16 :=
  if h = 0 then truncf .bf16 (select lowLaneK k (kRoll k)) bitsLt_bf16_f32
  else truncf .bf16 (select lowLaneK (kRoll k) k) bitsLt_bf16_f32

/-- The values, one row per lane. -/
def vCols (h : Vec Ideal S128x128 .f32) (x : Vec Ideal S512x128 .f32) : FVec Ideal S128x640 .bf16 :=
  truncf .bf16 (transpose S128x640 [1, 0] (withHalo h x) transposes_S640x128_p1_0_S128x640) bitsLt_bf16_f32

/-! ## The mask -/

/-- The grid step is the first of its batch. -/
def first (i : grid0.Coords) : BitVec 1 :=
  Scalar.cmpi .eq (Scalar.select (Scalar.andi (Scalar.xori
      (Scalar.cmpi .slt (Scalar.remsi (BitVec.ofNat 32 (i 0).val) (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi (BitVec.ofNat 32 (i 0).val) (Scalar.select (Scalar.cmpi .eq 16#32 0#32) 1#32 16#32)) 0#32))
    (Scalar.addi (Scalar.remsi (BitVec.ofNat 32 (i 0).val) (Scalar.select (Scalar.cmpi .eq 16#32 0#32) 1#32 16#32)) (Scalar.select (Scalar.cmpi .eq 16#32 0#32) 1#32 16#32))
    (Scalar.remsi (BitVec.ofNat 32 (i 0).val) (Scalar.select (Scalar.cmpi .eq 16#32 0#32) 1#32 16#32))) 0#32

/-- Key row `kr` is in the window of query column `qc`: `qc < kr ≤ qc + 128`. -/
def band : IVec S256x256 1 := k0_pay18 k0_pay16 k0_pay17

/-- The mask of row group `s`: the band, and in the first group of a batch the rows before the batch left out. -/
def maskOf (i : grid0.Coords) (s : Nat) : IVec S256x256 1 :=
  if s = 0 then k0_pay19 (first i) (iota .tc S256x256 32 [0] iota_S256x256_d0_w32) k0_pay16 k0_pay17 else band

/-! ## Scores, softmax, output -/

/-- The scores, a row per key and a column per query of either head. -/
def scores (k : FVec Ideal S256x128 .bf16) (q : FVec Ideal S128x256 .bf16) : FVec Ideal S256x256 .f32 :=
  matmul dot_S256x128_S128x256_S256x256_1_0_0_1_n_n none k q (constant S256x256 .f32 0x00000000#32)

/-- The scores outside the mask put to the stand-in for minus infinity. -/
def masked (mk : IVec S256x256 1) (s : FVec Ideal S256x256 .f32) : FVec Ideal S256x256 .f32 :=
  select mk s (broadcast S256x256 (Named.named κ "mask" 0xF149F2CA#32))

/-- The sinks in the scores' base. -/
def sinkRow (z : Vec Ideal S1x256 .f32) : FVec Ideal S1x256 .f32 :=
  mulf (shapeCast S1x256 z shapeCasts_S1x256_S1x256) (broadcast S1x256 (Named.named κ "log2e" 0x3FB8AA3B#32))

/-- The greatest score of each column, the sink among them. -/
def colMax (s : FVec Ideal S256x256 .f32) (z : FVec Ideal S1x256 .f32) : FVec Ideal S1x256 .f32 :=
  maximumf (shapeCast S1x256 (multiReduction .maximumf [0] S256 s 0xFF800000#32 reduces_S256x256_S256 (.inl rfl) rfl) shapeCasts_S256_S1x256) z

/-- The powers of two of the scores less the maximum. -/
def pows (s : FVec Ideal S256x256 .f32) (mx : FVec Ideal S1x256 .f32) : FVec Ideal S256x256 .f32 :=
  exp2 (subf s (broadcastTo S256x256 mx broadcasts_S1x256_S256x256))

/-- The column sums, the sink's power among them. -/
def colSum (p : FVec Ideal S256x256 .f32) (z mx : FVec Ideal S1x256 .f32) : FVec Ideal S1x256 .f32 :=
  addf (shapeCast S1x256 (multiReduction .add [0] S256 p 0x00000000#32 reduces_S256x256_S256 (.inl rfl) rfl) shapeCasts_S256_S1x256)
    (exp2 (subf z mx))

/-- The weights: the powers times the reciprocals of the column sums. -/
def weights (p : FVec Ideal S256x256 .f32) (l : FVec Ideal S1x256 .f32) : FVec Ideal S256x256 .bf16 :=
  truncf .bf16 (mulf p (broadcastTo S256x256 (divf (broadcast S1x256 (Scalar.ofBits .f32 0x3F800000#32)) l) broadcasts_S1x256_S256x256)) bitsLt_bf16_f32

/-- The weights of the masked scores and the sinks. -/
def softmax (s : FVec Ideal S256x256 .f32) (z : FVec Ideal S1x256 .f32) : FVec Ideal S256x256 .bf16 :=
  weights (pows s (colMax s z)) (colSum (pows s (colMax s z)) z (colMax s z))

/-- The outputs, a row per lane of the value head. -/
def outCols (v : FVec Ideal S64x256 .bf16) (w : FVec Ideal S256x256 .bf16) : FVec Ideal S64x256 .f32 :=
  matmul dot_S64x256_S256x256_S64x256_1_0_0_1_n_n none v w (constant S64x256 .f32 0x00000000#32)

/-- The two heads' outputs side by side, a row per query. -/
def outTile (o : FVec Ideal S64x256 .f32) : FVec Ideal S128x128 .bf16 :=
  truncf .bf16 (transpose S128x128 [1, 0] (concatenate S128x128 0
    [⟨S64x128, extractStridedSlice S64x128 ![0, 0] o slices_S64x256_o0_0_S64x128⟩,
     ⟨S64x128, extractStridedSlice S64x128 ![0, 128] o slices_S64x256_o0_128_S64x128⟩]
    concatenates_S64x128_S64x128_S128x128_d0) transposes_S128x128_p1_0_S128x128) bitsLt_bf16_f32

/-- One output tile from its operands. -/
def unit (mk : IVec S256x256 1) (k : FVec Ideal S256x128 .bf16) (v : FVec Ideal S64x256 .bf16)
    (q : Vec Ideal S128x128 .f32) (g : Vec Ideal S1x128 .f32) (z : Vec Ideal S1x256 .f32) : FVec Ideal S128x128 .bf16 :=
  outTile (outCols v (softmax (masked mk (scores k (qCols (qNorm q g)))) (sinkRow z)))

end Cert.KernelIdeal.Swa

end
-- ==== Proof.Swa.Pieces.lean ====
/- What the sliding-window attention's body leaves in its output block, tile by tile: at every tile the stored value is
   `tileAt`, the one function of Swa/Tile.lean at that tile's operands. -/
module

public import proofs.«01_k».proof.Proof.Swa.Tile
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.Pipeline (Dat)

theorem slicesK (s : Nat) (hs : s < 4) : S640x128.Slices ![128 * s, 0] S256x128 := by
  interval_cases s <;> decide

theorem slicesV (h s : Nat) (hh : h < 2) (hs : s < 4) : S128x640.Slices ![64 * h, 128 * s] S64x256 := by
  interval_cases h <;> interval_cases s <;> decide

theorem inbQ (s p : Nat) (hs : s < 4) (hp : p < 8) : ∀ a, (![128 * s, 128 * p] : Fin 2 → Nat) a + S128x128.size a ≤ S512x1024.size a := by
  intro a; fin_cases a
  · show 128 * s + 128 ≤ 512; omega
  · show 128 * p + 128 ≤ 1024; omega

theorem inbZ (p : Nat) (hp : p < 8) : ∀ a, (![p, 0] : Fin 2 → Nat) a + S1x256.size a ≤ S8x256.size a := by
  intro a; fin_cases a
  · show p + 1 ≤ 8; omega
  · show 0 + 256 ≤ 256; omega

/-- The tile of row group `s` and head pair `p`, from the point's input blocks. -/
def tileAt (i : grid0.Coords) (x0 : Vec Ideal S512x1024 .f32) (x1 x2 : Vec Ideal S512x128 .f32) (x3 x4 : Vec Ideal S128x128 .f32)
    (x5 x6 : Vec Ideal S1x128 .f32) (x7 : Vec Ideal S8x256 .f32) (s p : Nat) (hs : s < 4) (hp : p < 8) : FVec Ideal S128x128 .bf16 :=
  unit (maskOf i s)
    (extractStridedSlice S256x128 ![128 * s, 0] (kDup (p / 4) (kNorm (withHalo x3 x1) x6)) (slicesK s hs))
    (extractStridedSlice S64x256 ![64 * (p / 4), 128 * s] (vCols x4 x2) (slicesV (p / 4) s (by omega) hs))
    (View.ld (Val := Elt Ideal) (S := S512x1024) (e' := .f32) x0 (Rect.unit (s := S512x1024) ![128 * s, 128 * p] S128x128.size (inbQ s p hs hp)))
    x5
    (View.ld (Val := Elt Ideal) (S := S8x256) (e' := .f32) x7 (Rect.unit (s := S8x256) ![p, 0] S1x256.size (inbZ p hp)))

/-- The tile a block index lies in, from the offsets of a stored piece. -/
theorem tileAt_pick (i : grid0.Coords) (x0 : Vec Ideal S512x1024 .f32) (x1 x2 : Vec Ideal S512x128 .f32) (x3 x4 : Vec Ideal S128x128 .f32)
    (x5 x6 : Vec Ideal S1x128 .f32) (x7 : Vec Ideal S8x256 .f32) (s p : Nat) (hs : s < 4) (hp : p < 8) (r l : Fin 128)
    (x : S128x128.Idx) (o o' : Nat) (h0 : 128 * s + (r : Nat) = o + (x 0 : Nat)) (h1 : 128 * p + (l : Nat) = o' + (x 1 : Nat))
    (ho : o % 128 = 0) (ho' : o' % 128 = 0) (hs' : o / 128 < 4) (hp' : o' / 128 < 8) :
    tileAt i x0 x1 x2 x3 x4 x5 x6 x7 (o / 128) (o' / 128) hs' hp' x = tileAt i x0 x1 x2 x3 x4 x5 x6 x7 s p hs hp (ix2 r l) := by
  have b0 : (x 0 : Nat) < 128 := (x 0).isLt
  have b1 : (x 1 : Nat) < 128 := (x 1).isLt
  have e : o / 128 = s := by omega
  have e' : o' / 128 = p := by omega
  have ex : x = ix2 r l := by
    funext a
    fin_cases a
    · exact Fin.ext (show (x 0 : Nat) = r by omega)
    · exact Fin.ext (show (x 1 : Nat) = l by omega)
  subst ex
  subst e
  subst e'
  rfl

variable (m : (ℓ : Loc nD τ sig) → Buf (Elt Ideal) ℓ)

set_option maxHeartbeats 400000 in
/-- The blocks as the body loads them. -/
theorem outs_raw (c : Dev nD) (t : Fin cfg0.N) (y : S512x1024.Idx) (v : Elt Ideal .bf16)
    (hv : ∀ (x : S128x128.Idx) (o o' : Nat) (h0 : (y 0 : Nat) = o + (x 0 : Nat)) (h1 : (y 1 : Nat) = o' + (x 1 : Nat))
      (ho : o % 128 = 0) (ho' : o' % 128 = 0) (hs : o / 128 < 4) (hp : o' / 128 < 8),
      tileAt (grid0.coords t) (View.read (Elt Ideal) (ms0_0 t).view ((hs0_0 t).unread (X0_0 m c t)))
        (View.ld (Val := Elt Ideal) (S := S512x128) (e' := .f32) (View.read (Elt Ideal) (ms0_1 t).view ((hs0_1 t).unread (iblk m c 1 t))) (Rect.unit (s := S512x128) ![0, 0] S512x128.size inb_S512x128_S512x128_0_0))
        (View.ld (Val := Elt Ideal) (S := S512x128) (e' := .f32) (View.read (Elt Ideal) (ms0_2 t).view ((hs0_2 t).unread (iblk m c 2 t))) (Rect.unit (s := S512x128) ![0, 0] S512x128.size inb_S512x128_S512x128_0_0))
        (View.ld (Val := Elt Ideal) (S := S128x128) (e' := .f32) (View.read (Elt Ideal) (ms0_3 t).view ((hs0_3 t).unread (iblk m c 3 t))) (Rect.unit (s := S128x128) ![0, 0] S128x128.size inb_S128x128_S128x128_0_0))
        (View.ld (Val := Elt Ideal) (S := S128x128) (e' := .f32) (View.read (Elt Ideal) (ms0_4 t).view ((hs0_4 t).unread (iblk m c 4 t))) (Rect.unit (s := S128x128) ![0, 0] S128x128.size inb_S128x128_S128x128_0_0))
        (View.ld (Val := Elt Ideal) (S := S1x128) (e' := .f32) (View.read (Elt Ideal) (ms0_5 t).view ((hs0_5 t).unread (iblk m c 5 t))) (Rect.unit (s := S1x128) ![0, 0] S1x128.size inb_S1x128_S1x128_0_0))
        (View.ld (Val := Elt Ideal) (S := S1x128) (e' := .f32) (View.read (Elt Ideal) (ms0_6 t).view ((hs0_6 t).unread (iblk m c 6 t))) (Rect.unit (s := S1x128) ![0, 0] S1x128.size inb_S1x128_S1x128_0_0))
        (View.read (Elt Ideal) (ms0_7 t).view ((hs0_7 t).unread (iblk m c 7 t)))
        (o / 128) (o' / 128) hs hp x = v) :
    outsAt0 m c t y = v := by
  unfold outsAt0 out0_A_8
  rw [View.read_writes_eq_canon _ _ _ (cover0_A_8 c _ _ _ _ _ _ _ _ _ _ _ _ _ _ _ _ _ _ _ _ _ _ _ _ _ _ _)]
  unfold kernelRun0_A
  dsimp only
  canon_tiles x h
  all_goals
    first
    | refine Eq.trans ?_ (hv x _ _ h0 h1 (by decide) (by decide) (by decide) (by decide))
    | refine Eq.trans ?_ (hv x _ _ h0 (h1.trans (Nat.zero_add _).symm) (by decide) (by decide) (by decide) (by decide))
    | refine Eq.trans ?_ (hv x _ _ (h0.trans (Nat.zero_add _).symm) h1 (by decide) (by decide) (by decide) (by decide))
    | refine Eq.trans ?_ (hv x _ _ (h0.trans (Nat.zero_add _).symm) (h1.trans (Nat.zero_add _).symm) (by decide) (by decide) (by decide) (by decide))
    refine congrFun ?_ x
    rfl

end Cert.KernelIdeal.Swa

end
-- ==== Proof.Consts.lean ====
/- The float patterns the calls print, as extended reals. -/
module

public import Idealize.ShloMosaic.PureOps.Ideal.Laws
public import Idealize.ShloMosaic.PureOps.IdealRules

@[expose] public section

noncomputable section

namespace Cert.Consts

open Idealize.ShloMosaic

/-- The f32 nearest 1e-6, the epsilon of the norms. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, -EReal.coe_mul, eps]; norm_num

theorem ofBits_inv64 : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_negInf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

theorem rsqrt_pos {r : ℝ} (h : 0 < r) : Ideal.rsqrt (r : EReal) = (((Real.sqrt r)⁻¹ : ℝ) : EReal) := by
  rw [Ideal.rsqrt_coe, if_neg (not_lt.2 h.le), if_neg h.ne']

/-- A comparison of a small natural number with another, as the vector unit's signed compare. -/
theorem slt_small {a b : Nat} (ha : a < 2 ^ 31) (hb : b < 2 ^ 31) :
    (BitVec.ofNat 32 a).slt (BitVec.ofNat 32 b) = decide (a < b) := by
  have e : ∀ {c : Nat}, c < 2 ^ 31 → (BitVec.ofNat 32 c).toInt = c := fun {c} hc => by
    rw [BitVec.toInt_eq_toNat_cond, BitVec.toNat_ofNat, Nat.mod_eq_of_lt (by omega), if_pos (by omega)]
  rw [BitVec.slt, e ha, e hb]; simp

theorem select_slt {α : Type} {a b : Nat} (ha : a < 2 ^ 31) (hb : b < 2 ^ 31) (x y : α) :
    Scalar.select (IntOp.cmpi .slt (BitVec.ofNat 32 a) (BitVec.ofNat 32 b)) x y = if a < b then x else y := by
  simp only [Scalar.select, IntOp.cmpi, slt_small ha hb]
  by_cases h : a < b <;> simp [h]

end Cert.Consts

end
-- ==== Proof.Swa.Math.lean ====
/- The softmax with a sink over a masked row, over the reals: in base two with a sum's reciprocal (the kernel) and in
   base e with a quotient (the reference), both the same weights. -/
module

public import proofs.«01_k».proof.Proof.Consts

@[expose] public section

noncomputable section

namespace Cert.Swa

open Idealize.ShloMosaic Cert.Consts

variable {n : Nat} (P : Fin n → Prop) [DecidablePred P] (s : Fin n → ℝ) (z : ℝ)

/-- The exponential of a score, zero outside the mask. -/
def expo (j : Fin n) : ℝ := if P j then Real.exp (s j) else 0

/-- The sum of the exponentials, the sink's among them. -/
def total : ℝ := (∑ j, expo P s j) + Real.exp z

/-- The softmax weight. -/
def wt (j : Fin n) : ℝ := expo P s j / total P s z

theorem expo_nonneg (j : Fin n) : 0 ≤ expo P s j := by
  unfold expo; split
  · exact (Real.exp_pos _).le
  · exact le_rfl

theorem total_pos : 0 < total P s z :=
  add_pos_of_nonneg_of_pos (Finset.sum_nonneg fun j _ => expo_nonneg P s j) (Real.exp_pos z)

/-- The masked score. -/
def msk (c : ℝ) (j : Fin n) : EReal := if P j then ((s j * c : ℝ) : EReal) else ⊥

theorem two_pow (x : ℝ) : Real.rpow 2 x = Real.exp (Real.log 2 * x) := Real.rpow_def_of_pos (by norm_num) x

theorem log2_ne : Real.log 2 ≠ 0 := (Real.log_pos (by norm_num)).ne'

/-- A row's maximum together with a real is a real. -/
theorem max_real (c : ℝ) (b : ℝ) : ∃ m : ℝ, max (Finset.univ.fold max ⊥ (msk P s c)) (b : EReal) = (m : EReal) := by
  have h1 : max (Finset.univ.fold max ⊥ (msk P s c)) (b : EReal) ≠ ⊤ := by
    refine ne_of_lt (max_lt ?_ (EReal.coe_lt_top b))
    rw [Finset.fold_max_lt]
    refine ⟨bot_lt_top, fun j _ => ?_⟩
    unfold msk; split
    · exact EReal.coe_lt_top _
    · exact bot_lt_top
  have h2 : max (Finset.univ.fold max ⊥ (msk P s c)) (b : EReal) ≠ ⊥ :=
    ne_of_gt (lt_of_lt_of_le (EReal.bot_lt_coe b) (le_max_right _ _))
  exact ⟨_, (EReal.coe_toReal h1 h2).symm⟩

theorem kernel_pow (m : ℝ) (j : Fin n) :
    Ideal.exp2 (msk P s (Real.log 2)⁻¹ j - (m : EReal)) = ((expo P s j * Real.exp (-(Real.log 2 * m)) : ℝ) : EReal) := by
  unfold msk expo
  split
  · rw [← EReal.coe_sub, Ideal.exp2_coe, two_pow, ← Real.exp_add]
    congr 2
    have := log2_ne
    field_simp
    ring
  · rw [sub_eq_add_neg, EReal.bot_add, Ideal.exp2_bot]; simp

theorem kernel_sink (m : ℝ) :
    Ideal.exp2 (((z * (Real.log 2)⁻¹ : ℝ) : EReal) - (m : EReal)) = ((Real.exp z * Real.exp (-(Real.log 2 * m)) : ℝ) : EReal) := by
  rw [← EReal.coe_sub, Ideal.exp2_coe, two_pow, ← Real.exp_add]
  congr 2
  have := log2_ne
  field_simp
  ring

/-- The kernel's weight: a power of two times the reciprocal of the row's sum of them. -/
theorem kernel_wt (M : EReal) (hM : M = max (Finset.univ.fold max ⊥ (msk P s (Real.log 2)⁻¹)) ((z * (Real.log 2)⁻¹ : ℝ) : EReal)) (j : Fin n) :
    Ideal.exp2 (msk P s (Real.log 2)⁻¹ j - M)
      * Ideal.div 1 ((∑ i, Ideal.exp2 (msk P s (Real.log 2)⁻¹ i - M)) + Ideal.exp2 (((z * (Real.log 2)⁻¹ : ℝ) : EReal) - M))
      = ((wt P s z j : ℝ) : EReal) := by
  obtain ⟨m, hm⟩ := max_real P s (Real.log 2)⁻¹ (z * (Real.log 2)⁻¹)
  rw [hM, hm]
  simp only [kernel_pow, kernel_sink]
  rw [← coe_sum, ← EReal.coe_add]
  have e : (∑ i, expo P s i * Real.exp (-(Real.log 2 * m))) + Real.exp z * Real.exp (-(Real.log 2 * m))
      = total P s z * Real.exp (-(Real.log 2 * m)) := by
    unfold total; rw [add_mul, Finset.sum_mul]
  have h0 := (total_pos P s z).ne'
  have h1 := (Real.exp_pos (-(Real.log 2 * m))).ne'
  rw [e, Ideal.div_coe (mul_ne_zero h0 h1), one_mul, ← EReal.coe_mul]
  congr 1
  unfold wt
  field_simp

theorem ref_exp (m : ℝ) (j : Fin n) :
    Ideal.exp (msk P s 1 j - (m : EReal)) = ((expo P s j * Real.exp (-m) : ℝ) : EReal) := by
  unfold msk expo
  split
  · rw [← EReal.coe_sub, Ideal.exp_coe, ← Real.exp_add]
    congr 2; ring
  · rw [sub_eq_add_neg, EReal.bot_add, Ideal.exp_bot]; simp

/-- The reference's weight: an exponential over the row's sum of them. -/
theorem ref_wt (M : EReal) (hM : M = max (Finset.univ.fold max ⊥ (msk P s 1)) (z : EReal)) (j : Fin n) :
    Ideal.div (Ideal.exp (msk P s 1 j - M)) ((∑ i, Ideal.exp (msk P s 1 i - M)) + Ideal.exp ((z : EReal) - M))
      = ((wt P s z j : ℝ) : EReal) := by
  obtain ⟨m, hm⟩ := max_real P s 1 z
  rw [hM, hm]
  simp only [ref_exp]
  rw [← EReal.coe_sub, Ideal.exp_coe, sub_eq_add_neg z m, Real.exp_add, ← coe_sum, ← EReal.coe_add]
  have e : (∑ i, expo P s i * Real.exp (-m)) + Real.exp z * Real.exp (-m) = total P s z * Real.exp (-m) := by
    unfold total; rw [add_mul, Finset.sum_mul]
  have h0 := (total_pos P s z).ne'
  have h1 := (Real.exp_pos (-m)).ne'
  rw [e, Ideal.div_coe (mul_ne_zero h0 h1), ← EReal.coe_mul]
  congr 1
  unfold wt
  field_simp

/-- A masked key has no weight. -/
theorem wt_zero {j : Fin n} (h : ¬ P j) : wt P s z j = 0 := by unfold wt expo; rw [if_neg h, zero_div]

/-- A head's root-mean-square scale over its 64 lanes. -/
def rms (f : Fin 64 → ℝ) : ℝ := (Real.sqrt ((∑ k, f k * f k) * (1 / 64) + eps))⁻¹

theorem ms_pos (f : Fin 64 → ℝ) : 0 < (∑ k, f k * f k) * (1 / 64) + eps :=
  add_pos_of_nonneg_of_pos (mul_nonneg (Finset.sum_nonneg fun k _ => mul_self_nonneg (f k)) (by norm_num)) eps_pos

theorem rsqrt_ms (f : Fin 64 → ℝ) :
    Ideal.rsqrt ((∑ k, ((f k : ℝ) : EReal) * ((f k : ℝ) : EReal)) * ((1 / 64 : ℝ) : EReal) + ((eps : ℝ) : EReal)) = ((rms f : ℝ) : EReal) := by
  simp only [← EReal.coe_mul]
  rw [← coe_sum, ← EReal.coe_mul, ← EReal.coe_add, rsqrt_pos (ms_pos f)]
  rfl

end Cert.Swa

end
-- ==== Proof.Swa.Real.lean ====
/- The stages of Swa/Tile.lean read at an index, their operands reals. -/
module

public import proofs.«01_k».proof.Proof.Swa.Tile
public import proofs.«01_k».proof.Proof.Swa.Math
public import Idealize.ShloMosaic.Lib.Pipeline.ValueKit
public import Idealize.ShloMosaic.Lib.Pointwise

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.Pointwise
open Cert.Swa Cert.Consts

/-! ## The named constants -/

theorem named_qscale : Named.named (F := Ideal) (φ := .f32) κ "qscale" 0x3E38AA3B#32 = (((Real.sqrt 64)⁻¹ * (Real.log 2)⁻¹ : ℝ) : EReal) :=
  IdealRules.named_const.ideal_named_scalar _ _ _ _ rfl

theorem named_mask : Named.named (F := Ideal) (φ := .f32) κ "mask" 0xF149F2CA#32 = ⊥ :=
  IdealRules.named_const.ideal_named_scalar _ _ _ _ rfl

theorem named_log2e : Named.named (F := Ideal) (φ := .f32) κ "log2e" 0x3FB8AA3B#32 = (((Real.log 2)⁻¹ : ℝ) : EReal) :=
  IdealRules.named_const.ideal_named_scalar _ _ _ _ rfl

/-! ## The norms -/

/-- Lane `d` of head `h` of a row, over the head's root mean square, times the gain. -/
def headNorm (f : ℕ → ℝ) (h : ℕ) (γ : ℕ → ℝ) (d : ℕ) : ℝ := f (64 * h + d) * rms (fun k => f (64 * h + k)) * γ d

theorem half_low (f : ℕ → ℝ) :
    (∑ x : Fin 128, if (x : ℕ) < 64 then ((f x : ℝ) : EReal) * ((f x : ℝ) : EReal) else 0) = ∑ k : Fin 64, ((f (64 * 0 + k) : ℝ) : EReal) * ((f (64 * 0 + k) : ℝ) : EReal) := by
  rw [Fin.sum_univ_two_halves 64 64 rfl, Finset.sum_congr rfl (fun k _ => if_pos k.isLt),
    Finset.sum_congr (g := fun _ => (0 : EReal)) rfl (fun k _ => if_neg (by simp)), Finset.sum_const_zero, add_zero]
  simp

theorem half_high (f : ℕ → ℝ) :
    (∑ x : Fin 128, if (x : ℕ) < 64 then 0 else ((f x : ℝ) : EReal) * ((f x : ℝ) : EReal)) = ∑ k : Fin 64, ((f (64 * 1 + k) : ℝ) : EReal) * ((f (64 * 1 + k) : ℝ) : EReal) := by
  rw [Fin.sum_univ_two_halves 64 64 rfl, Finset.sum_congr (g := fun _ => (0 : EReal)) rfl (fun k _ => if_pos k.isLt),
    Finset.sum_congr rfl (fun k _ => if_neg (by simp)), Finset.sum_const_zero, zero_add]

/-- The scale of a lane, chosen between the two heads'. -/
theorem scale_pick (f : ℕ → ℝ) (l : ℕ) (hl : l < 128) :
    (if l < 64 then Ideal.rsqrt ((∑ x : Fin 128, if (x : ℕ) < 64 then ((f x : ℝ) : EReal) * ((f x : ℝ) : EReal) else 0) * ((1 / 64 : ℝ) : EReal) + ((eps : ℝ) : EReal))
      else Ideal.rsqrt ((∑ x : Fin 128, if (x : ℕ) < 64 then 0 else ((f x : ℝ) : EReal) * ((f x : ℝ) : EReal)) * ((1 / 64 : ℝ) : EReal) + ((eps : ℝ) : EReal)))
      = ((rms (fun k => f (64 * (l / 64) + k)) : ℝ) : EReal) := by
  rw [half_low, half_high, rsqrt_ms (fun k => f (64 * 0 + k)), rsqrt_ms (fun k => f (64 * 1 + k))]
  split
  · rw [show l / 64 = 0 by omega]
  · rw [show l / 64 = 1 by omega]

theorem qNorm_real (x : Vec Ideal S128x128 .f32) (g : Vec Ideal S1x128 .f32) (r l : Fin 128) (f γ : ℕ → ℝ)
    (hx : ∀ l : Fin 128, x (ix2 r l) = ((f l : ℝ) : EReal)) (hg : ∀ l : Fin 128, g (ix2 0 l) = ((γ (l % 64) : ℝ) : EReal)) :
    qNorm x g (ix2 r l) = ((headNorm f (l / 64) γ (l % 64) * ((Real.sqrt 64)⁻¹ * (Real.log 2)⁻¹) : ℝ) : EReal) := by
  pointwise [qNorm, halfScale, lowLane]
  have sel : ∀ (k : Fin 128) (a b : EReal), Scalar.select (IntOp.cmpi .slt (BitVec.ofNat 32 (k : ℕ)) 64#32) a b = if (k : ℕ) < 64 then a else b :=
    fun k a b => select_slt (by omega) (by omega) a b
  simp only [sel, hx, hg, ofBits_inv64, ofBits_eps, named_qscale]
  rw [scale_pick f l l.isLt]
  simp only [← EReal.coe_mul]
  unfold headNorm
  rw [show 64 * ((l : ℕ) / 64) + (l : ℕ) % 64 = l by omega]

theorem kNorm_real (x : FVec Ideal S640x128 .f32) (g : Vec Ideal S1x128 .f32) (r : Fin 640) (l : Fin 128) (f γ : ℕ → ℝ)
    (hx : ∀ l : Fin 128, x (ix2 r l) = ((f l : ℝ) : EReal)) (hg : ∀ l : Fin 128, g (ix2 0 l) = ((γ (l % 64) : ℝ) : EReal)) :
    kNorm x g (ix2 r l) = ((headNorm f (l / 64) γ (l % 64) : ℝ) : EReal) := by
  pointwise [kNorm, halfScaleK, lowLaneK]
  have sel : ∀ (k : Fin 128) (a b : EReal), Scalar.select (IntOp.cmpi .slt (BitVec.ofNat 32 (k : ℕ)) 64#32) a b = if (k : ℕ) < 64 then a else b :=
    fun k a b => select_slt (by omega) (by omega) a b
  simp only [sel, hx, hg, ofBits_inv64, ofBits_eps]
  rw [scale_pick f l l.isLt]
  simp only [← EReal.coe_mul]
  unfold headNorm
  rw [show 64 * ((l : ℕ) / 64) + (l : ℕ) % 64 = l by omega]

/-- Key head `h` in both halves of the lanes. -/
theorem kDup_real (h : ℕ) (hh : h < 2) (x : FVec Ideal S640x128 .f32) (r : Fin 640) (l : Fin 128) (K : ℕ → ℝ)
    (hx : ∀ l : Fin 128, x (ix2 r l) = ((K l : ℝ) : EReal)) :
    kDup h x (ix2 r l) = ((K (64 * h + l % 64) : ℝ) : EReal) := by
  have sel : ∀ (k : Fin 128) (a b : EReal), Scalar.select (IntOp.cmpi .slt (BitVec.ofNat 32 (k : ℕ)) 64#32) a b = if (k : ℕ) < 64 then a else b :=
    fun k a b => select_slt (by omega) (by omega) a b
  have hl := l.isLt
  obtain rfl | rfl : h = 0 ∨ h = 1 := by omega
  · rw [kDup, if_pos rfl]
    pointwise [lowLaneK, kRoll]
    simp only [sel, hx]
    split
    · rw [show (l : ℕ) % 64 = l by omega]
    · rw [show ((l : ℕ) + 128 - 64) % 128 = (l : ℕ) % 64 by omega]
  · rw [kDup, if_neg (by decide)]
    pointwise [lowLaneK, kRoll]
    simp only [sel, hx]
    split
    · rw [show 64 * 1 + (l : ℕ) % 64 = ((l : ℕ) + 128 - 64) % 128 by omega]
    · rw [show 64 * 1 + (l : ℕ) % 64 = l by omega]

/-- A query head's column, zero in the other head's lanes. -/
theorem qCols_real (q : FVec Ideal S128x128 .f32) (d : Fin 128) (c : Fin 256) (Q : ℕ → ℕ → ℝ)
    (hq : ∀ r l : Fin 128, q (ix2 r l) = ((Q r l : ℝ) : EReal)) :
    qCols q (ix2 d c) = (((if (d : ℕ) / 64 = (c : ℕ) / 128 then Q ((c : ℕ) % 128) d else 0 : ℝ)) : EReal) := by
  have sel : ∀ (k : Fin 128) (a b : EReal), Scalar.select (IntOp.cmpi .slt (BitVec.ofNat 32 (k : ℕ)) 64#32) a b = if (k : ℕ) < 64 then a else b :=
    fun k a b => select_slt (by omega) (by omega) a b
  have hd := d.isLt
  have hc := c.isLt
  pointwise [qCols, lowLane]
  simp only [sel, hq]
  by_cases h1 : (c : ℕ) < 128
  · rw [dif_pos h1, show (c : ℕ) % 128 = c by omega, show (c : ℕ) / 128 = 0 by omega]
    by_cases h2 : (d : ℕ) < 64
    · rw [if_pos h2, if_pos (by omega)]
    · rw [if_neg h2, if_neg (by omega)]; rfl
  · rw [dif_neg h1, show (c : ℕ) % 128 = c - 128 by omega, show (c : ℕ) / 128 = 1 by omega]
    by_cases h2 : (d : ℕ) < 64
    · rw [if_pos h2, if_neg (by omega)]; rfl
    · rw [if_neg h2, if_pos (by omega)]

/-- A sum over both heads' lanes, zero on the other head's. -/
theorem lanes_sum (h : ℕ) (hh : h < 2) (A B : ℕ → ℝ) :
    (∑ x : Fin 128, A ((x : ℕ) % 64) * (if (x : ℕ) / 64 = h then B x else 0)) = ∑ d : Fin 64, A d * B (64 * h + d) := by
  rw [Fin.sum_univ_two_halves 64 64 rfl]
  obtain rfl | rfl : h = 0 ∨ h = 1 := by omega
  · rw [Finset.sum_congr (g := fun _ => (0 : ℝ)) (s₁ := (Finset.univ : Finset (Fin 64))) (f := fun k : Fin 64 => A ((64 + (k : ℕ)) % 64) * (if (64 + (k : ℕ)) / 64 = 0 then B (64 + k) else 0)) rfl
      (fun k _ => by rw [if_neg (by omega), mul_zero]), Finset.sum_const_zero, add_zero]
    refine Finset.sum_congr rfl fun k _ => ?_
    have := k.isLt
    show A ((k : ℕ) % 64) * (if (k : ℕ) / 64 = 0 then B k else 0) = _
    rw [if_pos (by omega), show (k : ℕ) % 64 = k by omega, show 64 * 0 + (k : ℕ) = k by omega]
  · rw [Finset.sum_congr (g := fun _ => (0 : ℝ)) (s₁ := (Finset.univ : Finset (Fin 64))) (f := fun k : Fin 64 => A ((k : ℕ) % 64) * (if (k : ℕ) / 64 = 1 then B k else 0)) rfl
      (fun k _ => by have := k.isLt; rw [if_neg (by omega), mul_zero]), Finset.sum_const_zero, zero_add]
    refine Finset.sum_congr rfl fun k _ => ?_
    have := k.isLt
    show A ((64 + (k : ℕ)) % 64) * (if (64 + (k : ℕ)) / 64 = 1 then B (64 + k) else 0) = _
    rw [if_pos (by omega), show (64 + (k : ℕ)) % 64 = k by omega, show 64 * 1 + (k : ℕ) = 64 + k by omega]

theorem scores_real (k : FVec Ideal S256x128 .bf16) (q : FVec Ideal S128x256 .bf16) (j c : Fin 256) (A : ℕ → ℝ) (Q : ℕ → ℕ → ℝ)
    (hk : ∀ d : Fin 128, k (ix2 j d) = ((A ((d : ℕ) % 64) : ℝ) : EReal))
    (hq : ∀ d : Fin 128, q (ix2 d c) = (((if (d : ℕ) / 64 = (c : ℕ) / 128 then Q ((c : ℕ) % 128) d else 0 : ℝ)) : EReal)) :
    scores k q (ix2 j c) = ((∑ d : Fin 64, A d * Q ((c : ℕ) % 128) (64 * ((c : ℕ) / 128) + d) : ℝ) : EReal) := by
  have hc := c.isLt
  pointwise [scores]
  simp only [hk, hq, ← EReal.coe_mul]
  rw [← coe_sum, lanes_sum ((c : ℕ) / 128) (by omega) A (fun d => Q ((c : ℕ) % 128) d)]

/-- A mask bit. -/
def bit (p : Prop) [Decidable p] : BitVec 1 := if p then 1#1 else 0#1

theorem select_bit (p : Prop) [Decidable p] (a b : EReal) : Scalar.select (bit p) a b = if p then a else b := by
  unfold bit Scalar.select; split <;> simp

/-- The weights of a column. -/
theorem softmax_real (mk : IVec S256x256 1) (s : FVec Ideal S256x256 .f32) (z : Vec Ideal S1x256 .f32) (c : Fin 256)
    (P : Fin 256 → Prop) [DecidablePred P] (σ : Fin 256 → ℝ) (ζ : ℝ)
    (hm : ∀ j, mk (ix2 j c) = bit (P j)) (hs : ∀ j, s (ix2 j c) = ((σ j * (Real.log 2)⁻¹ : ℝ) : EReal))
    (hz : z (ix2 0 c) = ((ζ : ℝ) : EReal)) (j : Fin 256) :
    softmax (masked mk s) (sinkRow z) (ix2 j c) = ((wt P σ ζ j : ℝ) : EReal) := by
  have e : ∀ j, masked mk s (ix2 j c) = msk P σ (Real.log 2)⁻¹ j := fun j => by
    pointwise [masked]
    rw [hm, hs, named_mask, select_bit]; rfl
  have ez : sinkRow z (ix2 0 c) = ((ζ * (Real.log 2)⁻¹ : ℝ) : EReal) := by
    pointwise [sinkRow]
    rw [hz, named_log2e, ← EReal.coe_mul]
  generalize masked mk s = S at e
  generalize sinkRow z = Z at ez
  pointwise [softmax, weights, pows, colMax, colSum]
  simp only [e, ez, ofBits_negInf]
  exact kernel_wt P σ ζ _ rfl j

/-- One element of an output tile. -/
theorem outTile_real (v : FVec Ideal S64x256 .bf16) (w : FVec Ideal S256x256 .bf16) (r l : Fin 128) (V : Fin 256 → ℝ) (W : Fin 256 → ℝ)
    (hv : ∀ j : Fin 256, v (ix2 ⟨(l : ℕ) % 64, Nat.mod_lt _ (by decide)⟩ j) = ((V j : ℝ) : EReal))
    (hw : ∀ j : Fin 256, w (ix2 j ⟨128 * ((l : ℕ) / 64) + r, by omega⟩) = ((W j : ℝ) : EReal)) :
    outTile (outCols v w) (ix2 r l) = ((∑ j, V j * W j : ℝ) : EReal) := by
  have hl := l.isLt
  have e : (∑ j, v (ix2 ⟨(l : ℕ) % 64, Nat.mod_lt _ (by decide)⟩ j) * w (ix2 j ⟨128 * ((l : ℕ) / 64) + r, by omega⟩)) = ((∑ j, V j * W j : ℝ) : EReal) := by
    simp only [hv, hw, ← EReal.coe_mul]
    rw [← coe_sum]
  rw [← e]
  pointwise [outTile, outCols]
  split
  · refine Finset.sum_congr rfl fun j _ => ?_
    congr 3
    · simp only [Fin.mk.injEq]; omega
    · simp only [Fin.mk.injEq]; omega
  · refine Finset.sum_congr rfl fun j _ => ?_
    congr 3
    · simp only [Fin.mk.injEq]; omega
    · simp only [Fin.mk.injEq]; omega

/-! ## The mask -/

theorem col_mod (r c : Fin 256) : k0_pay15 (ix2 r c) = BitVec.ofNat 32 ((c : ℕ) % 128) := by
  pointwise [k0_pay15]
  revert c
  decide +kernel

theorem sle_small {a b : Nat} (ha : a < 2 ^ 31) (hb : b < 2 ^ 31) :
    (BitVec.ofNat 32 a).sle (BitVec.ofNat 32 b) = decide (a ≤ b) := by
  rw [BitVec.sle_eq_not_slt, slt_small hb ha]
  by_cases h : a ≤ b
  · rw [decide_eq_true h, decide_eq_false (not_lt.2 h)]; rfl
  · rw [decide_eq_false h, decide_eq_true (not_le.1 h)]; rfl

theorem bit_and (p q : Prop) [Decidable p] [Decidable q] : IntOp.andi (bit p) (bit q) = bit (p ∧ q) := by
  unfold bit IntOp.andi
  by_cases hp : p <;> by_cases hq : q <;> simp [hp, hq]

theorem ofBool_bit (p : Prop) [Decidable p] : BitVec.ofBool (decide p) = bit p := by
  unfold bit; by_cases hp : p <;> simp [hp]

theorem band_real (j c : Fin 256) : band (ix2 j c) = bit ((c : ℕ) % 128 < j ∧ (j : ℕ) ≤ (c : ℕ) % 128 + 128) := by
  have hj := j.isLt
  have hc := c.isLt
  have e : k0_pay15 (ix2 j c) = BitVec.ofNat 32 ((c : ℕ) % 128) := col_mod j c
  unfold band
  generalize k0_pay15 (ix2 j c) = w at e
  have e1 : k0_pay16 (ix2 j c) = bit ((c : ℕ) % 128 < j) := by
    have e' := col_mod j c
    unfold k0_pay16
    generalize k0_pay15 = X at e'
    pointwise
    rw [e', ← ofBool_bit]
    show BitVec.ofBool ((BitVec.ofNat 32 ((c : ℕ) % 128)).slt (BitVec.ofNat 32 (j : ℕ))) = _
    rw [slt_small (by omega) (by omega)]
  have e2 : k0_pay17 (ix2 j c) = bit ((j : ℕ) ≤ (c : ℕ) % 128 + 128) := by
    have e' := col_mod j c
    unfold k0_pay17
    generalize k0_pay15 = X at e'
    pointwise
    rw [e', ← ofBool_bit]
    show BitVec.ofBool ((BitVec.ofNat 32 (j : ℕ)).sle (BitVec.ofNat 32 ((c : ℕ) % 128) + BitVec.ofNat 32 128)) = _
    rw [← BitVec.ofNat_add, sle_small (by omega) (by omega)]
  unfold k0_pay18
  generalize k0_pay16 = X at e1
  generalize k0_pay17 = Y at e2
  pointwise
  rw [e1, e2, bit_and]

theorem first_real (i : grid0.Coords) : first i = bit ((i 0 : ℕ) % 16 = 0) := by
  have h : ∀ n : Fin 32, Scalar.cmpi .eq (Scalar.select (Scalar.andi (Scalar.xori
      (Scalar.cmpi .slt (Scalar.remsi (BitVec.ofNat 32 n.val) (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi (BitVec.ofNat 32 n.val) (Scalar.select (Scalar.cmpi .eq 16#32 0#32) 1#32 16#32)) 0#32))
    (Scalar.addi (Scalar.remsi (BitVec.ofNat 32 n.val) (Scalar.select (Scalar.cmpi .eq 16#32 0#32) 1#32 16#32)) (Scalar.select (Scalar.cmpi .eq 16#32 0#32) 1#32 16#32))
    (Scalar.remsi (BitVec.ofNat 32 n.val) (Scalar.select (Scalar.cmpi .eq 16#32 0#32) 1#32 16#32))) 0#32 = bit (n.val % 16 = 0) := by
    decide +kernel
  exact h (i 0)

theorem mask_real (i : grid0.Coords) (s : ℕ) (j c : Fin 256) :
    maskOf i s (ix2 j c) = bit (((c : ℕ) % 128 < j ∧ (j : ℕ) ≤ (c : ℕ) % 128 + 128) ∧ (s = 0 → (i 0 : ℕ) % 16 = 0 → 128 ≤ (j : ℕ))) := by
  have hj := j.isLt
  have eb := band_real j c
  unfold maskOf
  split
  · rename_i hs
    have e : k0_pay19 (first i) (iota .tc S256x256 32 [0] iota_S256x256_d0_w32) k0_pay16 k0_pay17 (ix2 j c)
        = IntOp.andi (band (ix2 j c)) (IntOp.cmpi .sge (BitVec.ofNat 32 (j : ℕ)) (Scalar.select (first i) 128#32 0#32)) := by
      unfold band k0_pay19
      generalize k0_pay18 k0_pay16 k0_pay17 = X
      generalize first i = b
      pointwise
    rw [e, eb, first_real]
    have e2 : IntOp.cmpi .sge (BitVec.ofNat 32 (j : ℕ)) (Scalar.select (bit ((i 0 : ℕ) % 16 = 0)) 128#32 0#32) = bit ((i 0 : ℕ) % 16 = 0 → 128 ≤ (j : ℕ)) := by
      by_cases h : (i 0 : ℕ) % 16 = 0
      · rw [show Scalar.select (bit ((i 0 : ℕ) % 16 = 0)) 128#32 0#32 = BitVec.ofNat 32 128 by simp [bit, h, Scalar.select], ← ofBool_bit]
        show BitVec.ofBool ((BitVec.ofNat 32 128).sle (BitVec.ofNat 32 (j : ℕ))) = _
        rw [sle_small (by omega) (by omega)]
        simp [h]
      · rw [show Scalar.select (bit ((i 0 : ℕ) % 16 = 0)) 128#32 0#32 = BitVec.ofNat 32 0 by simp [bit, h, Scalar.select], ← ofBool_bit]
        show BitVec.ofBool ((BitVec.ofNat 32 0).sle (BitVec.ofNat 32 (j : ℕ))) = _
        rw [sle_small (by omega) (by omega)]
        simp [h]
    rw [e2, bit_and]
    simp [hs]
  · rename_i hs
    rw [eb]
    simp [hs]

/-! ## One output tile -/

/-- The score of query column `c` and a key, before the change of base. -/
def logit (A : ℕ → ℝ) (f : ℕ → ℝ) (h : ℕ) (γ : ℕ → ℝ) : ℝ := (∑ d : Fin 64, A d * headNorm f h γ d) * (Real.sqrt 64)⁻¹

theorem unit_real (mk : IVec S256x256 1) (k : FVec Ideal S256x128 .bf16) (v : FVec Ideal S64x256 .bf16)
    (q : Vec Ideal S128x128 .f32) (g : Vec Ideal S1x128 .f32) (z : Vec Ideal S1x256 .f32) (r l : Fin 128)
    (P : ℕ → Fin 256 → Prop) [∀ r, DecidablePred (P r)] (A : Fin 256 → ℕ → ℝ) (V : Fin 256 → ℝ) (f : ℕ → ℕ → ℝ) (γ : ℕ → ℝ) (ζ : ℕ → ℝ)
    (hm : ∀ j c : Fin 256, mk (ix2 j c) = bit (P ((c : ℕ) % 128) j))
    (hk : ∀ (j : Fin 256) (d : Fin 128), k (ix2 j d) = ((A j ((d : ℕ) % 64) : ℝ) : EReal))
    (hv : ∀ j : Fin 256, v (ix2 ⟨(l : ℕ) % 64, Nat.mod_lt _ (by decide)⟩ j) = ((V j : ℝ) : EReal))
    (hq : ∀ r l : Fin 128, q (ix2 r l) = ((f r l : ℝ) : EReal))
    (hg : ∀ l : Fin 128, g (ix2 0 l) = ((γ (l % 64) : ℝ) : EReal))
    (hz : ∀ c : Fin 256, z (ix2 0 c) = ((ζ ((c : ℕ) / 128) : ℝ) : EReal)) :
    unit mk k v q g z (ix2 r l)
      = ((∑ j, V j * wt (P r) (fun j => logit (A j) (f r) ((l : ℕ) / 64) γ) (ζ ((l : ℕ) / 64)) j : ℝ) : EReal) := by
  have hr := r.isLt
  have hl := l.isLt
  unfold unit
  refine outTile_real v _ r l V _ hv fun j => ?_
  have ec : (128 * ((l : ℕ) / 64) + r) % 128 = r := by omega
  have eh : (128 * ((l : ℕ) / 64) + r) / 128 = (l : ℕ) / 64 := by omega
  refine softmax_real mk _ z ⟨128 * ((l : ℕ) / 64) + r, by omega⟩ (P r) _ _ (fun j => ?_) (fun j => ?_) ?_ j
  · rw [hm]
    show bit (P ((128 * ((l : ℕ) / 64) + r) % 128) j) = bit (P r j)
    simp only [ec]
  · rw [scores_real k _ j ⟨128 * ((l : ℕ) / 64) + r, by omega⟩ (A j)
      (fun r l => headNorm (f r) (l / 64) γ (l % 64) * ((Real.sqrt 64)⁻¹ * (Real.log 2)⁻¹)) (hk j)
      (fun d => qCols_real _ d _ (fun r l => headNorm (f r) (l / 64) γ (l % 64) * ((Real.sqrt 64)⁻¹ * (Real.log 2)⁻¹)) fun r l => qNorm_real q g r l (f r) γ (hq r) hg)]
    simp only [ec, eh]
    unfold logit
    rw [Finset.sum_mul, Finset.sum_mul]
    congr 1
    refine Finset.sum_congr rfl fun d _ => ?_
    have hd := d.isLt
    rw [show (64 * ((l : ℕ) / 64) + (d : ℕ)) / 64 = (l : ℕ) / 64 by omega, show (64 * ((l : ℕ) / 64) + (d : ℕ)) % 64 = d by omega]
    ring
  · rw [hz]
    show ((ζ ((128 * ((l : ℕ) / 64) + r) / 128) : ℝ) : EReal) = _
    rw [eh]

end Cert.KernelIdeal.Swa

end
-- ==== Proof.Swa.TileReal.lean ====
/- An output tile from the point's blocks, the blocks reals. -/
module

public import proofs.«01_k».proof.Proof.Swa.Pieces
public import proofs.«01_k».proof.Proof.Swa.Real

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.Pointwise
open Cert.Swa Cert.Consts

/-- The keys a query row of the group sees: at most 128 back, itself the last, and none before the batch. -/
def Seen (b : Prop) (r : ℕ) (j : Fin 256) : Prop := (r < j ∧ (j : ℕ) ≤ r + 128) ∧ (b → 128 ≤ (j : ℕ))

instance (b : Prop) [Decidable b] (r : ℕ) : DecidablePred (Seen b r) := fun j => by unfold Seen; infer_instance

/-- The attention's output at one query row and one lane: `q` the query row of 1024, `K j` and `V j` the two key heads'
    and the two value heads' 128 lanes of window key `j`. -/
def attend (b : Prop) [Decidable b] (r : ℕ) (q : ℕ → ℝ) (K V : Fin 256 → ℕ → ℝ) (γq γk ζ : ℕ → ℝ) (p l : ℕ) : ℝ :=
  ∑ j, V j (64 * (p / 4) + l % 64)
    * wt (Seen b r) (fun j => logit (fun d => headNorm (K j) (p / 4) γk d) (fun l => q (128 * p + l)) (l / 64) γq) (ζ (2 * p + l / 64)) j

theorem tile_real (i : grid0.Coords) (x0 : Vec Ideal S512x1024 .f32) (x1 x2 : Vec Ideal S512x128 .f32) (x3 x4 : Vec Ideal S128x128 .f32)
    (x5 x6 : Vec Ideal S1x128 .f32) (x7 : Vec Ideal S8x256 .f32) (s p : Nat) (hs : s < 4) (hp : p < 8) (r l : Fin 128)
    (Q K V : ℕ → ℕ → ℝ) (γq γk ζ : ℕ → ℝ)
    (h0 : ∀ a b, x0 (ix2 a b) = ((Q a b : ℝ) : EReal))
    (hK : ∀ a b, withHalo x3 x1 (ix2 a b) = ((K a b : ℝ) : EReal))
    (hV : ∀ a b, withHalo x4 x2 (ix2 a b) = ((V a b : ℝ) : EReal))
    (h5 : ∀ a : Fin 128, x5 (ix2 0 a) = ((γq (a % 64) : ℝ) : EReal))
    (h6 : ∀ a : Fin 128, x6 (ix2 0 a) = ((γk (a % 64) : ℝ) : EReal))
    (h7 : ∀ a b, x7 (ix2 a b) = ((ζ (2 * a + (b : ℕ) / 128) : ℝ) : EReal)) :
    tileAt i x0 x1 x2 x3 x4 x5 x6 x7 s p hs hp (ix2 r l)
      = ((attend (s = 0 ∧ (i 0 : ℕ) % 16 = 0) r (Q (128 * s + r)) (fun j => K (128 * s + j)) (fun j => V (128 * s + j)) γq γk ζ p l : ℝ) : EReal) := by
  unfold tileAt attend
  refine unit_real _ _ _ _ _ _ r l (Seen (s = 0 ∧ (i 0 : ℕ) % 16 = 0)) (fun j d => headNorm (K (128 * s + j)) (p / 4) γk d)
    (fun j => V (128 * s + j) (64 * (p / 4) + (l : ℕ) % 64)) (fun r l => Q (128 * s + r) (128 * p + l)) γq (fun h => ζ (2 * p + h))
    (fun j c => ?_) (fun j d => ?_) (fun j => ?_) (fun r l => ?_) h5 (fun c => ?_)
  · rw [mask_real]
    unfold Seen bit
    simp only [and_imp]
  · have e : ∀ b, kNorm (withHalo x3 x1) x6 (ix2 ⟨128 * s + j, by omega⟩ b) = ((headNorm (K (128 * s + j)) (b / 64) γk (b % 64) : ℝ) : EReal) :=
      fun b => kNorm_real _ x6 ⟨128 * s + j, by omega⟩ b (K (128 * s + j)) γk (fun l => hK _ l) h6
    have e2 := kDup_real (p / 4) (by omega) (kNorm (withHalo x3 x1) x6) ⟨128 * s + j, by omega⟩ d
      (fun b => headNorm (K (128 * s + j)) (b / 64) γk (b % 64)) e
    have hd := d.isLt
    simp only [show (64 * (p / 4) + (d : ℕ) % 64) / 64 = p / 4 by omega, show (64 * (p / 4) + (d : ℕ) % 64) % 64 = (d : ℕ) % 64 by omega] at e2
    rw [← e2]
    generalize kDup (p / 4) (kNorm (withHalo x3 x1) x6) = X
    pointwise
  · have e := hV ⟨128 * s + j, by omega⟩ ⟨64 * (p / 4) + (l : ℕ) % 64, by omega⟩
    unfold vCols
    rw [← e]
    generalize withHalo x4 x2 = X
    pointwise
  · rw [← h0 ⟨128 * s + r, by omega⟩ ⟨128 * p + l, by omega⟩]
    pointwise
  · rw [← h7 ⟨p, hp⟩ c]
    pointwise

end Cert.KernelIdeal.Swa

end
-- ==== Proof.Swa.Blocks.lean ====
/- The blocks of a grid point, read off the arguments. -/
module

public import proofs.«01_k».proof.Proof.Swa.TileReal

@[expose] public section

set_option maxRecDepth 16384

noncomputable section

namespace Cert.KernelIdeal.Swa

open Cert.KernelIdeal Cert.KernelIdeal.Gen Idealize.ShloMosaic Idealize.ShloMosaic.TcCoe Idealize.SL.Sem Idealize.ShloMosaic.Pointwise

variable (m : (ℓ : Loc nD τ sig) → Buf (Elt Ideal) ℓ)

theorem idx0 : ∀ t : Fin cfg0.N, win0_0.index t = ![(t : ℕ), 10] := (by decide +kernel : ∀ t : Fin grid0.N, _)
theorem idx1 : ∀ t : Fin cfg0.N, win0_1.index t = ![(t : ℕ), 88] := (by decide +kernel : ∀ t : Fin grid0.N, _)
theorem idx2 : ∀ t : Fin cfg0.N, win0_2.index t = ![(t : ℕ), 89] := (by decide +kernel : ∀ t : Fin grid0.N, _)
theorem idx3 : ∀ t : Fin cfg0.N, win0_3.index t = ![4 * (t : ℕ) - 1, 88] := (by decide +kernel : ∀ t : Fin grid0.N, _)
theorem idx4 : ∀ t : Fin cfg0.N, win0_4.index t = ![4 * (t : ℕ) - 1, 89] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![(t : ℕ), 0] := (by decide +kernel : ∀ t : Fin grid0.N, _)
theorem coord : ∀ t : Fin cfg0.N, (grid0.coords t 0 : ℕ) = t := (by decide +kernel : ∀ t : Fin grid0.N, _)

theorem lt32 (t : Fin cfg0.N) : (t : ℕ) < 32 := t.isLt

/-- The query block. -/
theorem read0 (c : Dev nD) (t : Fin cfg0.N) (a : Fin 512) (b : Fin 1024) :
    X0_0 m c t (ix2 a b) = m ((c : Thread nD τ).loc main_arg0) (ix2 ⟨512 * t + a, by have := lt32 t; omega⟩ ⟨10240 + b, by omega⟩) := by
  unfold X0_0 Pipeline.Window.fill
  rw [dif_pos (moved0_0 t _)]
  blk_simp [iblk]
  rw [V_main_arg0]
  refine congrArg _ ?_
  blk_ext [idx0 t]

/-- The key block. -/
theorem read1 (c : Dev nD) (t : Fin cfg0.N) (a : Fin 512) (b : Fin 128) :
    iblk m c 1 t (ix2 a b) = m ((c : Thread nD τ).loc main_arg0) (ix2 ⟨512 * t + a, by have := lt32 t; omega⟩ ⟨11264 + b, by omega⟩) := by
  blk_simp [iblk]
  rw [V_main_arg0]
  refine congrArg _ ?_
  blk_ext [idx1 t]

/-- The value block. -/
theorem read2 (c : Dev nD) (t : Fin cfg0.N) (a : Fin 512) (b : Fin 128) :
    iblk m c 2 t (ix2 a b) = m ((c : Thread nD τ).loc main_arg0) (ix2 ⟨512 * t + a, by have := lt32 t; omega⟩ ⟨11392 + b, by omega⟩) := by
  blk_simp [iblk]
  rw [V_main_arg0]
  refine congrArg _ ?_
  blk_ext [idx2 t]

/-- The 128 key rows before the block (the first point stages the array's first 128). -/
theorem read3 (c : Dev nD) (t : Fin cfg0.N) (a : Fin 128) (b : Fin 128) :
    iblk m c 3 t (ix2 a b) = m ((c : Thread nD τ).loc main_arg0) (ix2 ⟨128 * (4 * t - 1) + a, by have := lt32 t; omega⟩ ⟨11264 + b, by omega⟩) := by
  blk_simp [iblk]
  rw [V_main_arg0]
  refine congrArg _ ?_
  blk_ext [idx3 t]

/-- The 128 value rows before the block. -/
theorem read4 (c : Dev nD) (t : Fin cfg0.N) (a : Fin 128) (b : Fin 128) :
    iblk m c 4 t (ix2 a b) = m ((c : Thread nD τ).loc main_arg0) (ix2 ⟨128 * (4 * t - 1) + a, by have := lt32 t; omega⟩ ⟨11392 + b, by omega⟩) := by
  blk_simp [iblk]
  rw [V_main_arg0]
  refine congrArg _ ?_
  blk_ext [idx4 t]

/-- The query gain, laid twice along the lanes. -/
theorem gain_q (c : Dev nD) (b : Fin 128) :
    V m c main_v6 (ix2 0 b) = m ((c : Thread nD τ).loc main_arg1) (ix1 ⟨b % 64, by omega⟩) := by
  have e : V m c main_v6 = shapeCast S1x128 (shapeCast S128 (broadcastInDim S2x64 ![0, 1] bcast_S1x64_S2x64_0_1
      (shapeCast S1x64 (m ((c : Thread nD τ).loc main_arg1)) shapeCasts_S64_S1x64)) shapeCasts_S2x64_S128) shapeCasts_S128_S1x128 := by
    unfold V; after_results
    rfl
  rw [e]
  generalize m ((c : Thread nD τ).loc main_arg1) = X
  pointwise

/-- The key gain, laid twice along the lanes. -/
theorem gain_k (c : Dev nD) (b : Fin 128) :
    V m c main_v10 (ix2 0 b) = m ((c : Thread nD τ).loc main_arg2) (ix1 ⟨b % 64, by omega⟩) := by
  have e : V m c main_v10 = shapeCast S1x128 (shapeCast S128 (broadcastInDim S2x64 ![0, 1] bcast_S1x64_S2x64_0_1
      (shapeCast S1x64 (m ((c : Thread nD τ).loc main_arg2)) shapeCasts_S64_S1x64)) shapeCasts_S2x64_S128) shapeCasts_S128_S1x128 := by
    unfold V; after_results
    rfl
  rw [e]
  generalize m ((c : Thread nD τ).loc main_arg2) = X
  pointwise

/-- The sinks, each laid along 128 lanes, two to a row. -/
theorem sinks (c : Dev nD) (a : Fin 8) (b : Fin 256) :
    V m c main_v2 (ix2 a b) = m ((c : Thread nD τ).loc main_arg3) (ix1 ⟨2 * a + (b : ℕ) / 128, by omega⟩) := by
  have e : V m c main_v2 = shapeCast S8x256 (shapeCast S2048 (broadcastInDim S16x128 ![0] bcast_S16_S16x128_0
      (m ((c : Thread nD τ).loc main_arg3))) shapeCasts_S16x128_S2048) shapeCasts_S2048_S8x256 := by
    unfold V; after_results
    rfl
  rw [e]
  generalize m ((c : Thread nD τ).loc main_arg3) = X
  pointwise
  exact congrArg X (congrArg ix1 (Fin.ext (by show (a : ℕ) * 2 + (b : ℕ) / 128 = 2 * a + (b : ℕ) / 128; omega)))

theorem read5 (c : Dev nD) (t : Fin cfg0.N) (b : Fin 128) :
    iblk m c 5 t (ix2 0 b) = m ((c : Thread nD τ).loc main_arg1) (ix1 ⟨b % 64, by omega⟩) := by
  rw [← gain_q m c b]
  blk_simp [iblk]
  refine congrArg (V m c main_v6) ?_
  blk_ext [idx5 t]

theorem read6 (c : Dev nD) (t : Fin cfg0.N) (b : Fin 128) :
    iblk m c 6 t (ix2 0 b) = m ((c : Thread nD τ).loc main_arg2) (ix1 ⟨b % 64, by omega⟩) := by
  rw [← gain_k m c b]
  blk_simp [iblk]
  refine congrArg (V m c main_v10) ?_
  blk_ext [idx6 t]

theorem read7 (c : Dev nD) (t : Fin cfg0.N) (a : Fin 8) (b : Fin 256) :
    iblk m c 7 t (ix2 a b) = m ((c : Thread nD τ).loc main_arg3) (ix1 ⟨2 * a + (b : ℕ) / 128, by omega⟩) := by
  rw [← sinks m c a b]
  blk_simp [iblk]
  refine congrArg (V m c main_v2) ?_
  blk_ext [idx7 t]

/-- The 640 rows of keys (or values): the 128 before the block, then the block's. -/
theorem withHalo_at (h : Vec Ideal S128x128 .f32) (x : Vec Ideal S512x128 .f32) (a : Fin 640) (b : Fin 128) :
    withHalo h x (ix2 a b) = if ha : (a : ℕ) < 128 then h (ix2 ⟨a, ha⟩ b) else x (ix2 ⟨a - 128, by omega⟩ b) := by
  unfold withHalo
  pointwise

end Cert.KernelIdeal.Swa

end
-- ==== Proof.Swa.Out.lean ====
/- The kernel's result: every element is the attention of the reals in the arguments. -/
module

public import proofs.«01_k».proof.Proof.Swa.Blocks

@[expose] public section

set_option maxRecDepth 16384

noncomputable section

namespace Cert.Swa

theorem wt_congr {n : Nat} (P : Fin n → Prop) [DecidablePred P] (s s' : Fin n → ℝ) (z : ℝ) (h : ∀ j, P j → s j = s' j) (j : Fin n) :
    wt P s z j = wt P s' z j := by
  have e : ∀ j, expo P s j = expo P s' j := fun j => by
    unfold expo; split
    · rename_i hj; rw [h j hj]
    · rfl
  unfold wt total
  simp only [e]

end Cert.Swa

namespace Cert.KernelIdeal.Swa

open Cert.KernelIdeal Cert.KernelIdeal.Gen Idealize.ShloMosaic Idealize.ShloMosaic.TcCoe Idealize.SL.Sem Idealize.ShloMosaic.Pointwise
open Cert.Swa

/-- Only the keys a row sees enter its output. -/
theorem attend_congr (b b' : Prop) [ib : Decidable b] [ib' : Decidable b'] (hb : b ↔ b') (r : ℕ) (q : ℕ → ℝ) (K K' V V' : Fin 256 → ℕ → ℝ) (γq γk ζ : ℕ → ℝ) (p l : ℕ)
    (hK : ∀ j, Seen b r j → K j = K' j) (hV : ∀ j, Seen b r j → V j = V' j) :
    attend b r q K V γq γk ζ p l = attend b' r q K' V' γq γk ζ p l := by
  obtain rfl : b = b' := propext hb
  obtain rfl : ib = ib' := Subsingleton.elim _ _
  unfold attend
  refine Finset.sum_congr rfl fun j _ => ?_
  by_cases h : Seen b r j
  · rw [hV j h]
    refine congrArg₂ _ rfl (wt_congr (Seen b r) _ _ _ (fun j hj => ?_) j)
    simp only [hK j hj]
  · rw [wt_zero _ _ _ h, wt_zero _ _ _ h, mul_zero, mul_zero]

/-- The attention over a batch of rows of the packed projection `X`: row `n`, lane `l`. Blocks of 128 rows; a block sees itself and
    the block before, the first block of a batch of 64 blocks only itself. -/
def swa (X : ℕ → ℕ → ℝ) (γq γk ζ : ℕ → ℝ) (n l : ℕ) : ℝ :=
  attend (n / 128 % 64 = 0) (n % 128) (fun c => X n (10240 + c)) (fun j c => X (128 * (n / 128) + j - 128) (11264 + c))
    (fun j c => X (128 * (n / 128) + j - 128) (11392 + c)) γq γk ζ (l / 128) (l % 128)

variable (m : (ℓ : Loc nD τ sig) → Buf (Elt Ideal) ℓ) (c : Dev nD)
variable (X : ℕ → ℕ → ℝ) (γq γk ζ : ℕ → ℝ)

theorem hz2 : (![0, 0] : Fin 2 → Nat) = fun _ => 0 := by funext a; fin_cases a <;> rfl

/-- The row of the array that row `a` of the 640 staged ones is. -/
def stagedRow (t a : ℕ) : ℕ := if a < 128 then 128 * (4 * t - 1) + a else 512 * t + (a - 128)

theorem point_out (h0 : ∀ n l, m ((c : Thread nD τ).loc main_arg0) (ix2 n l) = ((X n l : ℝ) : EReal))
    (h1 : ∀ d, m ((c : Thread nD τ).loc main_arg1) (ix1 d) = ((γq d : ℝ) : EReal))
    (h2 : ∀ d, m ((c : Thread nD τ).loc main_arg2) (ix1 d) = ((γk d : ℝ) : EReal))
    (h3 : ∀ d, m ((c : Thread nD τ).loc main_arg3) (ix1 d) = ((ζ d : ℝ) : EReal))
    (t : Fin cfg0.N) (a : Fin 512) (b : Fin 1024) :
    outsAt0 m c t (ix2 a b) = ((swa X γq γk ζ (512 * t + a) b : ℝ) : EReal) := by
  have ht := lt32 t
  refine outs_raw m c t (ix2 a b) _ fun x o o' e0 e1 ho ho' hs hp => ?_
  rw [(hs0_0 t).read_unread _, (hs0_1 t).read_unread _, (hs0_2 t).read_unread _, (hs0_3 t).read_unread _, (hs0_4 t).read_unread _,
    (hs0_5 t).read_unread _, (hs0_6 t).read_unread _, (hs0_7 t).read_unread _,
    View.ld_unit_zero (S := S512x128) hz2 _ _, View.ld_unit_zero (S := S512x128) hz2 _ _, View.ld_unit_zero (S := S128x128) hz2 _ _,
    View.ld_unit_zero (S := S128x128) hz2 _ _, View.ld_unit_zero (S := S1x128) hz2 _ _, View.ld_unit_zero (S := S1x128) hz2 _ _]
  have e0' : (a : ℕ) = o + (x 0 : ℕ) := e0
  have e1' : (b : ℕ) = o' + (x 1 : ℕ) := e1
  rw [tileAt_pick _ _ _ _ _ _ _ _ _ ((a : ℕ) / 128) ((b : ℕ) / 128) (by omega) (by omega) ⟨(a : ℕ) % 128, by omega⟩ ⟨(b : ℕ) % 128, by omega⟩ x o o'
    (by show 128 * ((a : ℕ) / 128) + (a : ℕ) % 128 = _; omega) (by show 128 * ((b : ℕ) / 128) + (b : ℕ) % 128 = _; omega) ho ho' hs hp]
  rw [tile_real _ _ _ _ _ _ _ _ _ _ _ _ _ _ _ (fun a b => X (512 * t + a) (10240 + b)) (fun a b => X (stagedRow t a) (11264 + b))
    (fun a b => X (stagedRow t a) (11392 + b)) γq γk ζ
    (fun a b => by rw [read0, h0]) (fun a b => by
      rw [withHalo_at]; unfold stagedRow
      split
      · rw [read3, h0]
      · rw [read1, h0])
    (fun a b => by
      rw [withHalo_at]; unfold stagedRow
      split
      · rw [read4, h0]
      · rw [read2, h0])
    (fun b => by rw [read5, h1]) (fun b => by rw [read6, h2]) (fun a b => by rw [read7, h3])]
  refine congrArg _ ?_
  unfold swa
  have er : (512 * (t : ℕ) + a) / 128 = 4 * t + (a : ℕ) / 128 := by omega
  have er' : (512 * (t : ℕ) + a) % 128 = (a : ℕ) % 128 := by omega
  have ea : 128 * ((a : ℕ) / 128) + (a : ℕ) % 128 = a := by omega
  rw [er, er', coord]
  have key : ∀ j : Fin 256, Seen ((a : ℕ) / 128 = 0 ∧ (t : ℕ) % 16 = 0) ((a : ℕ) % 128) j →
      stagedRow t (128 * ((a : ℕ) / 128) + j) = 128 * (4 * t + (a : ℕ) / 128) + j - 128 := fun j hj => by
    obtain ⟨_, hj⟩ := hj
    unfold stagedRow
    split
    · have h0 : (a : ℕ) / 128 = 0 := by omega
      have : ¬ (t : ℕ) % 16 = 0 := fun h => by have := hj ⟨h0, h⟩; omega
      omega
    · omega
  dsimp only
  rw [ea]
  refine attend_congr _ _ (by omega) _ _ _ _ _ _ _ _ _ _ _ (fun j hj => ?_) (fun j hj => ?_)
  · funext c; rw [key j hj]
  · funext c; rw [key j hj]

/-- The kernel's result. -/
theorem result (h0 : ∀ n l, m ((c : Thread nD τ).loc main_arg0) (ix2 n l) = ((X n l : ℝ) : EReal))
    (h1 : ∀ d, m ((c : Thread nD τ).loc main_arg1) (ix1 d) = ((γq d : ℝ) : EReal))
    (h2 : ∀ d, m ((c : Thread nD τ).loc main_arg2) (ix1 d) = ((γk d : ℝ) : EReal))
    (h3 : ∀ d, m ((c : Thread nD τ).loc main_arg3) (ix1 d) = ((ζ d : ℝ) : EReal)) :
    (dats m 0 c).arrAt 8 cfg0.N = fun y : S16384x1024.Idx => ((swa X γq γk ζ (y 0 : ℕ) (y 1 : ℕ) : ℝ) : EReal) := by
  refine (dats m 0 c).arrAt_eq_of_covers 8 _ (by decide +kernel) fun t hf y => ?_
  blk_simp
  rw [after0_8]
  rw [idx8 t]
  obtain ⟨a, b, rfl⟩ : ∃ (a : Fin 512) (b : Fin 1024), y = ix2 a b := ⟨y 0, y 1, by funext d; fin_cases d <;> rfl⟩
  rw [point_out m c X γq γk ζ h0 h1 h2 h3 t a b]
  refine congrArg (fun n : ℝ => (n : EReal)) (congrArg₂ (swa X γq γk ζ) ?_ ?_)
  · show 512 * (t : ℕ) + a = (t : ℕ) * 512 + a; omega
  · show (b : ℕ) = 0 * 1024 + b; omega

end Cert.KernelIdeal.Swa

end
-- ==== Proof.Swa.RefParts.lean ====
/- The reference's queries, keys and values, the arguments reals: each head normalised, the keys and values laid in
   windows of two blocks. -/
module

public import proofs.«01_k».proof.Proof.Swa.Out
public import proofs.«01_k».proof.Proof.Gen.ReferenceIdeal.Read
public import Idealize.ShloMosaic.Lib.ValueIdxRank6
public import Idealize.ShloMosaic.Lib.KernelVsHost

@[expose] public section

set_option maxRecDepth 16384

noncomputable section

namespace Cert.ReferenceIdeal.Swa

open Cert.ReferenceIdeal Cert.ReferenceIdeal.Gen Cert.ReferenceIdeal.Read Idealize.ShloMosaic Idealize.ShloMosaic.TcCoe Idealize.SL.Sem
open Cert.Swa Cert.Consts
open Cert.KernelIdeal.Swa (headNorm logit Seen attend bit select_bit)

variable (x0 : (⟨S16384x11776, .f32⟩ : BufTy).Contents (Elt Ideal)) (x1 x2 : (⟨S64, .f32⟩ : BufTy).Contents (Elt Ideal))
  (x3 : (⟨S16, .f32⟩ : BufTy).Contents (Elt Ideal))
variable (X : ℕ → ℕ → ℝ) (γq γk ζ : ℕ → ℝ)

theorem at2 (h0 : ∀ j, x0 j = ((X (j 0 : ℕ) (j 1 : ℕ) : ℝ) : EReal)) (j : S16384x11776.Idx) (n l : ℕ) (hn : (j 0 : ℕ) = n) (hl : (j 1 : ℕ) = l) :
    x0 j = ((X n l : ℝ) : EReal) := by rw [h0, hn, hl]

/-- The normalised element, from its row's elements. -/
theorem norm_real (f : ℕ → ℝ) (h : ℕ) (γ : ℕ → ℝ) (d : ℕ) :
    FloatOps.mulf (F := Ideal) (φ := .f32) (FloatOps.mulf (F := Ideal) (φ := .f32) ((f (64 * h + d) : ℝ) : EReal)
      (FloatOps.hostUnary (F := Ideal) (φ := .f32) .rsqrt (FloatOps.addf (F := Ideal) (φ := .f32) (FloatOps.hostDivf (F := Ideal) (φ := .f32)
        ((FloatOps.ofBits .f32 0x00000000#32 : Ideal .f32) + ∑ k : Fin 64, FloatOps.mulf (F := Ideal) (φ := .f32) ((f (64 * h + k) : ℝ) : EReal) ((f (64 * h + k) : ℝ) : EReal))
        (FloatOps.ofBits .f32 0x42800000#32)) (FloatOps.ofBits .f32 0x358637BD#32)))) ((γ d : ℝ) : EReal)
      = ((headNorm f h γ d : ℝ) : EReal) := by
  have e := rsqrt_ms (fun k : Fin 64 => f (64 * h + k))
  have e64 : Ideal.div ((∑ k : Fin 64, ((f (64 * h + k) : ℝ) : EReal) * ((f (64 * h + k) : ℝ) : EReal))) ((64 : ℝ) : EReal)
      = (∑ k : Fin 64, ((f (64 * h + k) : ℝ) : EReal) * ((f (64 * h + k) : ℝ) : EReal)) * ((1 / 64 : ℝ) : EReal) := by
    rw [Ideal.div_coe (by norm_num)]
  show (((f (64 * h + d) : ℝ) : EReal) * Ideal.rsqrt (Ideal.div ((Ideal.ofBits .f32 0x00000000#32) + ∑ k : Fin 64, ((f (64 * h + k) : ℝ) : EReal) * ((f (64 * h + k) : ℝ) : EReal))
    (Ideal.ofBits .f32 0x42800000#32) + Ideal.ofBits .f32 0x358637BD#32)) * ((γ d : ℝ) : EReal) = _
  rw [ofBits_64, ofBits_eps, Ideal.ofBits_zero, zero_add, e64, e, ← EReal.coe_mul, ← EReal.coe_mul]
  rfl

theorem v1_real (h0 : ∀ j, x0 j = ((X (j 0 : ℕ) (j 1 : ℕ) : ℝ) : EReal)) (i : S2x8192x16x64.Idx) :
    val_main_v1 (F := Ideal) x0 i = ((X (8192 * (i 0 : ℕ) + (i 1 : ℕ)) (10240 + (64 * (i 2 : ℕ) + (i 3 : ℕ))) : ℝ) : EReal) := by
  have b0 : (i 0 : ℕ) < 2 := (i 0).isLt
  have b1 : (i 1 : ℕ) < 8192 := (i 1).isLt
  have b2 : (i 2 : ℕ) < 16 := (i 2).isLt
  have b3 : (i 3 : ℕ) < 64 := (i 3).isLt
  rw [val_main_v1_apply, val_main_v0_apply]
  exact at2 x0 X h0 _ _ _ (by show ((((i 0 : ℕ) * 8192 + (i 1 : ℕ)) * 16 + (i 2 : ℕ)) * 64 + (i 3 : ℕ)) / 1024 = _; omega)
    (by show 10240 + ((((i 0 : ℕ) * 8192 + (i 1 : ℕ)) * 16 + (i 2 : ℕ)) * 64 + (i 3 : ℕ)) % 1024 = _; omega)

theorem v16_real (h0 : ∀ j, x0 j = ((X (j 0 : ℕ) (j 1 : ℕ) : ℝ) : EReal)) (i : S2x8192x2x64.Idx) :
    val_main_v16 (F := Ideal) x0 i = ((X (8192 * (i 0 : ℕ) + (i 1 : ℕ)) (11264 + (64 * (i 2 : ℕ) + (i 3 : ℕ))) : ℝ) : EReal) := by
  have b0 : (i 0 : ℕ) < 2 := (i 0).isLt
  have b1 : (i 1 : ℕ) < 8192 := (i 1).isLt
  have b2 : (i 2 : ℕ) < 2 := (i 2).isLt
  have b3 : (i 3 : ℕ) < 64 := (i 3).isLt
  rw [val_main_v16_apply, val_main_v15_apply]
  exact at2 x0 X h0 _ _ _ (by show ((((i 0 : ℕ) * 8192 + (i 1 : ℕ)) * 2 + (i 2 : ℕ)) * 64 + (i 3 : ℕ)) / 128 = _; omega)
    (by show 11264 + ((((i 0 : ℕ) * 8192 + (i 1 : ℕ)) * 2 + (i 2 : ℕ)) * 64 + (i 3 : ℕ)) % 128 = _; omega)

/-- The values. -/
theorem v31_real (h0 : ∀ j, x0 j = ((X (j 0 : ℕ) (j 1 : ℕ) : ℝ) : EReal)) (i : S2x8192x2x64.Idx) :
    val_main_v31 (F := Ideal) x0 i = ((X (8192 * (i 0 : ℕ) + (i 1 : ℕ)) (11392 + (64 * (i 2 : ℕ) + (i 3 : ℕ))) : ℝ) : EReal) := by
  have b0 : (i 0 : ℕ) < 2 := (i 0).isLt
  have b1 : (i 1 : ℕ) < 8192 := (i 1).isLt
  have b2 : (i 2 : ℕ) < 2 := (i 2).isLt
  have b3 : (i 3 : ℕ) < 64 := (i 3).isLt
  rw [val_main_v31_apply, val_main_v30_apply]
  exact at2 x0 X h0 _ _ _ (by show ((((i 0 : ℕ) * 8192 + (i 1 : ℕ)) * 2 + (i 2 : ℕ)) * 64 + (i 3 : ℕ)) / 128 = _; omega)
    (by show 11392 + ((((i 0 : ℕ) * 8192 + (i 1 : ℕ)) * 2 + (i 2 : ℕ)) * 64 + (i 3 : ℕ)) % 128 = _; omega)

/-- The normalised queries. -/
theorem v14_real (h0 : ∀ j, x0 j = ((X (j 0 : ℕ) (j 1 : ℕ) : ℝ) : EReal)) (h1 : ∀ d, x1 d = ((γq (d 0 : ℕ) : ℝ) : EReal)) (i : S2x8192x16x64.Idx) :
    val_main_v14 (F := Ideal) x0 x1 i
      = ((headNorm (fun c => X (8192 * (i 0 : ℕ) + (i 1 : ℕ)) (10240 + c)) (i 2 : ℕ) γq (i 3 : ℕ) : ℝ) : EReal) := by
  rw [val_main_v14_apply, val_main_v11_apply, val_main_v10_apply, val_main_v9_apply, val_main_v8_apply, val_main_v6_apply, val_main_v4_apply,
    val_main_v3_apply, val_main_v5_apply, val_main_v7_apply, val_main_v13_apply, val_main_v12_apply]
  simp only [val_main_v2_apply, v1_real x0 X h0]
  rw [h1]
  exact norm_real (fun c => X (8192 * (i 0 : ℕ) + (i 1 : ℕ)) (10240 + c)) (i 2 : ℕ) γq (i 3 : ℕ)

/-- The normalised keys. -/
theorem v29_real (h0 : ∀ j, x0 j = ((X (j 0 : ℕ) (j 1 : ℕ) : ℝ) : EReal)) (h2 : ∀ d, x2 d = ((γk (d 0 : ℕ) : ℝ) : EReal)) (i : S2x8192x2x64.Idx) :
    val_main_v29 (F := Ideal) x0 x2 i
      = ((headNorm (fun c => X (8192 * (i 0 : ℕ) + (i 1 : ℕ)) (11264 + c)) (i 2 : ℕ) γk (i 3 : ℕ) : ℝ) : EReal) := by
  rw [val_main_v29_apply, val_main_v26_apply, val_main_v25_apply, val_main_v24_apply, val_main_v23_apply, val_main_v21_apply, val_main_v19_apply,
    val_main_v18_apply, val_main_v20_apply, val_main_v22_apply, val_main_v28_apply, val_main_v27_apply]
  simp only [val_main_v17_apply, v16_real x0 X h0]
  rw [h2]
  exact norm_real (fun c => X (8192 * (i 0 : ℕ) + (i 1 : ℕ)) (11264 + c)) (i 2 : ℕ) γk (i 3 : ℕ)

/-- The queries split into blocks and groups. -/
theorem v32_real (h0 : ∀ j, x0 j = ((X (j 0 : ℕ) (j 1 : ℕ) : ℝ) : EReal)) (h1 : ∀ d, x1 d = ((γq (d 0 : ℕ) : ℝ) : EReal)) (i : S2x64x128x2x8x64.Idx) :
    val_main_v32 (F := Ideal) x0 x1 i
      = ((headNorm (fun c => X (8192 * (i 0 : ℕ) + (128 * (i 1 : ℕ) + (i 2 : ℕ))) (10240 + c)) (8 * (i 3 : ℕ) + (i 4 : ℕ)) γq (i 5 : ℕ) : ℝ) : EReal) := by
  have b0 : (i 0 : ℕ) < 2 := (i 0).isLt
  have b1 : (i 1 : ℕ) < 64 := (i 1).isLt
  have b2 : (i 2 : ℕ) < 128 := (i 2).isLt
  have b3 : (i 3 : ℕ) < 2 := (i 3).isLt
  have b4 : (i 4 : ℕ) < 8 := (i 4).isLt
  have b5 : (i 5 : ℕ) < 64 := (i 5).isLt
  refine Eq.trans ?_ (v14_real x0 x1 X γq h0 h1 (ValueIdx.ix4 ⟨(i 0 : ℕ), b0⟩ ⟨128 * (i 1 : ℕ) + (i 2 : ℕ), by omega⟩ ⟨8 * (i 3 : ℕ) + (i 4 : ℕ), by omega⟩ ⟨(i 5 : ℕ), b5⟩))
  unfold val_main_v32
  generalize val_main_v14 (F := Ideal) x0 x1 = y
  refine shapeCast_apply y shapeCasts_S2x8192x16x64_S2x64x128x2x8x64 i _ ?_
  rewrite [Shape.rowMajor_val_six, Shape.rowMajor_val_four]
  show ((((i 0 : ℕ) * 8192 + (128 * (i 1 : ℕ) + (i 2 : ℕ))) * 16 + (8 * (i 3 : ℕ) + (i 4 : ℕ))) * 64 + (i 5 : ℕ))
    = (((((i 0 : ℕ) * 64 + (i 1 : ℕ)) * 128 + (i 2 : ℕ)) * 2 + (i 3 : ℕ)) * 8 + (i 4 : ℕ)) * 64 + (i 5 : ℕ)
  omega

/-- A batch of rows with 128 rows of zero before it. -/
theorem padded (y : FVec Ideal S2x8192x2x64 .f32) (z : FVec Ideal S_ .f32) (hz : ∀ i, z i = 0) (Y : ℕ → ℕ → ℕ → ℕ → ℝ)
    (hy : ∀ i, y i = ((Y (i 0 : ℕ) (i 1 : ℕ) (i 2 : ℕ) (i 3 : ℕ) : ℝ) : EReal)) (i : S2x8320x2x64.Idx) :
    pad S2x8320x2x64 ![0, 128, 0, 0] ![0, 0, 0, 0] ![0, 0, 0, 0] y z pads_S2x8192x2x64_S2x8320x2x64_000_12800_000_000 h_S_ i
      = (((if (i 1 : ℕ) < 128 then 0 else Y (i 0 : ℕ) ((i 1 : ℕ) - 128) (i 2 : ℕ) (i 3 : ℕ)) : ℝ) : EReal) := by
  have b0 : (i 0 : ℕ) < 2 := (i 0).isLt
  have b1 : (i 1 : ℕ) < 8320 := (i 1).isLt
  have b2 : (i 2 : ℕ) < 2 := (i 2).isLt
  have b3 : (i 3 : ℕ) < 64 := (i 3).isLt
  split
  · rename_i h
    rw [pad_apply_of_not_inside _ _ _ _ _ _ _ _ (1 : Fin 4) (fun hh => by have h1 : 128 ≤ (i 1 : ℕ) := hh.1; omega), hz]
    rfl
  · rename_i h
    rw [pad_apply_of_inside _ _ _ _ _ _ _ _ (ValueIdx.ix4 ⟨(i 0 : ℕ), b0⟩ ⟨(i 1 : ℕ) - 128, by omega⟩ ⟨(i 2 : ℕ), b2⟩ ⟨(i 3 : ℕ), b3⟩) (fun a => match a with
      | ⟨0, _⟩ => by show (i 0 : ℕ) = 0 + (i 0 : ℕ) * (0 + 1); omega
      | ⟨1, _⟩ => by show (i 1 : ℕ) = 128 + ((i 1 : ℕ) - 128) * (0 + 1); omega
      | ⟨2, _⟩ => by show (i 2 : ℕ) = 0 + (i 2 : ℕ) * (0 + 1); omega
      | ⟨3, _⟩ => by show (i 3 : ℕ) = 0 + (i 3 : ℕ) * (0 + 1); omega), hy]

/-- Two blocks side by side: the one before and the block itself. -/
theorem windowed (y : FVec Ideal S2x64x128x2x64 .f32) (z : FVec Ideal S2x64x128x2x64 .f32) (Y : ℕ → ℕ → ℕ → ℕ → ℝ)
    (hy : ∀ i, y i = ((Y (i 0 : ℕ) (128 * (i 1 : ℕ) + (i 2 : ℕ)) (i 3 : ℕ) (i 4 : ℕ) : ℝ) : EReal))
    (hz : ∀ i, z i = ((Y (i 0 : ℕ) (128 * (1 + (i 1 : ℕ)) + (i 2 : ℕ)) (i 3 : ℕ) (i 4 : ℕ) : ℝ) : EReal)) (i : S2x64x256x2x64.Idx) :
    concatenate S2x64x256x2x64 2 [⟨S2x64x128x2x64, y⟩, ⟨S2x64x128x2x64, z⟩] concatenates_S2x64x128x2x64_S2x64x128x2x64_S2x64x256x2x64_d2 i
      = ((Y (i 0 : ℕ) (128 * (i 1 : ℕ) + (i 2 : ℕ)) (i 3 : ℕ) (i 4 : ℕ) : ℝ) : EReal) := by
  have b0 : (i 0 : ℕ) < 2 := (i 0).isLt
  have b1 : (i 1 : ℕ) < 64 := (i 1).isLt
  have b2 : (i 2 : ℕ) < 256 := (i 2).isLt
  have b3 : (i 3 : ℕ) < 2 := (i 3).isLt
  have b4 : (i 4 : ℕ) < 64 := (i 4).isLt
  by_cases h : (i 2 : ℕ) < 128
  · rw [concatenate_apply_piece (t := S2x64x256x2x64) 2 [⟨S2x64x128x2x64, y⟩, ⟨S2x64x128x2x64, z⟩] _ i 0 (by simp) S2x64x128x2x64 y rfl rfl 0 rfl
      (ValueIdx.ix5 ⟨(i 0 : ℕ), b0⟩ ⟨(i 1 : ℕ), b1⟩ ⟨(i 2 : ℕ), h⟩ ⟨(i 3 : ℕ), b3⟩ ⟨(i 4 : ℕ), b4⟩)
      (fun b hb => match b with
        | ⟨0, _⟩ => rfl | ⟨1, _⟩ => rfl | ⟨2, _⟩ => rfl | ⟨3, _⟩ => rfl | ⟨4, _⟩ => rfl) (by show 0 + (i 2 : ℕ) = (i 2 : ℕ); omega), hy]
  · rw [concatenate_apply_piece (t := S2x64x256x2x64) 2 [⟨S2x64x128x2x64, y⟩, ⟨S2x64x128x2x64, z⟩] _ i 1 (by simp) S2x64x128x2x64 z rfl rfl 128 rfl
      (ValueIdx.ix5 ⟨(i 0 : ℕ), b0⟩ ⟨(i 1 : ℕ), b1⟩ ⟨(i 2 : ℕ) - 128, by omega⟩ ⟨(i 3 : ℕ), b3⟩ ⟨(i 4 : ℕ), b4⟩)
      (fun b hb => match b with
        | ⟨0, _⟩ => rfl | ⟨1, _⟩ => rfl | ⟨2, _⟩ => absurd rfl hb | ⟨3, _⟩ => rfl | ⟨4, _⟩ => rfl) (by show 128 + ((i 2 : ℕ) - 128) = (i 2 : ℕ); omega), hz]
    refine congrArg (fun n : ℝ => (n : EReal)) (congrArg (fun n => Y (i 0 : ℕ) n (i 3 : ℕ) (i 4 : ℕ)) ?_)
    show 128 * (1 + (i 1 : ℕ)) + ((i 2 : ℕ) - 128) = 128 * (i 1 : ℕ) + (i 2 : ℕ); omega

theorem pad_zero0 (i : S_.Idx) : val_main_call0_v0 (F := Ideal) i = 0 := by
  rw [val_main_call0_v0_apply, val_main_c_apply]
  show (((0#32).toInt : ℝ) : EReal) = 0
  simp

theorem pad_zero1 (i : S_.Idx) : val_main_call1_v0 (F := Ideal) i = 0 := by
  rw [val_main_call1_v0_apply, val_main_c_5_apply]
  show (((0#32).toInt : ℝ) : EReal) = 0
  simp

/-- Row `n` of batch `b` of the padded keys' lanes. -/
def keyRow (b n : ℕ) (c : ℕ) : ℝ := if n < 128 then 0 else X (8192 * b + (n - 128)) (11264 + c)

/-- Row `n` of batch `b` of the padded values' lanes. -/
def valRow (b n : ℕ) (c : ℕ) : ℝ := if n < 128 then 0 else X (8192 * b + (n - 128)) (11392 + c)

theorem v39_real (h0 : ∀ j, x0 j = ((X (j 0 : ℕ) (j 1 : ℕ) : ℝ) : EReal)) (h2 : ∀ d, x2 d = ((γk (d 0 : ℕ) : ℝ) : EReal)) (i : S2x64x256x2x64.Idx) :
    val_main_v39 (F := Ideal) x0 x2 i
      = ((headNorm (keyRow X (i 0 : ℕ) (128 * (i 1 : ℕ) + (i 2 : ℕ))) (i 3 : ℕ) γk (i 4 : ℕ) : ℝ) : EReal) := by
  have e33 : ∀ i, val_main_v33 (F := Ideal) x0 x2 i = ((headNorm (keyRow X (i 0 : ℕ) (i 1 : ℕ)) (i 2 : ℕ) γk (i 3 : ℕ) : ℝ) : EReal) := fun i => by
    unfold val_main_v33
    rw [padded _ _ pad_zero0 (fun b n h d => headNorm (fun c => X (8192 * b + n) (11264 + c)) h γk d) (v29_real x0 x2 X γk h0 h2) i]
    refine congrArg _ ?_
    unfold keyRow
    split
    · unfold headNorm; simp
    · rfl
  have e34 : ∀ i, val_main_v34 (F := Ideal) x0 x2 i = ((headNorm (keyRow X (i 0 : ℕ) (128 * (i 1 : ℕ) + (i 2 : ℕ))) (i 3 : ℕ) γk (i 4 : ℕ) : ℝ) : EReal) := fun i => by
    have b0 : (i 0 : ℕ) < 2 := (i 0).isLt
    have b1 : (i 1 : ℕ) < 65 := (i 1).isLt
    have b2 : (i 2 : ℕ) < 128 := (i 2).isLt
    have b3 : (i 3 : ℕ) < 2 := (i 3).isLt
    have b4 : (i 4 : ℕ) < 64 := (i 4).isLt
    rw [val_main_v34_apply, e33]
    dsimp only [idx_main_v34]
    congr 2
    · congr 1
      · omega
      · omega
    · omega
    · omega
  unfold val_main_v39
  refine windowed _ _ (fun b n h d => headNorm (keyRow X b n) h γk d) (fun i => ?_) (fun i => ?_) i
  · rw [val_main_v37_apply, e34]
  · rw [val_main_v38_apply, e34]

theorem v42_real (h0 : ∀ j, x0 j = ((X (j 0 : ℕ) (j 1 : ℕ) : ℝ) : EReal)) (i : S2x64x256x2x64.Idx) :
    val_main_v42 (F := Ideal) x0 i = ((valRow X (i 0 : ℕ) (128 * (i 1 : ℕ) + (i 2 : ℕ)) (64 * (i 3 : ℕ) + (i 4 : ℕ)) : ℝ) : EReal) := by
  have e35 : ∀ i, val_main_v35 (F := Ideal) x0 i = ((valRow X (i 0 : ℕ) (i 1 : ℕ) (64 * (i 2 : ℕ) + (i 3 : ℕ)) : ℝ) : EReal) := fun i => by
    unfold val_main_v35
    rw [padded _ _ pad_zero1 (fun b n h d => X (8192 * b + n) (11392 + (64 * h + d))) (v31_real x0 X h0) i]
    rfl
  have e36 : ∀ i, val_main_v36 (F := Ideal) x0 i = ((valRow X (i 0 : ℕ) (128 * (i 1 : ℕ) + (i 2 : ℕ)) (64 * (i 3 : ℕ) + (i 4 : ℕ)) : ℝ) : EReal) := fun i => by
    have b0 : (i 0 : ℕ) < 2 := (i 0).isLt
    have b1 : (i 1 : ℕ) < 65 := (i 1).isLt
    have b2 : (i 2 : ℕ) < 128 := (i 2).isLt
    have b3 : (i 3 : ℕ) < 2 := (i 3).isLt
    have b4 : (i 4 : ℕ) < 64 := (i 4).isLt
    rw [val_main_v36_apply, e35]
    dsimp only [idx_main_v36]
    congr 2
    · omega
    · omega
    · omega
  unfold val_main_v42
  refine windowed _ _ (fun b n h d => valRow X b n (64 * h + d)) (fun i => ?_) (fun i => ?_) i
  · rw [val_main_v40_apply, e36]
  · rw [val_main_v41_apply, e36]

end Cert.ReferenceIdeal.Swa

end
-- ==== Proof.Swa.Ref.lean ====
/- The reference's result, the arguments reals: the same attention. -/
module

public import proofs.«01_k».proof.Proof.Swa.RefParts

@[expose] public section

set_option maxRecDepth 16384

noncomputable section

namespace Cert.ReferenceIdeal.Swa

open Cert.ReferenceIdeal Cert.ReferenceIdeal.Gen Cert.ReferenceIdeal.Read Idealize.ShloMosaic Idealize.ShloMosaic.TcCoe Idealize.SL.Sem
open Cert.Swa Cert.Consts
open Cert.KernelIdeal.Swa (headNorm logit Seen attend attend_congr swa bit select_bit bit_and ofBool_bit)

variable (x0 : (⟨S16384x11776, .f32⟩ : BufTy).Contents (Elt Ideal)) (x1 x2 : (⟨S64, .f32⟩ : BufTy).Contents (Elt Ideal))
  (x3 : (⟨S16, .f32⟩ : BufTy).Contents (Elt Ideal))
variable (X : ℕ → ℕ → ℝ) (γq γk ζ : ℕ → ℝ)

/-- The score of row `r` of block `B` with window key `j`, for query head `8 * h + g`. -/
def score (b h g B r : ℕ) (j : Fin 256) : ℝ :=
  logit (fun d => headNorm (keyRow X b (128 * B + j)) h γk d) (fun c => X (8192 * b + (128 * B + r)) (10240 + c)) (8 * h + g) γq

theorem root64 : (Real.sqrt 64)⁻¹ = 1 / 8 := by
  rw [show (64 : ℝ) = 8 ^ 2 by norm_num, Real.sqrt_sq (by norm_num)]; norm_num

theorem v46_real (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (i : S2x2x8x64x128x256.Idx) :
    val_main_v46 (F := Ideal) x0 x1 x2 i = ((score X γq γk (i 0 : ℕ) (i 1 : ℕ) (i 2 : ℕ) (i 3 : ℕ) (i 4 : ℕ) ⟨(i 5 : ℕ), (i 5).isLt⟩ : ℝ) : EReal) := by
  rw [val_main_v46_apply, val_main_v44_apply, val_main_v43_apply, val_main_v45_apply, val_main_cst_6_apply]
  simp only [v39_real x0 x2 X γk h0 h2, v32_real x0 x1 X γq h0 h1]
  show (∑ d : Fin 64, ((headNorm _ _ γk (d : ℕ) : ℝ) : EReal) * ((headNorm _ _ γq (d : ℕ) : ℝ) : EReal)) * Ideal.ofBits .f32 0x3E000000#32 = _
  simp only [← EReal.coe_mul]
  rw [ofBits_eighth, ← coe_sum, ← EReal.coe_mul]
  unfold score logit
  rw [root64]

theorem slt_ofNat {a b : ℕ} (ha : a < 2 ^ 31) (hb : b < 2 ^ 31) : (BitVec.ofNat 32 a).slt (BitVec.ofNat 32 b) = decide (a < b) := slt_small ha hb

theorem sle_ofNat {a b : ℕ} (ha : a < 2 ^ 31) (hb : b < 2 ^ 31) : (BitVec.ofNat 32 a).sle (BitVec.ofNat 32 b) = decide (a ≤ b) := by
  rw [BitVec.sle_eq_not_slt, slt_small hb ha]
  by_cases h : a ≤ b
  · simp [h, Nat.not_lt.2 h]
  · simp [h, Nat.lt_of_not_le h]

theorem bit_or (p q : Prop) [Decidable p] [Decidable q] : IntOp.ori (bit p) (bit q) = bit (p ∨ q) := by
  unfold bit; by_cases hp : p <;> by_cases hq : q <;> simp [hp, hq] <;> rfl

theorem v75_real (i : S64x128x256.Idx) :
    val_main_v75 (F := Ideal) i = bit (Seen ((i 0 : ℕ) = 0) (i 1 : ℕ) ⟨(i 2 : ℕ), (i 2).isLt⟩) := by
  have b0 : (i 0 : ℕ) < 64 := (i 0).isLt
  have b1 : (i 1 : ℕ) < 128 := (i 1).isLt
  have b2 : (i 2 : ℕ) < 256 := (i 2).isLt
  rw [val_main_v75_apply, val_main_v73_apply, val_main_v72_apply, val_main_v63_apply, val_main_v57_apply, val_main_v55_apply, val_main_v52_apply,
    val_main_v51_apply, val_main_v56_apply, val_main_v50_apply, val_main_v49_apply, val_main_c_7_apply, val_main_v48_apply, val_main_v47_apply,
    val_main_v62_apply, val_main_v60_apply, val_main_v52_apply, val_main_v51_apply, val_main_v61_apply, val_main_v59_apply, val_main_v50_apply,
    val_main_v49_apply, val_main_c_7_apply, val_main_v48_apply, val_main_v47_apply, val_main_v58_apply, val_main_c_8_apply,
    val_main_v74_apply, val_main_v71_apply, val_main_v69_apply, val_main_v65_apply, val_main_v54_apply, val_main_v53_apply, val_main_v64_apply,
    val_main_c_9_apply, val_main_v70_apply, val_main_v68_apply, val_main_v67_apply, val_main_v52_apply, val_main_v51_apply, val_main_v66_apply,
    val_main_c_10_apply]
  show IntOp.andi (IntOp.andi (BitVec.ofBool ((BitVec.ofNat 32 (i 2 : ℕ)).sle (128#32 + BitVec.ofNat 32 (i 1 : ℕ))))
      (BitVec.ofBool ((128#32 + BitVec.ofNat 32 (i 1 : ℕ) - 128#32).slt (BitVec.ofNat 32 (i 2 : ℕ)))))
    (IntOp.ori (BitVec.ofBool ((0#32).slt (BitVec.ofNat 32 (i 0 : ℕ)))) (BitVec.ofBool ((128#32).sle (BitVec.ofNat 32 (i 2 : ℕ))))) = _
  have e1 : 128#32 + BitVec.ofNat 32 (i 1 : ℕ) = BitVec.ofNat 32 (128 + (i 1 : ℕ)) := by rw [BitVec.ofNat_add]
  have e2 : 128#32 + BitVec.ofNat 32 (i 1 : ℕ) - 128#32 = BitVec.ofNat 32 (i 1 : ℕ) := by rw [BitVec.add_comm, BitVec.add_sub_cancel]
  rw [e2, e1, sle_ofNat (by omega) (by omega), slt_ofNat (by omega) (by omega), slt_ofNat (a := 0) (by omega) (by omega),
    sle_ofNat (a := 128) (by omega) (by omega), ofBool_bit, ofBool_bit, ofBool_bit, ofBool_bit, bit_and, bit_or, bit_and]
  unfold bit Seen
  refine if_congr ?_ rfl rfl
  constructor
  · rintro ⟨⟨h1, h2⟩, h3⟩
    refine ⟨⟨h2, by show (i 2 : ℕ) ≤ _; omega⟩, fun h => ?_⟩
    show 128 ≤ (i 2 : ℕ); omega
  · rintro ⟨⟨h1, h2⟩, h3⟩
    have h2' : (i 2 : ℕ) ≤ (i 1 : ℕ) + 128 := h2
    have h3' : (i 0 : ℕ) = 0 → 128 ≤ (i 2 : ℕ) := h3
    exact ⟨⟨by omega, h1⟩, by omega⟩

theorem v76_real (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (i : S2x2x8x64x128x256.Idx) :
    val_main_v76 (F := Ideal) x0 x1 x2 i
      = msk (Seen ((i 3 : ℕ) = 0) (i 4 : ℕ)) (score X γq γk (i 0 : ℕ) (i 1 : ℕ) (i 2 : ℕ) (i 3 : ℕ) (i 4 : ℕ)) 1 ⟨(i 5 : ℕ), (i 5).isLt⟩ := by
  rw [val_main_v76_apply, val_main_call2_v1_apply, v75_real, val_main_call2_v2_apply, val_main_call2_v0_apply, val_main_cst_11_apply,
    v46_real x0 x1 x2 X γq γk h0 h1 h2]
  refine (select_bit _ _ _).trans ?_
  unfold msk
  rw [mul_one]
  refine if_congr Iff.rfl rfl ?_
  exact ofBits_negInf

/-- The sink's column. -/
theorem v79_real (h3 : ∀ d, x3 d = ((ζ (d 0 : ℕ) : ℝ) : EReal)) (i : S2x2x8x64x128x1.Idx) :
    val_main_v79 (F := Ideal) x3 i = ((ζ (8 * (i 1 : ℕ) + (i 2 : ℕ)) : ℝ) : EReal) := by
  rw [val_main_v79_apply, val_main_v78_apply, val_main_v77_apply, h3]
  refine congrArg (fun n => ((ζ n : ℝ) : EReal)) ?_
  show (i 1 : ℕ) * 8 + (i 2 : ℕ) = _; omega

section Row

variable (b h : Fin 2) (g : Fin 8) (B : Fin 64) (r : Fin 128)

theorem v80_key (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (j : Fin 256) :
    val_main_v80 (F := Ideal) x0 x1 x2 x3 (ValueIdx.ix6 b h g B r j.castSucc)
      = msk (Seen ((B : ℕ) = 0) r) (score X γq γk b h g B r) 1 j := by
  unfold val_main_v80
  rw [concatenate_apply_piece (t := S2x2x8x64x128x257) 5 [⟨S2x2x8x64x128x256, (val_main_v76 (F := Ideal) x0 x1 x2)⟩, ⟨S2x2x8x64x128x1, (val_main_v79 (F := Ideal) x3)⟩]
    _ _ 0 (by simp) S2x2x8x64x128x256 _ rfl rfl 0 rfl (ValueIdx.ix6 b h g B r j)
    (fun a ha => match a with
      | ⟨0, _⟩ => rfl | ⟨1, _⟩ => rfl | ⟨2, _⟩ => rfl | ⟨3, _⟩ => rfl | ⟨4, _⟩ => rfl | ⟨5, _⟩ => rfl) (by show 0 + (j : ℕ) = (j : ℕ); omega),
    v76_real x0 x1 x2 X γq γk h0 h1 h2]

theorem v80_sink (h3 : ∀ d, x3 d = ((ζ (d 0 : ℕ) : ℝ) : EReal)) :
    val_main_v80 (F := Ideal) x0 x1 x2 x3 (ValueIdx.ix6 b h g B r (Fin.last 256)) = ((ζ (8 * (h : ℕ) + g) : ℝ) : EReal) := by
  unfold val_main_v80
  rw [concatenate_apply_piece (t := S2x2x8x64x128x257) 5 [⟨S2x2x8x64x128x256, (val_main_v76 (F := Ideal) x0 x1 x2)⟩, ⟨S2x2x8x64x128x1, (val_main_v79 (F := Ideal) x3)⟩]
    _ _ 1 (by simp) S2x2x8x64x128x1 _ rfl rfl 256 rfl (ValueIdx.ix6 b h g B r 0)
    (fun a ha => match a with
      | ⟨0, _⟩ => rfl | ⟨1, _⟩ => rfl | ⟨2, _⟩ => rfl | ⟨3, _⟩ => rfl | ⟨4, _⟩ => rfl | ⟨5, _⟩ => absurd rfl ha) (by rfl),
    v79_real x3 ζ h3]

/-- The row's maximum with the sink. -/
def top (P : Fin 256 → Prop) [DecidablePred P] (s : Fin 256 → ℝ) (z : ℝ) : EReal := max (Finset.univ.fold max ⊥ (msk P s 1)) (z : EReal)

theorem fold_snoc (f : Fin 257 → EReal) :
    (Finset.univ : Finset (Fin 257)).fold max ⊥ f = max ((Finset.univ : Finset (Fin 256)).fold max ⊥ fun j => f j.castSucc) (f (Fin.last 256)) := by
  rw [Fin.univ_castSuccEmb, Finset.fold_cons, Finset.fold_map, max_comm]
  rfl

theorem v83_real (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (h3 : ∀ d, x3 d = ((ζ (d 0 : ℕ) : ℝ) : EReal)) :
    val_main_v83 (F := Ideal) x0 x1 x2 x3 (ValueIdx.ix5 b h g B r)
      = top (Seen ((B : ℕ) = 0) r) (score X γq γk b h g B r) (ζ (8 * (h : ℕ) + g)) := by
  have e : val_main_v81 (F := Ideal) x0 x1 x2 x3 (ValueIdx.ix5 b h g B r)
      = top (Seen ((B : ℕ) = 0) r) (score X γq γk b h g B r) (ζ (8 * (h : ℕ) + g)) := by
    have ek := v80_key x0 x1 x2 x3 X γq γk b h g B r h0 h1 h2
    have es := v80_sink x0 x1 x2 x3 ζ b h g B r h3
    unfold val_main_v81
    generalize val_main_v80 (F := Ideal) x0 x1 x2 x3 = y at ek es
    refine (Host.reduce_eq_fold_single (α := Ideal .f32) (FloatOps.maximumf (F := Ideal) (φ := .f32)) y _ reducesTo_S2x2x8x64x128x257_S2x2x8x64x128_d5 (by decide) h_S_ _).trans ?_
    have el : ∀ k : Fin 257, (Shape.Reduces.lift (s := S2x2x8x64x128x257) (t := S2x2x8x64x128) (a := 5) (by decide) (ValueIdx.ix5 b h g B r) k) = ValueIdx.ix6 b h g B r k := fun k =>
      funext fun a => Fin.ext (by match a with | ⟨0, _⟩ => rfl | ⟨1, _⟩ => rfl | ⟨2, _⟩ => rfl | ⟨3, _⟩ => rfl | ⟨4, _⟩ => rfl | ⟨5, _⟩ => rfl)
    refine Eq.trans (b := (Finset.univ : Finset (Fin 257)).fold max ⊥ fun k => y (ValueIdx.ix6 b h g B r k)) ?_ ?_
    · have ei : val_main_cst_12 (F := Ideal) (Shape.Idx.first h_S_) = ⊥ := ofBits_negInf
      rw [ei]
      exact congrArg (fun f => (Finset.univ : Finset (Fin 257)).fold max ⊥ f) (funext fun k => congrArg y (el k))
    · rw [fold_snoc, es]
      unfold top
      refine congrArg (fun a => max a _) ?_
      exact congrArg (fun f => (Finset.univ : Finset (Fin 256)).fold max ⊥ f) (funext fun k => ek k)
  rw [val_main_v83_apply, e, val_main_v82_apply, val_main_cst_13_apply]
  show max (Ideal.ofBits .f32 0xFF800000#32) _ = _
  rw [ofBits_negInf, max_eq_right bot_le]

theorem v87_at (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (h3 : ∀ d, x3 d = ((ζ (d 0 : ℕ) : ℝ) : EReal)) (k : Fin 257) :
    val_main_v87 (F := Ideal) x0 x1 x2 x3 (ValueIdx.ix6 b h g B r k)
      = Ideal.exp (val_main_v80 (F := Ideal) x0 x1 x2 x3 (ValueIdx.ix6 b h g B r k)
          - top (Seen ((B : ℕ) = 0) r) (score X γq γk b h g B r) (ζ (8 * (h : ℕ) + g))) := by
  rw [val_main_v87_apply, val_main_v86_apply, val_main_v85_apply, val_main_v84_apply, ← v83_real x0 x1 x2 x3 X γq γk ζ b h g B r h0 h1 h2 h3]
  have e : idx_main_v84 (idx_main_v85 (ValueIdx.ix6 b h g B r k)) = ValueIdx.ix5 b h g B r := by
    funext a; match a with | ⟨0, _⟩ => rfl | ⟨1, _⟩ => rfl | ⟨2, _⟩ => rfl | ⟨3, _⟩ => rfl | ⟨4, _⟩ => rfl
  rw [e]
  rfl

theorem v92_real (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (h3 : ∀ d, x3 d = ((ζ (d 0 : ℕ) : ℝ) : EReal)) (j : Fin 256) :
    val_main_v92 (F := Ideal) x0 x1 x2 x3 (ValueIdx.ix6 b h g B r j)
      = ((wt (Seen ((B : ℕ) = 0) r) (score X γq γk b h g B r) (ζ (8 * (h : ℕ) + g)) j : ℝ) : EReal) := by
  have e1 : idx_main_v92 (ValueIdx.ix6 b h g B r j) = ValueIdx.ix6 b h g B r j.castSucc := by
    funext a; match a with | ⟨0, _⟩ => rfl | ⟨1, _⟩ => rfl | ⟨2, _⟩ => rfl | ⟨3, _⟩ => rfl | ⟨4, _⟩ => rfl | ⟨5, _⟩ => rfl
  have e2 : ∀ k, idx_main_v88 (idx_main_v89 (idx_main_v90 (ValueIdx.ix6 b h g B r j.castSucc))) k = ValueIdx.ix6 b h g B r k := fun k => by
    funext a; match a with | ⟨0, _⟩ => rfl | ⟨1, _⟩ => rfl | ⟨2, _⟩ => rfl | ⟨3, _⟩ => rfl | ⟨4, _⟩ => rfl | ⟨5, _⟩ => rfl
  have e87 := v87_at x0 x1 x2 x3 X γq γk ζ b h g B r h0 h1 h2 h3
  rw [val_main_v92_apply, e1, val_main_v91_apply, val_main_v90_apply, val_main_v89_apply, val_main_v88_apply]
  simp only [e2, e87]
  rw [Fin.sum_univ_castSucc, v80_key x0 x1 x2 x3 X γq γk b h g B r h0 h1 h2, v80_sink x0 x1 x2 x3 ζ b h g B r h3]
  simp only [v80_key x0 x1 x2 x3 X γq γk b h g B r h0 h1 h2]
  rw [← ref_wt (Seen ((B : ℕ) = 0) r) (score X γq γk b h g B r) (ζ (8 * (h : ℕ) + g)) _ rfl j]
  show Ideal.div _ (Ideal.ofBits .f32 0x00000000#32 + _) = _
  rw [Ideal.ofBits_zero, zero_add]
  rfl

/-- The output before it is laid out by rows. -/
theorem v94_real (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (h3 : ∀ d, x3 d = ((ζ (d 0 : ℕ) : ℝ) : EReal)) (d : Fin 64) :
    val_main_v94 (F := Ideal) x0 x1 x2 x3 (ValueIdx.ix6 b B r h g d)
      = ((∑ j : Fin 256, valRow X b (128 * (B : ℕ) + j) (64 * (h : ℕ) + d)
          * wt (Seen ((B : ℕ) = 0) r) (score X γq γk b h g B r) (ζ (8 * (h : ℕ) + g)) j : ℝ) : EReal) := by
  have e2 : ∀ k, ridx_main_v93 (idx_main_v94 (ValueIdx.ix6 b B r h g d)) k = ValueIdx.ix6 b h g B r k := fun k => by
    funext a; match a with | ⟨0, _⟩ => rfl | ⟨1, _⟩ => rfl | ⟨2, _⟩ => rfl | ⟨3, _⟩ => rfl | ⟨4, _⟩ => rfl | ⟨5, _⟩ => rfl
  rw [val_main_v94_apply, val_main_v93_apply, coe_sum]
  refine Finset.sum_congr rfl fun k _ => ?_
  rw [e2, v92_real x0 x1 x2 x3 X γq γk ζ b h g B r h0 h1 h2 h3, v42_real x0 X h0, EReal.coe_mul]

end Row

theorem logit_shift (A f γ : ℕ → ℝ) (p h : ℕ) : logit A (fun l => f (128 * p + l)) h γ = logit A f (2 * p + h) γ := by
  have e : ∀ d, 128 * p + (64 * h + d) = 64 * (2 * p + h) + d := fun d => by omega
  unfold logit headNorm
  simp only [e]

/-- The reference's result. -/
theorem result (h0 : ∀ j, x0 j = ((X (j 0 : ℕ) (j 1 : ℕ) : ℝ) : EReal)) (h1 : ∀ d, x1 d = ((γq (d 0 : ℕ) : ℝ) : EReal))
    (h2 : ∀ d, x2 d = ((γk (d 0 : ℕ) : ℝ) : EReal)) (h3 : ∀ d, x3 d = ((ζ (d 0 : ℕ) : ℝ) : EReal)) (n : Fin 16384) (l : Fin 1024) :
    val_main_v96 (F := Ideal) x0 x1 x2 x3 (ix2 n l) = ((swa X γq γk ζ n l : ℝ) : EReal) := by
  have hn := n.isLt
  have hl := l.isLt
  have e : val_main_v95 (F := Ideal) x0 x1 x2 x3 (ix2 n l) = val_main_v94 (F := Ideal) x0 x1 x2 x3
      (ValueIdx.ix6 ⟨(n : ℕ) / 8192, by omega⟩ ⟨(n : ℕ) / 128 % 64, by omega⟩ ⟨(n : ℕ) % 128, by omega⟩ ⟨(l : ℕ) / 512, by omega⟩ ⟨(l : ℕ) / 64 % 8, by omega⟩ ⟨(l : ℕ) % 64, by omega⟩) := by
    unfold val_main_v95
    generalize val_main_v94 (F := Ideal) x0 x1 x2 x3 = y
    refine shapeCast_apply y shapeCasts_S2x64x128x2x8x64_S16384x1024 _ _ ?_
    rewrite [Shape.rowMajor_val_six, Shape.rowMajor_val_two]
    show (((((n : ℕ) / 8192 * 64 + (n : ℕ) / 128 % 64) * 128 + (n : ℕ) % 128) * 2 + (l : ℕ) / 512) * 8 + (l : ℕ) / 64 % 8) * 64 + (l : ℕ) % 64 = (n : ℕ) * 1024 + (l : ℕ)
    omega
  rw [val_main_v96_apply]
  refine e.trans ?_
  rw [v94_real x0 x1 x2 x3 X γq γk ζ _ _ _ _ _ h0 h1 h2 h3]
  refine congrArg (fun n : ℝ => (n : EReal)) ?_
  unfold swa
  rw [← attend_congr ((n : ℕ) / 128 % 64 = 0) ((n : ℕ) / 128 % 64 = 0) Iff.rfl ((n : ℕ) % 128) _
    (fun j => keyRow X ((n : ℕ) / 8192) (128 * ((n : ℕ) / 128 % 64) + j)) _ (fun j => valRow X ((n : ℕ) / 8192) (128 * ((n : ℕ) / 128 % 64) + j)) _ γq γk ζ _ _
    (fun j hj => ?_) (fun j hj => ?_)]
  · unfold attend
    refine Finset.sum_congr rfl fun j _ => ?_
    have es : score X γq γk ((n : ℕ) / 8192) ((l : ℕ) / 512) ((l : ℕ) / 64 % 8) ((n : ℕ) / 128 % 64) ((n : ℕ) % 128)
        = fun j : Fin 256 => logit (fun d => headNorm (keyRow X ((n : ℕ) / 8192) (128 * ((n : ℕ) / 128 % 64) + (j : ℕ))) ((l : ℕ) / 128 / 4) γk d)
            (fun l' => (fun c => X n (10240 + c)) (128 * ((l : ℕ) / 128) + l')) ((l : ℕ) % 128 / 64) γq := by
      funext j
      rw [logit_shift _ (fun c => X n (10240 + c))]
      unfold score
      rw [show 8192 * ((n : ℕ) / 8192) + (128 * ((n : ℕ) / 128 % 64) + (n : ℕ) % 128) = n by omega, show (l : ℕ) / 128 / 4 = (l : ℕ) / 512 by omega,
        show 2 * ((l : ℕ) / 128) + (l : ℕ) % 128 / 64 = 8 * ((l : ℕ) / 512) + (l : ℕ) / 64 % 8 by omega]
    show valRow X ((n : ℕ) / 8192) (128 * ((n : ℕ) / 128 % 64) + j) (64 * ((l : ℕ) / 512) + (l : ℕ) % 64)
      * wt (Seen ((n : ℕ) / 128 % 64 = 0) ((n : ℕ) % 128)) (score X γq γk ((n : ℕ) / 8192) ((l : ℕ) / 512) ((l : ℕ) / 64 % 8) ((n : ℕ) / 128 % 64) ((n : ℕ) % 128))
          (ζ (8 * ((l : ℕ) / 512) + (l : ℕ) / 64 % 8)) j = _
    rw [es, show (l : ℕ) / 128 / 4 = (l : ℕ) / 512 by omega, show (l : ℕ) % 128 % 64 = (l : ℕ) % 64 by omega,
      show 2 * ((l : ℕ) / 128) + (l : ℕ) % 128 / 64 = 8 * ((l : ℕ) / 512) + (l : ℕ) / 64 % 8 by omega]
  · obtain ⟨⟨h1, h2⟩, h3⟩ := hj
    funext c
    unfold keyRow
    rw [if_neg (by omega), show 8192 * ((n : ℕ) / 8192) + (128 * ((n : ℕ) / 128 % 64) + (j : ℕ) - 128) = 128 * ((n : ℕ) / 128) + j - 128 by omega]
  · obtain ⟨⟨h1, h2⟩, h3⟩ := hj
    funext c
    unfold valRow
    rw [if_neg (by omega), show 8192 * ((n : ℕ) / 8192) + (128 * ((n : ℕ) / 128 % 64) + (j : ℕ) - 128) = 128 * ((n : ℕ) / 128) + j - 128 by omega]

end Cert.ReferenceIdeal.Swa

end
-- ==== Proof.Swa.Finite.lean ====
/- The precondition says every argument is a real number. -/
module

public import proofs.«01_k».proof.Proof.Swa.Ref
public import proofs.«01_k».proof.Proof.Gen.Pre_finite
public import proofs.«01_k».proof.Defs

@[expose] public section

noncomputable section

namespace Cert.Swa

open Idealize.ShloMosaic Idealize.SL.Sem Cert.Consts

/-- A number of finite absolute value is a real. -/
theorem real_of_abs_lt (x : EReal) (h : max x (-x) < ⊤) : x = ((x.toReal : ℝ) : EReal) := by
  induction x with
  | bot => exact absurd h (by simp)
  | top => exact absurd h (by simp)
  | coe x => rfl

/-- The comparison's bit set, the number is a real. -/
theorem real_of_bit (x : EReal) (h : BitVec.ofBool (decide (max x (-x) < Ideal.ofBits .f32 0x7F800000#32)) = 1#1) : x = ((x.toReal : ℝ) : EReal) := by
  rw [ofBits_inf] at h
  refine real_of_abs_lt x ?_
  by_contra hx
  rw [decide_eq_false hx] at h
  exact absurd h (by decide)

/-- An array of one axis by its coordinate. -/
def ofVec {n : ℕ} (x : Fin n → EReal) (d : ℕ) : ℝ := if h : d < n then (x ⟨d, h⟩).toReal else 0

/-- An array of two axes by its coordinates. -/
def ofMat {n k : ℕ} (x : Fin n → Fin k → EReal) (a b : ℕ) : ℝ := if h : a < n ∧ b < k then (x ⟨a, h.1⟩ ⟨b, h.2⟩).toReal else 0

theorem ofVec_at {n : ℕ} (x : Fin n → EReal) (d : Fin n) : ofVec x d = (x d).toReal := by
  unfold ofVec; rw [dif_pos d.isLt]

theorem ofMat_at {n k : ℕ} (x : Fin n → Fin k → EReal) (a : Fin n) (b : Fin k) : ofMat x a b = (x a b).toReal := by
  unfold ofMat; rw [dif_pos ⟨a.isLt, b.isLt⟩]

variable [Cert.Pre_finite.Facts]
variable (m : (ℓ : Loc Cert.KernelIdeal.nD Cert.KernelIdeal.τ Cert.KernelIdeal.sig) → Buf (Elt Ideal) ℓ)

/-- The arguments, as the reals they are. -/
theorem reals (h : Cert.Pre_KernelIdeal_finite m) (c : Dev Cert.KernelIdeal.nD) :
    ∃ (X : ℕ → ℕ → ℝ) (γq γk ζ : ℕ → ℝ),
      (∀ (n : Fin 16384) (l : Fin 11776), m ((c.tc : Thread Cert.KernelIdeal.nD Cert.KernelIdeal.τ).loc Cert.KernelIdeal.main_arg0) (ix2 n l) = ((X n l : ℝ) : EReal))
      ∧ (∀ d : Fin 64, m ((c.tc : Thread Cert.KernelIdeal.nD Cert.KernelIdeal.τ).loc Cert.KernelIdeal.main_arg1) (ix1 d) = ((γq d : ℝ) : EReal))
      ∧ (∀ d : Fin 64, m ((c.tc : Thread Cert.KernelIdeal.nD Cert.KernelIdeal.τ).loc Cert.KernelIdeal.main_arg2) (ix1 d) = ((γk d : ℝ) : EReal))
      ∧ (∀ d : Fin 16, m ((c.tc : Thread Cert.KernelIdeal.nD Cert.KernelIdeal.τ).loc Cert.KernelIdeal.main_arg3) (ix1 d) = ((ζ d : ℝ) : EReal)) := by
  obtain ⟨h0, h1, h2, h3⟩ := h c
  refine ⟨ofMat fun n l => m ((c.tc : Thread Cert.KernelIdeal.nD Cert.KernelIdeal.τ).loc Cert.KernelIdeal.main_arg0) (ix2 n l),
    ofVec fun d => m ((c.tc : Thread Cert.KernelIdeal.nD Cert.KernelIdeal.τ).loc Cert.KernelIdeal.main_arg1) (ix1 d),
    ofVec fun d => m ((c.tc : Thread Cert.KernelIdeal.nD Cert.KernelIdeal.τ).loc Cert.KernelIdeal.main_arg2) (ix1 d),
    ofVec fun d => m ((c.tc : Thread Cert.KernelIdeal.nD Cert.KernelIdeal.τ).loc Cert.KernelIdeal.main_arg3) (ix1 d), fun n l => ?_, fun d => ?_, fun d => ?_, fun d => ?_⟩
  · rw [ofMat_at]; exact real_of_bit _ (congrFun h0 (ix2 n l))
  · rw [ofVec_at]; exact real_of_bit _ (congrFun h1 (ix1 d))
  · rw [ofVec_at]; exact real_of_bit _ (congrFun h2 (ix1 d))
  · rw [ofVec_at]; exact real_of_bit _ (congrFun h3 (ix1 d))

end Cert.Swa

end
-- ==== Proof.Swa.Claims.lean ====
/- The attention's value claim: the kernel's result is the reference's, every argument finite. -/
module

public import proofs.«01_k».proof.Proof.Swa.Out
public import proofs.«01_k».proof.Proof.Swa.Finite
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.Swa

open Idealize.ShloMosaic Idealize.SL.Sem

theorem preserves : Cert.preserves_Kernel_KernelIdeal :=
  ⟨IdealRules.named_const.statement Cert.KernelIdeal.κ "qscale" .f32 0x3E38AA3B#32 (((Real.sqrt 64)⁻¹ * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- The two results, over the kernel's memory. -/
theorem agree [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.ReferenceIdeal.Read.val_main_v96 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = (Cert.KernelIdeal.Gen.dats m 0 c).arrAt 8 Cert.KernelIdeal.cfg0.N := by
  obtain ⟨X, γq, γk, ζ, h0, h1, h2, h3⟩ := reals m h c
  rw [Cert.KernelIdeal.Swa.result m c X γq γk ζ h0 h1 h2 h3]
  funext y
  have ey : y = ix2 (y 0) (y 1) := by funext a; match a with | ⟨0, _⟩ => rfl | ⟨1, _⟩ => rfl
  rw [ey]
  exact Cert.ReferenceIdeal.Swa.result _ _ _ _ X γq γk ζ
    (fun j => by have ej : j = ix2 (j 0) (j 1) := by { funext a; match a with | ⟨0, _⟩ => rfl | ⟨1, _⟩ => rfl }
                 rw [ej]; exact h0 (j 0) (j 1))
    (fun d => by have ed : d = ix1 (d 0) := by { funext a; match a with | ⟨0, _⟩ => rfl }
                 rw [ed]; exact h1 (d 0))
    (fun d => by have ed : d = ix1 (d 0) := by { funext a; match a with | ⟨0, _⟩ => rfl }
                 rw [ed]; exact h2 (d 0))
    (fun d => by have ed : d = ix1 (d 0) := by { funext a; match a with | ⟨0, _⟩ => rfl }
                 rw [ed]; exact h3 (d 0)) (y 0) (y 1)

theorem algebraic [Cert.Pre_finite.Facts] : Cert.algebraic_KernelIdeal_ReferenceIdeal_pre_finite := by
  pair_intro
  · run_from Cert.KernelIdeal.Value.run_blocks m g
  · run_from Cert.ReferenceIdeal.Value.run m' g'
    rw [Cert.ReferenceIdeal.Read.val_main_v96_eq]
    obtain ⟨a0, a1, a2, a3⟩ := hagree c
    rw [a0, a1, a2, a3]
    exact agree m hpre c

/-- The reference runs host operations alone and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Swa

end
-- ==== Proof.Rows.Base.lean ====
/- A row's scale, the reciprocal of the root of its mean square, and what the calls that fold it into a product use of it:
   it is a real number at least zero whatever the row holds, so it may be taken in or out of a sum of extended reals. -/
module

public import proofs.«01_k».proof.Proof.Consts
public import Idealize.ShloMosaic.Lib.Pipeline.ValueKit
public import Idealize.ShloMosaic.Lib.Pointwise

@[expose] public section

noncomputable section

namespace Cert.Rows

open Idealize.ShloMosaic Cert.Consts

/-- The mean square of a row of 4096 entries, plus the epsilon. -/
def meanSq (f : Fin 4096 → EReal) : EReal := Ideal.div (∑ k, f k * f k) ((4096 : ℝ) : EReal) + ((eps : ℝ) : EReal)

/-- The row's scale. -/
def scale (f : Fin 4096 → EReal) : EReal := Ideal.rsqrt (meanSq f)

theorem sq_nonneg' (x : EReal) : 0 ≤ x * x := by
  rcases le_total 0 x with h | h
  · exact mul_nonneg h h
  · have h' : 0 ≤ -x := by simpa using EReal.neg_le_neg_iff.2 h
    simpa using mul_nonneg h' h'

theorem meanSq_pos (f : Fin 4096 → EReal) : 0 < meanSq f := by
  unfold meanSq
  have h : (0 : EReal) ≤ ∑ k, f k * f k := Finset.sum_nonneg fun k _ => sq_nonneg' (f k)
  have h1 : (0 : EReal) ≤ Ideal.div (∑ k, f k * f k) ((4096 : ℝ) : EReal) := by
    rw [Ideal.div_coe (by norm_num)]
    exact mul_nonneg h (EReal.coe_nonneg.2 (by norm_num))
  calc (0 : EReal) < ((eps : ℝ) : EReal) := EReal.coe_pos.2 eps_pos
    _ ≤ _ := le_add_of_nonneg_left h1

theorem scale_real (f : Fin 4096 → EReal) : ∃ r : ℝ, 0 ≤ r ∧ scale f = (r : EReal) := by
  unfold scale
  have h := meanSq_pos f
  generalize meanSq f = y at h
  induction y using EReal.rec with
  | bot => exact absurd h (by simp)
  | coe r => exact ⟨_, inv_nonneg.2 (Real.sqrt_nonneg r), rsqrt_pos (EReal.coe_pos.1 h)⟩
  | top => exact ⟨0, le_rfl, Ideal.rsqrt_top⟩

/-- A scale times a sum is the sum of the scaled terms. -/
theorem sum_mul_scale {ι : Type} (s : Finset ι) (a : ι → EReal) (f : Fin 4096 → EReal) :
    (∑ i ∈ s, a i) * scale f = ∑ i ∈ s, a i * scale f := by
  classical
  obtain ⟨r, h0, hr⟩ := scale_real f
  rw [hr]
  have h0' : (0 : EReal) ≤ (r : EReal) := EReal.coe_nonneg.2 h0
  induction s using Finset.induction_on with
  | empty => simp
  | insert x t hx ih =>
    rw [Finset.sum_insert hx, Finset.sum_insert hx, EReal.right_distrib_of_nonneg_of_ne_top h0' (EReal.coe_ne_top r), ih]

/-- A row's scaled product with a column: the scale may go on the row's entries. -/
theorem dot_scale (f w : Fin 4096 → EReal) : (∑ k, f k * w k) * scale f = ∑ k, f k * scale f * w k := by
  rw [sum_mul_scale]
  exact Finset.sum_congr rfl fun k _ => by rw [mul_right_comm]

/-- A gated product's entry: the silu of `g`, times `u`. -/
def gated (g u : EReal) : EReal := g * Ideal.div 1 (1 + Ideal.exp (-g)) * u

/-- Where every trip of a loop stores one more piece, the pieces after the last are the trips'. -/
theorem mem_pieces {α : Type*} {N : ℕ} (L : ℕ → List α) (b : Fin N → α) (h0 : L 0 = [])
    (hs : ∀ k : Fin N, L ((k : ℕ) + 1) = [b k] ++ L k) (p : α) : p ∈ L N ↔ ∃ k, p = b k := by
  have h : ∀ n, n ≤ N → (p ∈ L n ↔ ∃ k : Fin N, (k : ℕ) < n ∧ p = b k) := by
    intro n
    induction n with
    | zero => exact fun _ => ⟨fun h => absurd (h0 ▸ h) List.not_mem_nil, fun ⟨_, h, _⟩ => absurd h (Nat.not_lt_zero _)⟩
    | succ n ih =>
      intro hn
      rw [hs ⟨n, hn⟩, List.mem_append, List.mem_singleton, ih (by omega)]
      constructor
      · rintro (rfl | ⟨k, hk, rfl⟩)
        · exact ⟨⟨n, hn⟩, Nat.lt_succ_self n, rfl⟩
        · exact ⟨k, by omega, rfl⟩
      · rintro ⟨k, hk, rfl⟩
        rcases Nat.lt_succ_iff_lt_or_eq.1 hk with h | h
        · exact .inr ⟨k, h, rfl⟩
        · exact .inl (congrArg b (Fin.ext h))
  exact (h N le_rfl).trans ⟨fun ⟨k, _, h⟩ => ⟨k, h⟩, fun ⟨k, h⟩ => ⟨k, k.isLt, h⟩⟩

open Idealize.ShloMosaic.View in
/-- Row bands stored one after another, band `k` at rows `256 k` on, read back at an index: the value every band has there. -/
theorem canon_bands {Val : EltTy → Type} [∀ e, Nonempty (Val e)] {n : Nat} {e : EltTy}
    (L : List (Piece Val (⟨2, ![256 * n, 128]⟩ : Shape) e))
    (off : Fin n → Fin 2 → Nat) (hoff : ∀ k, off k = ![256 * (k : Nat), 0])
    (inb : ∀ k a, off k a + (![256, 128] : Fin 2 → Nat) a ≤ (⟨2, ![256 * n, 128]⟩ : Shape).size a)
    (P : Fin n → (⟨2, ![256, 128]⟩ : Shape).Idx → Val e)
    (hL : ∀ p, p ∈ L ↔ ∃ k : Fin n, p = (⟨Rect.unit (s := ⟨2, ![256 * n, 128]⟩) (off k) ![256, 128] (inb k), P k⟩ : Piece Val _ e))
    (G : (⟨2, ![256 * n, 128]⟩ : Shape).Idx → Val e)
    (h : ∀ (k : Fin n) (x : (⟨2, ![256, 128]⟩ : Shape).Idx) (y : (⟨2, ![256 * n, 128]⟩ : Shape).Idx),
      (y 0 : Nat) = 256 * k + (x 0 : Nat) → (y 1 : Nat) = x 1 → P k x = G y) :
    canon L = G := by
  funext y
  have hy0 : (y 0 : Nat) < 256 * n := (y 0).isLt
  have hy1 : (y 1 : Nat) < 128 := (y 1).isLt
  refine canon_eq_of_allAt L y _ ?_ ?_
  · have hk : (y 0 : Nat) / 256 < n := by omega
    refine ⟨_, (hL _).2 ⟨⟨(y 0 : Nat) / 256, hk⟩, rfl⟩, (Rect.mem_set_unit (inb := inb ⟨(y 0 : Nat) / 256, hk⟩)).mpr fun a => ?_⟩
    rw [hoff]
    fin_cases a
    · show 256 * ((y 0 : Nat) / 256) ≤ (y 0 : Nat) ∧ (y 0 : Nat) < 256 * ((y 0 : Nat) / 256) + 256
      omega
    · show 0 ≤ (y 1 : Nat) ∧ (y 1 : Nat) < 0 + 128
      omega
  · intro p hp x hx
    obtain ⟨k, rfl⟩ := (hL p).1 hp
    have key : ∀ x : (⟨2, ![256, 128]⟩ : Shape).Idx, (∀ a, (y a : Nat) = off k a + 1 * (x a : Nat)) → P k x = G y := fun x hv => by
      have h0 := hv 0
      have h1 := hv 1
      rw [hoff] at h0 h1
      exact h k x y (by simpa using h0) (by simpa using h1)
    exact key x fun a => by rw [← hx]; rfl

end Cert.Rows
end
-- ==== Proof.InProj.Kernel.lean ====
/- The input projection's kernel: at each point of its grid the staged rows' product with the staged columns of the weight,
   each row times its own scale, which the first point of a row block computes and the points after it find kept. -/
module

public import proofs.«01_k».proof.Proof.Gen.InProjIdeal.Value
public import proofs.«01_k».proof.Proof.Rows.Base

@[expose] public section

set_option maxRecDepth 16384

noncomputable section

namespace Cert.InProjIdeal.Rows

open Cert.InProjIdeal Cert.InProjIdeal.Gen Idealize.ShloMosaic Idealize.ShloMosaic.TcCoe Idealize.SL.Sem Cert.Consts

/-- A band's scales: lane `l` of row `r` is that row's. -/
theorem pay1 (v : Vec Ideal S256x4096 .bf16) (x : S256x128.Idx) :
    k0_pay1 (F := Ideal) v x = Cert.Rows.scale fun k => v (ix2 (x 0) k) := by
  pointwise [k0_pay1]
  rw [ofBits_4096, ofBits_eps]
  rfl

/-- The stored block: the product, each row times what its lanes of the kept scales all hold. -/
theorem pay2 (v : Vec Ideal S2048x4096 .bf16) (w : Vec Ideal S1x512x4096 .bf16) (s : Vec Ideal S2048x128 .f32) (r : Fin 2048) (l : Fin 512)
    (g : EReal) (hs : ∀ l, s (ix2 r l) = g) :
    k0_pay2 (F := Ideal) v w s (ix2 r l) = (∑ k : Fin 4096, v (ix2 r k) * w (ix3 (0 : Fin 1) l k)) * g := by
  pointwise [k0_pay2]
  simp only [hs]
  have e : ∀ j : Fin 512, (j : ℕ) = l → (∑ k : Fin 4096, v (ix2 r k) * w (ix3 (0 : Fin 1) j k)) * g
      = (∑ k : Fin 4096, v (ix2 r k) * w (ix3 (0 : Fin 1) l k)) * g := fun j hj => by rw [Fin.ext hj]
  by_cases c0 : (l : ℕ) < 128
  · rw [dif_pos c0]
  rw [dif_neg c0]
  by_cases c1 : (l : ℕ) - 128 < 128
  · rw [dif_pos c1]; exact e _ (by show 128 + ((l : ℕ) - 128) = l; omega)
  rw [dif_neg c1]
  by_cases c2 : (l : ℕ) - 128 - 128 < 128
  · rw [dif_pos c2]; exact e _ (by show 256 + ((l : ℕ) - 128 - 128) = l; omega)
  rw [dif_neg c2]; exact e _ (by show 384 + ((l : ℕ) - 128 - 128 - 128) = l; omega)

/-- The scales of a block's rows, across 128 lanes. -/
def scales (x : Vec Ideal S2048x4096 .bf16) : Vec Ideal S2048x128 .f32 := fun y => Cert.Rows.scale fun k => x (ix2 (y 0) k)

theorem off1 : ∀ k : Fin k0_t1_loop.trips, k0_off1 k = ![256 * (k : ℕ), 0] := by decide
theorem off2 : ∀ k : Fin k0_t1_loop.trips, k0_off2 k = ![256 * (k : ℕ), 0] := by decide

section
variable (𝒱 : Variants) (c : Dev nD) (bd : Option 𝒱.V) (i : grid0.Coords)
  (arg2 : Memref sig .tc .vmem S2048x4096 .bf16) (harg2 : arg2.IsWhole) (arg3 : Memref sig .tc .vmem S1x512x4096 .bf16) (harg3 : arg3.IsWhole)
  (arg4 : Memref sig .tc .vmem S2048x512 .f32) (harg4 : arg4.IsWhole) (arg5 : Memref sig .tc .vmem S2048x128 .f32) (harg5 : arg5.IsWhole)
  (X : BufTy.Contents (Elt Ideal) arg2.view.ty) (h1 : k0_cond1 i = 1#1)

/-- What trip `k` stores. -/
def band (k : Fin k0_t1_loop.trips) : View.Piece (Elt Ideal) S2048x128 .f32 :=
  ⟨Rect.unit (s := S2048x128) (k0_off2 k) S256x128.size (k0_off2_inb i k h1),
    k0_pay1 (F := Ideal) (View.readAt (Elt Ideal) arg2.view (Rect.unit (s := S2048x4096) (k0_off1 k) S256x4096.size (k0_off1_inb i k h1)).toLoadRect X)⟩

theorem trip_eq (k : Fin k0_t1_loop.trips) :
    tripL_k0_t1 (F := Ideal) 𝒱 c bd i arg2 harg2 arg3 harg3 arg4 harg4 arg5 harg5 h1 X k = [band i arg2 X h1 k] := by
  unfold tripL_k0_t1 trip_k0_t1
  rfl

/-- The loop leaves every row's scale. -/
theorem canon_loop (x : Vec Ideal S2048x4096 .bf16) (hX : arg2.view.read (Elt Ideal) X = x) :
    View.canon (pb_k0_t1 (F := Ideal) 𝒱 c bd i arg2 harg2 arg3 harg3 arg4 harg4 arg5 harg5 h1 X k0_t1_loop.trips) = scales x := by
  refine Cert.Rows.canon_bands (n := 8) _ (fun k => k0_off2 k) off2 (fun k => k0_off2_inb i k h1) (fun k => (band i arg2 X h1 k).2)
    (Cert.Rows.mem_pieces (pb_k0_t1 (F := Ideal) 𝒱 c bd i arg2 harg2 arg3 harg3 arg4 harg4 arg5 harg5 h1 X) _ rfl fun k =>
      (pb_k0_t1_succ (F := Ideal) 𝒱 c bd i arg2 harg2 arg3 harg3 arg4 harg4 arg5 harg5 h1 X k).trans (congrArg (· ++ _) (trip_eq 𝒱 c bd i arg2 harg2 arg3 harg3 arg4 harg4 arg5 harg5 X h1 k)))
    (scales x) fun k y z h0 _ => ?_
  show k0_pay1 (F := Ideal) _ y = _
  rw [pay1]
  unfold scales
  refine congrArg _ (funext fun l => ?_)
  rw [View.readAt_eq_ld, hX]
  refine View.ld_unit_apply_of x (k0_off1 k) _ _ _ _ fun a => ?_
  match a with
  | ⟨0, _⟩ => exact h0.trans (congrArg (· + (y 0 : ℕ)) (congrFun (off1 k) 0).symm)
  | ⟨1, _⟩ => exact (Nat.zero_add _).symm.trans (congrArg (· + (l : ℕ)) (congrFun (off1 k) 1).symm)
end

variable (m : (ℓ : Loc nD τ sig) → Buf (Elt Ideal) ℓ) (c : Dev nD)

theorem lt184 (t : Fin cfg0.N) : (t : ℕ) < 184 := t.isLt

theorem idx0 : ∀ t : Fin cfg0.N, win0_0.index t = ![(t : ℕ) / 23, 0] := (by decide +kernel : ∀ t : Fin grid0.N, _)
theorem idx1 : ∀ t : Fin cfg0.N, win0_1.index t = ![0, (t : ℕ) % 23, 0] := (by decide +kernel : ∀ t : Fin grid0.N, _)
theorem idx2 : ∀ t : Fin cfg0.N, win0_2.index t = ![(t : ℕ) / 23, (t : ℕ) % 23] := (by decide +kernel : ∀ t : Fin grid0.N, _)

/-- The rows and the weight, as the call finds them. -/
def rows : Vec Ideal S16384x4096 .bf16 := m ((c : Thread nD τ).loc main_arg0)
def weight : Vec Ideal S2x11776x4096 .bf16 := m ((c : Thread nD τ).loc main_arg1)

/-- The array's row and column of a point's block. -/
def rowAt (t : Fin cfg0.N) (a : Fin 2048) : Fin 16384 := ⟨2048 * ((t : ℕ) / 23) + a, by have := lt184 t; omega⟩
def colAt (t : Fin cfg0.N) (b : Fin 512) : Fin 11776 := ⟨512 * ((t : ℕ) % 23) + b, by have := lt184 t; omega⟩

/-- The staged rows. -/
theorem read0 (t : Fin cfg0.N) (a : Fin 2048) (b : Fin 4096) : iblk m c 0 t (ix2 a b) = rows m c (ix2 (rowAt t a) b) := by
  blk_simp [iblk]
  rw [V_main_arg0]
  unfold rows rowAt
  refine congrArg _ ?_
  blk_ext [idx0 t]

/-- The staged columns of the weight. -/
theorem read1 (t : Fin cfg0.N) (a : Fin 512) (b : Fin 4096) :
    iblk m c 1 t (ix3 (0 : Fin 1) a b) = weight m c (ix3 (0 : Fin 2) (colAt t a) b) := by
  blk_simp [iblk]
  rw [V_main_arg1]
  unfold weight colAt
  refine congrArg _ ?_
  blk_ext [idx1 t]

/-- The scale of a row of the array. -/
def rowScale (n : Fin 16384) : EReal := Cert.Rows.scale fun k => rows m c (ix2 n k)

theorem scales_at (t : Fin cfg0.N) (a : Fin 2048) (l : Fin 128) : scales (iblk m c 0 t) (ix2 a l) = rowScale m c (rowAt t a) := by
  unfold scales rowScale
  exact congrArg _ (funext fun k => read0 m c t a k)

theorem keep (t : Fin cfg0.N) (h : ¬ (t : ℕ) % 23 = 0) (y : S2048x128.Idx) :
    (outsAt0 m c t.val t.isLt).2 y = (outsAt0 m c (t.val - 1) (Nat.lt_of_le_of_lt (Nat.sub_le _ _) t.isLt)).2 y := by
  rw [outsAt0_B m c t h]
  rfl

theorem start (t : Fin cfg0.N) (h : (t : ℕ) % 23 = 0) (a : Fin 2048) (l : Fin 128) :
    (outsAt0 m c t.val t.isLt).2 (ix2 a l) = rowScale m c (rowAt t a) := by
  rw [outsAt0_A m c t h]
  frame_out
  refine (congrFun (canon_loop _ _ _ _ _ _ _ _ _ _ _ _ _ _ (iblk m c 0 t) ((hs0_0 t).read_unread _)) (ix2 a l)).trans ?_
  exact scales_at m c t a l

/-- After every point the kept scales are the staged rows'. -/
theorem kept : ∀ (n : ℕ) (hn : n < cfg0.N) (a : Fin 2048) (l : Fin 128),
    (outsAt0 m c n hn).2 (ix2 a l) = rowScale m c (rowAt ⟨n, hn⟩ a) := by
  intro n
  induction n with
  | zero => exact fun hn a l => start m c ⟨0, hn⟩ (Nat.zero_mod _) a l
  | succ n ih =>
    intro hn a l
    by_cases h : (n + 1) % 23 = 0
    · exact start m c ⟨n + 1, hn⟩ h a l
    · refine (keep m c ⟨n + 1, hn⟩ h (ix2 a l)).trans ((ih (Nat.lt_of_succ_lt hn) a l).trans (congrArg _ (Fin.ext ?_)))
      show 2048 * (n / 23) + (a : ℕ) = 2048 * ((n + 1) / 23) + a
      omega

/-- The stored block at a point. -/
theorem point (t : Fin cfg0.N) (a : Fin 2048) (b : Fin 512) :
    (outsAt0 m c t.val t.isLt).1 (ix2 a b)
      = (∑ k : Fin 4096, rows m c (ix2 (rowAt t a) k) * weight m c (ix3 (0 : Fin 2) (colAt t b) k)) * rowScale m c (rowAt t a) := by
  have e : ∀ s : Vec Ideal S2048x128 .f32, (∀ l, s (ix2 a l) = rowScale m c (rowAt t a)) →
      k0_pay2 (F := Ideal) (iblk m c 0 t) (iblk m c 1 t) s (ix2 a b)
        = (∑ k : Fin 4096, rows m c (ix2 (rowAt t a) k) * weight m c (ix3 (0 : Fin 2) (colAt t b) k)) * rowScale m c (rowAt t a) := fun s hs => by
    rw [pay2 _ _ _ a b _ hs]
    exact congrArg (· * _) (Finset.sum_congr rfl fun k _ => by rw [read0, read1])
  by_cases h : t.val % 23 = 0
  · rw [outsAt0_A m c t h]
    frame_out
    refine e _ fun l => ?_
    rw [View.readCov_eq_canon']
    refine (congrFun (canon_loop _ _ _ _ _ _ _ _ _ _ _ _ _ _ (iblk m c 0 t) ((hs0_0 t).read_unread _)) _).trans ?_
    refine Eq.trans (congrArg _ ?_) (scales_at m c t a l)
    funext x
    match x with
    | ⟨0, _⟩ => exact Fin.ext (by show 0 + 1 * (a : ℕ) = a; omega)
    | ⟨1, _⟩ => exact Fin.ext (by show 0 + 1 * (l : ℕ) = l; omega)
  · rw [outsAt0_B m c t h]
    frame_out
    rw [(Memref.isWhole_whole (sig := sig) cc0_scratch0).read_unread]
    exact e _ fun l => (keep m c t h (ix2 a l)).symm.trans (kept m c t.val t.isLt a l)

/-- The array the call leaves. -/
theorem result : (dats m 0 c).arrAt 2 cfg0.N = fun y : S16384x11776.Idx =>
    (∑ k : Fin 4096, rows m c (ix2 (y 0) k) * weight m c (ix3 (0 : Fin 2) (y 1) k)) * rowScale m c (y 0) := by
  refine (dats m 0 c).arrAt_eq_of_covers 2 _ (by decide +kernel) fun t hf y => ?_
  blk_simp
  rw [after0_2]
  have ey : y = ix2 (n0 := 2048) (n1 := 512) (y 0) (y 1) := by funext a; match a with | ⟨0, _⟩ => rfl | ⟨1, _⟩ => rfl
  have e0 : (win0_2.blk t).view.emb y 0 = rowAt t (y 0) := Fin.ext (by unfold rowAt; blk_simp [idx2 t]; exact congrArg (· + _) (Nat.mul_comm _ _))
  have e1 : (win0_2.blk t).view.emb y 1 = colAt t (y 1) := Fin.ext (by unfold colAt; blk_simp [idx2 t]; exact congrArg (· + _) (Nat.mul_comm _ _))
  rw [e0, e1]
  exact (congrArg _ ey).trans (point m c t (y 0) (y 1))

end Cert.InProjIdeal.Rows

end
-- ==== Proof.InProj.Ref.lean ====
/- The input projection's reference read at an entry. -/
module

public import proofs.«01_k».proof.Proof.Gen.InProjRefIdeal.Read
public import proofs.«01_k».proof.Proof.Rows.Base

@[expose] public section

set_option maxRecDepth 16384

noncomputable section

namespace Cert.InProjRefIdeal.Rows

open Cert.InProjRefIdeal Cert.InProjRefIdeal.Read Idealize.ShloMosaic Cert.Consts

theorem result (x : (⟨S16384x4096, .bf16⟩ : BufTy).Contents (Elt Ideal)) (w : (⟨S2x11776x4096, .bf16⟩ : BufTy).Contents (Elt Ideal))
    (n : Fin 16384) (l : Fin 11776) :
    val_main_v15 (F := Ideal) x w (ix2 n l)
      = ∑ k : Fin 4096, x (ix2 n k) * Cert.Rows.scale (fun k => x (ix2 n k)) * w (ix3 (0 : Fin 2) l k) := by
  pointwise [val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rw [ofBits_4096, ofBits_eps]
  rfl

end Cert.InProjRefIdeal.Rows

end
-- ==== Proof.InProj.Claims.lean ====
/- The input projection's claims: the kernel's product of the unscaled rows, scaled after, is the reference's product of the
   scaled rows, whatever the arrays hold. -/
module

public import proofs.«01_k».proof.Proof.InProj.Kernel
public import proofs.«01_k».proof.Proof.InProj.Ref
public import proofs.«01_k».proof.Proof.Gen.InProjRefIdeal.Run
public import proofs.«01_k».proof.Defs
public import Idealize.ShloMosaic.Lib.Claim

@[expose] public section

set_option maxRecDepth 16384

noncomputable section

namespace Cert.InProj

open Idealize.ShloMosaic Idealize.SL.Sem

/-- The two results, over the kernel's memory. -/
theorem agree (m : (ℓ : Loc Cert.InProjIdeal.nD Cert.InProjIdeal.τ Cert.InProjIdeal.sig) → Buf (Elt Ideal) ℓ) (c : Dev Cert.InProjIdeal.nD) :
    Cert.InProjRefIdeal.Read.val_main_v15 (F := Ideal) (Cert.InProjIdeal.Rows.rows m c) (Cert.InProjIdeal.Rows.weight m c)
      = (Cert.InProjIdeal.Gen.dats m 0 c).arrAt 2 Cert.InProjIdeal.cfg0.N := by
  rw [Cert.InProjIdeal.Rows.result]
  funext y
  have ey : y = ix2 (y 0) (y 1) := by funext a; match a with | ⟨0, _⟩ => rfl | ⟨1, _⟩ => rfl
  refine (congrArg _ ey).trans ((Cert.InProjRefIdeal.Rows.result _ _ (y 0) (y 1)).trans ?_)
  exact (Cert.Rows.dot_scale _ _).symm

theorem algebraic : Cert.algebraic_InProjIdeal_InProjRefIdeal := by
  pair_intro
  · run_from Cert.InProjIdeal.Value.run_blocks m g
  · run_from Cert.InProjRefIdeal.Value.run m' g'
    exact (Cert.InProjRefIdeal.Read.val_main_v15_eq (F := Ideal) _ _).trans (agree m c)

/-- The reference runs host operations alone and has no semaphore. -/
theorem frame_reference : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

end Cert.InProj

end
-- ==== Proof.Ffn.Kernel.lean ====
/- The feed-forward's gated product, its kernel: at the points of the first fifteen row blocks the silu of the scaled rows'
   product with the gate's staged columns, times their product with the up-projection's; at the points of the last row block,
   which an earlier call has computed, the copy of what that call left. -/
module

public import proofs.«01_k».proof.Proof.Gen.FfnUpIdeal.Value
public import proofs.«01_k».proof.Proof.Rows.Base

@[expose] public section

set_option maxRecDepth 16384

noncomputable section

namespace Cert.Rows

open Idealize.ShloMosaic

/-- A 512-lane entry chosen among four runs of 128 lanes is the entry at the lane. -/
theorem lanes (F : Fin 512 → EReal) (l : Fin 512) :
    (if _h : (l : ℕ) < 128 then F l else
      if _h : (l : ℕ) - 128 < 128 then F ⟨128 + ((l : ℕ) - 128), by omega⟩ else
      if _h : (l : ℕ) - 128 - 128 < 128 then F ⟨256 + ((l : ℕ) - 128 - 128), by omega⟩ else
        F ⟨384 + ((l : ℕ) - 128 - 128 - 128), by omega⟩) = F l := by
  by_cases c0 : (l : ℕ) < 128
  · rw [dif_pos c0]
  rw [dif_neg c0]
  by_cases c1 : (l : ℕ) - 128 < 128
  · rw [dif_pos c1]; exact congrArg F (Fin.ext (by show 128 + ((l : ℕ) - 128) = l; omega))
  rw [dif_neg c1]
  by_cases c2 : (l : ℕ) - 128 - 128 < 128
  · rw [dif_pos c2]; exact congrArg F (Fin.ext (by show 256 + ((l : ℕ) - 128 - 128) = l; omega))
  rw [dif_neg c2]; exact congrArg F (Fin.ext (by show 384 + ((l : ℕ) - 128 - 128 - 128) = l; omega))

end Cert.Rows

namespace Cert.FfnUpIdeal.Rows

open Cert.FfnUpIdeal Cert.FfnUpIdeal.Gen Idealize.ShloMosaic Idealize.ShloMosaic.TcCoe Idealize.SL.Sem Cert.Consts

/-- A band's scales. -/
theorem pay1 (v : Vec Ideal S256x4096 .bf16) (x : S256x128.Idx) :
    k0_pay1 (F := Ideal) v x = Cert.Rows.scale fun k => v (ix2 (x 0) k) := by
  pointwise [k0_pay1]
  rw [ofBits_4096, ofBits_eps]
  rfl

/-- The stored block, over rows whose lanes of the kept scales all hold `g`. -/
theorem pay2 (v : Vec Ideal S1024x4096 .bf16) (w w' : Vec Ideal S4096x512 .bf16) (s : Vec Ideal S1024x128 .f32) (r : Fin 1024) (l : Fin 512)
    (g : EReal) (hs : ∀ l, s (ix2 r l) = g) :
    k0_pay2 (F := Ideal) v w s v w' s (ix2 r l)
      = Cert.Rows.gated ((∑ k : Fin 4096, v (ix2 r k) * w (ix2 k l)) * g) ((∑ k : Fin 4096, v (ix2 r k) * w' (ix2 k l)) * g) := by
  pointwise [k0_pay2]
  simp only [hs]
  have e := Cert.Rows.lanes (fun j => (∑ k : Fin 4096, v (ix2 r k) * w (ix2 k j)) * g) l
  have e' := Cert.Rows.lanes (fun j => (∑ k : Fin 4096, v (ix2 r k) * w' (ix2 k j)) * g) l
  beta_reduce at e e'
  rw [e, e', zero_sub]
  rfl

/-- The scales of a block's rows, across 128 lanes. -/
def scales (x : Vec Ideal S1024x4096 .bf16) : Vec Ideal S1024x128 .f32 := fun y => Cert.Rows.scale fun k => x (ix2 (y 0) k)

theorem off1 : ∀ k : Fin k0_t1_loop.trips, k0_off1 k = ![256 * (k : ℕ), 0] := by decide
theorem off2 : ∀ k : Fin k0_t1_loop.trips, k0_off2 k = ![256 * (k : ℕ), 0] := by decide

section
variable (𝒱 : Variants) (c : Dev nD) (bd : Option 𝒱.V) (i : grid0.Coords)
  (arg2 : Memref sig .tc .vmem S1024x4096 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S1024x512 .bf16) (harg5 : arg5.IsWhole)
  (arg6 : Memref sig .tc .vmem S1024x512 .bf16) (harg6 : arg6.IsWhole) (arg7 : Memref sig .tc .vmem S1024x128 .f32) (harg7 : arg7.IsWhole)
  (arg1 : BitVec 32) (h1 : k0_cond1 i = 1#1) (h2 : k0_cond2 i = 1#1) (X : BufTy.Contents (Elt Ideal) arg2.view.ty)

/-- What trip `k` stores. -/
def band (k : Fin k0_t1_loop.trips) : View.Piece (Elt Ideal) S1024x128 .f32 :=
  ⟨Rect.unit (s := S1024x128) (k0_off2 k) S256x128.size (k0_off2_inb i k h1 h2),
    k0_pay1 (F := Ideal) (View.readAt (Elt Ideal) arg2.view (Rect.unit (s := S1024x4096) (k0_off1 k) S256x4096.size (k0_off1_inb i k h1 h2)).toLoadRect X)⟩

theorem trip_eq (k : Fin k0_t1_loop.trips) :
    tripL_k0_t1 (F := Ideal) 𝒱 c bd i arg2 harg2 arg3 harg3 arg4 harg4 arg5 harg5 arg6 harg6 arg7 harg7 arg1 h1 h2 X k
      = [band i arg2 h1 h2 X k] := by
  unfold tripL_k0_t1 trip_k0_t1
  rfl

/-- The loop leaves every row's scale. -/
theorem canon_loop (x : Vec Ideal S1024x4096 .bf16) (hX : arg2.view.read (Elt Ideal) X = x) :
    View.canon (pb_k0_t1 (F := Ideal) 𝒱 c bd i arg2 harg2 arg3 harg3 arg4 harg4 arg5 harg5 arg6 harg6 arg7 harg7 arg1 h1 h2 X k0_t1_loop.trips)
      = scales x := by
  refine Cert.Rows.canon_bands (n := 4) _ (fun k => k0_off2 k) off2 (fun k => k0_off2_inb i k h1 h2) (fun k => (band i arg2 h1 h2 X k).2)
    (Cert.Rows.mem_pieces (pb_k0_t1 (F := Ideal) 𝒱 c bd i arg2 harg2 arg3 harg3 arg4 harg4 arg5 harg5 arg6 harg6 arg7 harg7 arg1 h1 h2 X) _ rfl fun k =>
      (pb_k0_t1_succ (F := Ideal) 𝒱 c bd i arg2 harg2 arg3 harg3 arg4 harg4 arg5 harg5 arg6 harg6 arg7 harg7 arg1 h1 h2 X k).trans (congrArg (· ++ _) (trip_eq 𝒱 c bd i arg2 harg2 arg3 harg3 arg4 harg4 arg5 harg5 arg6 harg6 arg7 harg7 arg1 h1 h2 X k)))
    (scales x) fun k y z h0 _ => ?_
  show k0_pay1 (F := Ideal) _ y = _
  rw [pay1]
  unfold scales
  refine congrArg _ (funext fun l => ?_)
  rw [View.readAt_eq_ld, hX]
  refine View.ld_unit_apply_of x (k0_off1 k) _ _ _ _ fun a => ?_
  match a with
  | ⟨0, _⟩ => exact h0.trans (congrArg (· + (y 0 : ℕ)) (congrFun (off1 k) 0).symm)
  | ⟨1, _⟩ => exact (Nat.zero_add _).symm.trans (congrArg (· + (l : ℕ)) (congrFun (off1 k) 1).symm)
end

variable (m : (ℓ : Loc nD τ sig) → Buf (Elt Ideal) ℓ) (c : Dev nD)

theorem lt352 (t : Fin cfg0.N) : (t : ℕ) < 352 := t.isLt

theorem idx0 : ∀ t : Fin cfg0.N, win0_0.index t = ![(t : ℕ) / 22, 0] := (by decide +kernel : ∀ t : Fin grid0.N, _)
theorem idx1 : ∀ t : Fin cfg0.N, win0_1.index t = ![0, (t : ℕ) % 22] := (by decide +kernel : ∀ t : Fin grid0.N, _)
theorem idx2 : ∀ t : Fin cfg0.N, win0_2.index t = ![0, (t : ℕ) % 22] := (by decide +kernel : ∀ t : Fin grid0.N, _)
theorem idx3 : ∀ t : Fin cfg0.N, 330 ≤ (t : ℕ) → win0_3.index t = ![0, (t : ℕ) % 22] := (by decide +kernel : ∀ t : Fin grid0.N, _)
theorem idx4 : ∀ t : Fin cfg0.N, win0_4.index t = ![(t : ℕ) / 22, (t : ℕ) % 22] := (by decide +kernel : ∀ t : Fin grid0.N, _)

/-- The rows, the gate's and the up-projection's weights and the last row block's product, as the call finds them. -/
def rows : Vec Ideal S16384x4096 .bf16 := m ((c : Thread nD τ).loc main_arg0)
def gate : Vec Ideal S4096x11264 .bf16 := m ((c : Thread nD τ).loc main_arg1)
def up : Vec Ideal S4096x11264 .bf16 := m ((c : Thread nD τ).loc main_arg2)
def last : Vec Ideal S1024x11264 .bf16 := m ((c : Thread nD τ).loc main_arg3)

/-- The array's row and column of a point's block. -/
def rowAt (t : Fin cfg0.N) (a : Fin 1024) : Fin 16384 := ⟨1024 * ((t : ℕ) / 22) + a, by have := lt352 t; omega⟩
def colAt (t : Fin cfg0.N) (b : Fin 512) : Fin 11264 := ⟨512 * ((t : ℕ) % 22) + b, by have := lt352 t; omega⟩

theorem read0 (t : Fin cfg0.N) (a : Fin 1024) (b : Fin 4096) : iblk m c 0 t (ix2 a b) = rows m c (ix2 (rowAt t a) b) := by
  blk_simp [iblk]
  rw [V_main_arg0]
  unfold rows rowAt
  refine congrArg _ ?_
  blk_ext [idx0 t]

theorem read1 (t : Fin cfg0.N) (a : Fin 4096) (b : Fin 512) : iblk m c 1 t (ix2 a b) = gate m c (ix2 a (colAt t b)) := by
  blk_simp [iblk]
  rw [V_main_arg1]
  unfold gate colAt
  refine congrArg _ ?_
  blk_ext [idx1 t]

theorem read2 (t : Fin cfg0.N) (a : Fin 4096) (b : Fin 512) : iblk m c 2 t (ix2 a b) = up m c (ix2 a (colAt t b)) := by
  blk_simp [iblk]
  rw [V_main_arg2]
  unfold up colAt
  refine congrArg _ ?_
  blk_ext [idx2 t]

theorem read3 (t : Fin cfg0.N) (h : 330 ≤ (t : ℕ)) (a : Fin 1024) (b : Fin 512) : iblk m c 3 t (ix2 a b) = last m c (ix2 a (colAt t b)) := by
  blk_simp [iblk]
  rw [V_main_arg3]
  unfold last colAt
  refine congrArg _ ?_
  blk_ext [idx3 t h]

/-- The scale of a row of the array. -/
def rowScale (n : Fin 16384) : EReal := Cert.Rows.scale fun k => rows m c (ix2 n k)

theorem scales_at (t : Fin cfg0.N) (a : Fin 1024) (l : Fin 128) : scales (iblk m c 0 t) (ix2 a l) = rowScale m c (rowAt t a) := by
  unfold scales rowScale
  exact congrArg _ (funext fun k => read0 m c t a k)

theorem keep (t : Fin cfg0.N) (h0 : (t : ℕ) < 330) (h : ¬ (t : ℕ) % 22 = 0) (y : S1024x128.Idx) :
    (outsAt0 m c t.val t.isLt).2 y = (outsAt0 m c (t.val - 1) (Nat.lt_of_le_of_lt (Nat.sub_le _ _) t.isLt)).2 y := by
  rw [outsAt0_B m c t h0 h (Nat.not_le.2 h0)]
  rfl

theorem start (t : Fin cfg0.N) (h0 : (t : ℕ) < 330) (h : (t : ℕ) % 22 = 0) (a : Fin 1024) (l : Fin 128) :
    (outsAt0 m c t.val t.isLt).2 (ix2 a l) = rowScale m c (rowAt t a) := by
  rw [outsAt0_A m c t h0 h (Nat.not_le.2 h0)]
  frame_out
  refine (congrFun (canon_loop _ _ _ _ _ _ _ _ _ _ _ _ _ _ _ _ _ _ _ _ (iblk m c 0 t) ((hs0_0 t).read_unread _)) (ix2 a l)).trans ?_
  exact scales_at m c t a l

/-- After every point of the first fifteen row blocks the kept scales are the staged rows'. -/
theorem kept : ∀ (n : ℕ) (hn : n < cfg0.N) (_ : n < 330) (a : Fin 1024) (l : Fin 128),
    (outsAt0 m c n hn).2 (ix2 a l) = rowScale m c (rowAt ⟨n, hn⟩ a) := by
  intro n
  induction n with
  | zero => exact fun hn h0 a l => start m c ⟨0, hn⟩ h0 (Nat.zero_mod _) a l
  | succ n ih =>
    intro hn h0 a l
    by_cases h : (n + 1) % 22 = 0
    · exact start m c ⟨n + 1, hn⟩ h0 h a l
    · refine (keep m c ⟨n + 1, hn⟩ h0 h (ix2 a l)).trans ((ih (Nat.lt_of_succ_lt hn) (by omega) a l).trans (congrArg _ (Fin.ext ?_)))
      show 1024 * (n / 22) + (a : ℕ) = 1024 * ((n + 1) / 22) + a
      omega

/-- The gated product at a row and column of the arrays. -/
def entry (n : Fin 16384) (l : Fin 11264) : EReal :=
  Cert.Rows.gated ((∑ k : Fin 4096, rows m c (ix2 n k) * gate m c (ix2 k l)) * rowScale m c n)
    ((∑ k : Fin 4096, rows m c (ix2 n k) * up m c (ix2 k l)) * rowScale m c n)

/-- The stored block at a point of the first fifteen row blocks. -/
theorem point (t : Fin cfg0.N) (h0 : (t : ℕ) < 330) (a : Fin 1024) (b : Fin 512) :
    (outsAt0 m c t.val t.isLt).1 (ix2 a b) = entry m c (rowAt t a) (colAt t b) := by
  have e : ∀ s : Vec Ideal S1024x128 .f32, (∀ l, s (ix2 a l) = rowScale m c (rowAt t a)) →
      k0_pay2 (F := Ideal) (iblk m c 0 t) (iblk m c 1 t) s (iblk m c 0 t) (iblk m c 2 t) s (ix2 a b)
        = entry m c (rowAt t a) (colAt t b) := fun s hs => by
    rw [pay2 _ _ _ _ a b _ hs]
    exact congrArg₂ Cert.Rows.gated (congrArg (· * _) (Finset.sum_congr rfl fun k _ => by rw [read0, read1]))
      (congrArg (· * _) (Finset.sum_congr rfl fun k _ => by rw [read0, read2]))
  by_cases h : t.val % 22 = 0
  · rw [outsAt0_A m c t h0 h (Nat.not_le.2 h0)]
    frame_out
    refine e _ fun l => ?_
    rw [View.readCov_eq_canon']
    refine (congrFun (canon_loop _ _ _ _ _ _ _ _ _ _ _ _ _ _ _ _ _ _ _ _ (iblk m c 0 t) ((hs0_0 t).read_unread _)) _).trans ?_
    refine Eq.trans (congrArg _ ?_) (scales_at m c t a l)
    funext x
    match x with
    | ⟨0, _⟩ => exact Fin.ext (by show 0 + 1 * (a : ℕ) = a; omega)
    | ⟨1, _⟩ => exact Fin.ext (by show 0 + 1 * (l : ℕ) = l; omega)
  · rw [outsAt0_B m c t h0 h (Nat.not_le.2 h0)]
    frame_out
    rw [(Memref.isWhole_whole (sig := sig) cc0_scratch0).read_unread]
    exact e _ fun l => (keep m c t h0 h (ix2 a l)).symm.trans (kept m c t.val t.isLt h0 a l)

/-- The stored block at a point of the last row block. -/
theorem point_last (t : Fin cfg0.N) (h0 : ¬ (t : ℕ) < 330) (a : Fin 1024) (b : Fin 512) :
    (outsAt0 m c t.val t.isLt).1 (ix2 a b) = last m c (ix2 a (colAt t b)) := by
  rw [outsAt0_C m c t h0 (Nat.not_lt.1 h0)]
  frame_out
  exact read3 m c t (Nat.not_lt.1 h0) a b

/-- The call's array: the gated product of the first fifteen row blocks above the last one's. -/
def joined (n : Fin 16384) (l : Fin 11264) : EReal :=
  if (n : ℕ) < 15360 then entry m c n l else last m c (ix2 (⟨(n : ℕ) - 15360, by omega⟩ : Fin 1024) l)

/-- Every point stores its block of it. -/
theorem stored (t : Fin cfg0.N) (a : Fin 1024) (b : Fin 512) :
    (outsAt0 m c t.val t.isLt).1 (ix2 a b) = joined m c (rowAt t a) (colAt t b) := by
  have ht := lt352 t
  unfold joined
  by_cases h : (t : ℕ) < 330
  · rw [if_pos (by show 1024 * ((t : ℕ) / 22) + (a : ℕ) < 15360; omega)]
    exact point m c t h a b
  · rw [if_neg (by show ¬ 1024 * ((t : ℕ) / 22) + (a : ℕ) < 15360; omega), point_last m c t h a b]
    refine congrArg (fun r : Fin 1024 => last m c (ix2 r (colAt t b))) (Fin.ext ?_)
    show (a : ℕ) = 1024 * ((t : ℕ) / 22) + (a : ℕ) - 15360
    omega

/-- The array the call leaves. -/
theorem result : (dats m 0 c).arrAt 4 cfg0.N = fun y : S16384x11264.Idx => joined m c (y 0) (y 1) := by
  refine (dats m 0 c).arrAt_eq_of_covers 4 _ (by decide +kernel) fun t hf y => ?_
  blk_simp
  rw [after0_4]
  have ey : y = ix2 (n0 := 1024) (n1 := 512) (y 0) (y 1) := by funext a; match a with | ⟨0, _⟩ => rfl | ⟨1, _⟩ => rfl
  have e0 : (win0_4.blk t).view.emb y 0 = rowAt t (y 0) := Fin.ext (by unfold rowAt; blk_simp [idx4 t]; exact congrArg (· + _) (Nat.mul_comm _ _))
  have e1 : (win0_4.blk t).view.emb y 1 = colAt t (y 1) := Fin.ext (by unfold colAt; blk_simp [idx4 t]; exact congrArg (· + _) (Nat.mul_comm _ _))
  rw [e0, e1]
  exact (congrArg _ ey).trans (stored m c t (y 0) (y 1))

end Cert.FfnUpIdeal.Rows

end
-- ==== Proof.Ffn.Ref.lean ====
/- The gated product's reference read at an entry. -/
module

public import proofs.«01_k».proof.Proof.Gen.FfnUpRefIdeal.Read
public import proofs.«01_k».proof.Proof.Ffn.Kernel

@[expose] public section

set_option maxRecDepth 16384

noncomputable section

namespace Cert.FfnUpRefIdeal.Rows

open Cert.FfnUpRefIdeal Cert.FfnUpRefIdeal.Read Idealize.ShloMosaic Cert.Consts

/-- A row's product with a column, the row scaled before. -/
def scaled (x : (⟨S16384x4096, .bf16⟩ : BufTy).Contents (Elt Ideal)) (w : (⟨S4096x11264, .bf16⟩ : BufTy).Contents (Elt Ideal))
    (n : Fin 16384) (l : Fin 11264) : EReal :=
  ∑ k : Fin 4096, x (ix2 n k) * Cert.Rows.scale (fun k => x (ix2 n k)) * w (ix2 k l)

theorem result (x : (⟨S16384x4096, .bf16⟩ : BufTy).Contents (Elt Ideal)) (w w' : (⟨S4096x11264, .bf16⟩ : BufTy).Contents (Elt Ideal))
    (z : (⟨S1024x11264, .bf16⟩ : BufTy).Contents (Elt Ideal)) (n : Fin 16384) (l : Fin 11264) :
    val_main_v19 (F := Ideal) x w w' z (ix2 n l)
      = if (n : ℕ) < 15360 then Cert.Rows.gated (scaled x w n l) (scaled x w' n l)
        else z (ix2 (⟨(n : ℕ) - 15360, by omega⟩ : Fin 1024) l) := by
  pointwise [val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst,
    val_main_cst_0, val_main_cst_1, val_main_call0_v0, val_main_call0_v1, val_main_call0_v2, val_main_call0_v3, val_main_call0_v4, val_main_call0_v5,
    val_main_call0_cst, val_main_call0_cst_0]
  rw [ofBits_4096, ofBits_eps]
  rfl

end Cert.FfnUpRefIdeal.Rows

end
-- ==== Proof.Ffn.Claims.lean ====
/- The gated product's claims: whatever the arrays hold, the kernel's array is the reference's. -/
module

public import proofs.«01_k».proof.Proof.Ffn.Ref
public import proofs.«01_k».proof.Proof.Gen.FfnUpRefIdeal.Run
public import proofs.«01_k».proof.Defs
public import Idealize.ShloMosaic.Lib.Claim

@[expose] public section

set_option maxRecDepth 16384

noncomputable section

namespace Cert.FfnUp

open Idealize.ShloMosaic Idealize.SL.Sem

/-- The two results, over the kernel's memory. -/
theorem agree (m : (ℓ : Loc Cert.FfnUpIdeal.nD Cert.FfnUpIdeal.τ Cert.FfnUpIdeal.sig) → Buf (Elt Ideal) ℓ) (c : Dev Cert.FfnUpIdeal.nD) :
    Cert.FfnUpRefIdeal.Read.val_main_v19 (F := Ideal) (Cert.FfnUpIdeal.Rows.rows m c) (Cert.FfnUpIdeal.Rows.gate m c)
        (Cert.FfnUpIdeal.Rows.up m c) (Cert.FfnUpIdeal.Rows.last m c)
      = (Cert.FfnUpIdeal.Gen.dats m 0 c).arrAt 4 Cert.FfnUpIdeal.cfg0.N := by
  rw [Cert.FfnUpIdeal.Rows.result]
  funext y
  have ey : y = ix2 (y 0) (y 1) := by funext a; match a with | ⟨0, _⟩ => rfl | ⟨1, _⟩ => rfl
  refine (congrArg _ ey).trans ((Cert.FfnUpRefIdeal.Rows.result _ _ _ _ (y 0) (y 1)).trans ?_)
  unfold Cert.FfnUpIdeal.Rows.joined Cert.FfnUpIdeal.Rows.entry Cert.FfnUpIdeal.Rows.rowScale
  rw [Cert.Rows.dot_scale, Cert.Rows.dot_scale]
  rfl

theorem algebraic : Cert.algebraic_FfnUpIdeal_FfnUpRefIdeal := by
  pair_intro
  · run_from Cert.FfnUpIdeal.Value.run_blocks m g
  · run_from Cert.FfnUpRefIdeal.Value.run m' g'
    obtain ⟨-, -, -, a3⟩ := hagree c
    rw [a3]
    exact (Cert.FfnUpRefIdeal.Read.val_main_v19_eq (F := Ideal) _ _ _ _).trans (agree m c)

/-- The reference runs host operations alone and has no semaphore. -/
theorem frame_reference : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

end Cert.FfnUp

end
-- ==== Proof.FfnFirst.Kernel.lean ====
/- The feed-forward's gated product, its first kernel, which computes the last row block and the weights the later call reads: at a
   point it stores 256 columns of the two weights with the norm's gain, zero past their real width, and the silu of the scaled rows'
   product with the gate's, times their product with the up-projection's; the rows' scales are computed at the first point and kept. -/
module

public import proofs.«01_k».proof.Proof.Gen.FfnUpFirstIdeal.Frame
public import proofs.«01_k».proof.Proof.Rows.Base
public import Idealize.ShloMosaic.Lib.Pipeline.Value

@[expose] public section

set_option maxRecDepth 16384

noncomputable section

namespace Cert.FfnUpFirstIdeal.Rows

open Cert.FfnUpFirstIdeal Cert.FfnUpFirstIdeal.Gen Idealize.ShloMosaic Idealize.ShloMosaic.TcCoe Idealize.SL.Sem Cert.Consts

/-- A 256-lane entry chosen among two runs of 128 lanes is the entry at the lane. -/
theorem lanes (F : Fin 256 → EReal) (l : Fin 256) :
    (if _h : (l : ℕ) < 128 then F l else F ⟨128 + ((l : ℕ) - 128), by omega⟩) = F l := by
  by_cases c0 : (l : ℕ) < 128
  · rw [dif_pos c0]
  rw [dif_neg c0]
  exact congrArg F (Fin.ext (by show 128 + ((l : ℕ) - 128) = l; omega))

/-- A band's scales. -/
theorem pay2 (v : Vec Ideal S256x4096 .bf16) (x : S256x128.Idx) :
    k0_pay2 (F := Ideal) v x = Cert.Rows.scale fun k => v (ix2 (x 0) k) := by
  pointwise [k0_pay2]
  rw [ofBits_4096, ofBits_eps]
  rfl

/-- The stored block, over rows whose lanes of the kept scales all hold `g`. -/
theorem pay1 (v : Vec Ideal S1024x4096 .bf16) (w w' : Vec Ideal S4096x256 .bf16) (s : Vec Ideal S1024x128 .f32) (r : Fin 1024) (l : Fin 256)
    (g : EReal) (hs : ∀ l, s (ix2 r l) = g) :
    k0_pay1 (F := Ideal) v w s v w' s (ix2 r l)
      = Cert.Rows.gated ((∑ k : Fin 4096, v (ix2 r k) * w (ix2 k l)) * g) ((∑ k : Fin 4096, v (ix2 r k) * w' (ix2 k l)) * g) := by
  pointwise [k0_pay1]
  simp only [hs]
  have e := lanes (fun j => (∑ k : Fin 4096, v (ix2 r k) * w (ix2 k j)) * g) l
  have e' := lanes (fun j => (∑ k : Fin 4096, v (ix2 r k) * w' (ix2 k j)) * g) l
  beta_reduce at e e'
  rw [e, e', zero_sub]
  rfl

/-- The columns before the weights' real width are those of the points before the last. -/
theorem mask : ∀ (i : Fin 44) (l : Fin 256),
    IntOp.cmpi CmpIPredicate.slt (IntOp.addi (Scalar.muli (BitVec.ofNat 32 (i : ℕ)) 256#32) (BitVec.ofNat 32 (l : ℕ))) 11008#32
      = if (i : ℕ) < 43 then 1#1 else 0#1 := by decide +kernel

/-- The stored columns of a weight. -/
theorem pay4 (i : grid0.Coords) (v : Vec Ideal S1x4096x256 .f32) (g : Vec Ideal S1x4096x1 .f32) (k : Fin 4096) (l : Fin 256) :
    k0_pay4 (F := Ideal) i v g (ix2 k l) = if (i 0 : ℕ) < 43 then v (ix3 0 k l) * g (ix3 0 k 0) else 0 := by
  pointwise [k0_pay4, k0_pay3]
  rw [mask (i 0) l]
  by_cases h : (i 0 : ℕ) < 43
  · rw [if_pos h, if_pos h]
    rfl
  · rw [if_neg h, if_neg h]
    rfl

theorem pay5 (i : grid0.Coords) (v : Vec Ideal S1x4096x256 .f32) (g : Vec Ideal S1x4096x1 .f32) (k : Fin 4096) (l : Fin 256) :
    k0_pay5 (F := Ideal) i v g (ix2 k l) = if (i 0 : ℕ) < 43 then v (ix3 0 k l) * g (ix3 0 k 0) else 0 :=
  pay4 i v g k l

/-- The scales of a block's rows, across 128 lanes. -/
def scales (x : Vec Ideal S1024x4096 .bf16) : Vec Ideal S1024x128 .f32 := fun y => Cert.Rows.scale fun k => x (ix2 (y 0) k)

theorem off1 : ∀ k : Fin k0_t1_loop.trips, k0_off1 k = ![256 * (k : ℕ), 0] := by decide
theorem off2 : ∀ k : Fin k0_t1_loop.trips, k0_off2 k = ![256 * (k : ℕ), 0] := by decide

section
variable (𝒱 : Variants) (c : Dev nD) (bd : Option 𝒱.V) (i : grid0.Coords)
  (arg1 : Memref sig .tc .vmem S1024x4096 .bf16) (harg1 : arg1.IsWhole) (arg2 : Memref sig .tc .vmem S1x4096x1 .f32) (harg2 : arg2.IsWhole)
  (arg3 : Memref sig .tc .vmem S1x4096x256 .f32) (harg3 : arg3.IsWhole) (arg4 : Memref sig .tc .vmem S1x4096x256 .f32) (harg4 : arg4.IsWhole)
  (arg5 : Memref sig .tc .vmem S1024x256 .bf16) (harg5 : arg5.IsWhole) (arg6 : Memref sig .tc .vmem S4096x256 .bf16) (harg6 : arg6.IsWhole)
  (arg7 : Memref sig .tc .vmem S4096x256 .bf16) (harg7 : arg7.IsWhole) (arg8 : Memref sig .tc .vmem S1024x128 .f32) (harg8 : arg8.IsWhole)
  (h1 : k0_cond1 i = 1#1) (X : BufTy.Contents (Elt Ideal) arg1.view.ty)

/-- What trip `k` stores. -/
def band (k : Fin k0_t1_loop.trips) : View.Piece (Elt Ideal) S1024x128 .f32 :=
  ⟨Rect.unit (s := S1024x128) (k0_off2 k) S256x128.size (k0_off2_inb i k h1),
    k0_pay2 (F := Ideal) (View.readAt (Elt Ideal) arg1.view (Rect.unit (s := S1024x4096) (k0_off1 k) S256x4096.size (k0_off1_inb i k h1)).toLoadRect X)⟩

theorem trip_eq (k : Fin k0_t1_loop.trips) :
    tripL_k0_t1 (F := Ideal) 𝒱 c bd i arg1 harg1 arg2 harg2 arg3 harg3 arg4 harg4 arg5 harg5 arg6 harg6 arg7 harg7 arg8 harg8 h1 X k = [band i arg1 h1 X k] := by
  unfold tripL_k0_t1 trip_k0_t1
  rfl

/-- The loop leaves every row's scale. -/
theorem canon_loop (x : Vec Ideal S1024x4096 .bf16) (hX : arg1.view.read (Elt Ideal) X = x) :
    View.canon (pb_k0_t1 (F := Ideal) 𝒱 c bd i arg1 harg1 arg2 harg2 arg3 harg3 arg4 harg4 arg5 harg5 arg6 harg6 arg7 harg7 arg8 harg8 h1 X k0_t1_loop.trips) = scales x := by
  refine Cert.Rows.canon_bands (n := 4) _ (fun k => k0_off2 k) off2 (fun k => k0_off2_inb i k h1) (fun k => (band i arg1 h1 X k).2)
    (Cert.Rows.mem_pieces (pb_k0_t1 (F := Ideal) 𝒱 c bd i arg1 harg1 arg2 harg2 arg3 harg3 arg4 harg4 arg5 harg5 arg6 harg6 arg7 harg7 arg8 harg8 h1 X) _ rfl fun k =>
      (pb_k0_t1_succ (F := Ideal) 𝒱 c bd i arg1 harg1 arg2 harg2 arg3 harg3 arg4 harg4 arg5 harg5 arg6 harg6 arg7 harg7 arg8 harg8 h1 X k).trans
        (congrArg (· ++ _) (trip_eq 𝒱 c bd i arg1 harg1 arg2 harg2 arg3 harg3 arg4 harg4 arg5 harg5 arg6 harg6 arg7 harg7 arg8 harg8 h1 X k)))
    (scales x) fun k y z h0 _ => ?_
  show k0_pay2 (F := Ideal) _ y = _
  rw [pay2]
  unfold scales
  refine congrArg _ (funext fun l => ?_)
  rw [View.readAt_eq_ld, hX]
  refine View.ld_unit_apply_of x (k0_off1 k) _ _ _ _ fun a => ?_
  match a with
  | ⟨0, _⟩ => exact h0.trans (congrArg (· + (y 0 : ℕ)) (congrFun (off1 k) 0).symm)
  | ⟨1, _⟩ => exact (Nat.zero_add _).symm.trans (congrArg (· + (l : ℕ)) (congrFun (off1 k) 1).symm)
end

variable (m : (ℓ : Loc nD τ sig) → Buf (Elt Ideal) ℓ) (c : Dev nD)

theorem lt44 (t : Fin cfg0.N) : (t : ℕ) < 44 := t.isLt

theorem coord : ∀ t : Fin cfg0.N, ((grid0.coords t) 0 : ℕ) = t := (by decide +kernel : ∀ t : Fin grid0.N, _)
theorem idx0 : ∀ t : Fin cfg0.N, win0_0.index t = ![15, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, (t : ℕ) < 43 → win0_2.index t = ![0, 0, (t : ℕ)] := (by decide +kernel : ∀ t : Fin grid0.N, _)
theorem idx3 : ∀ t : Fin cfg0.N, (t : ℕ) < 43 → win0_3.index t = ![0, 0, (t : ℕ)] := (by decide +kernel : ∀ t : Fin grid0.N, _)
theorem idx4 : ∀ t : Fin cfg0.N, win0_4.index t = ![0, (t : ℕ)] := (by decide +kernel : ∀ t : Fin grid0.N, _)
theorem idx5 : ∀ t : Fin cfg0.N, win0_5.index t = ![0, (t : ℕ)] := (by decide +kernel : ∀ t : Fin grid0.N, _)
theorem idx6 : ∀ t : Fin cfg0.N, win0_6.index t = ![0, (t : ℕ)] := (by decide +kernel : ∀ t : Fin grid0.N, _)

/-- The rows, the layers' gains and the layers' gate and up weights, as the call finds them. -/
def rows : Vec Ideal S16384x4096 .bf16 := m ((c : Thread nD τ).loc main_arg0)
def gains : Vec Ideal S2x4096x1 .f32 := m ((c : Thread nD τ).loc main_arg1)
def gates : Vec Ideal S2x4096x11008 .f32 := m ((c : Thread nD τ).loc main_arg2)
def ups : Vec Ideal S2x4096x11008 .f32 := m ((c : Thread nD τ).loc main_arg3)

/-- A row of the last row block in the array of all rows, and the padded array's column of a point's block. -/
def rowAt (a : Fin 1024) : Fin 16384 := ⟨15360 + a, by omega⟩
def colAt (t : Fin cfg0.N) (b : Fin 256) : Fin 11264 := ⟨256 * (t : ℕ) + b, by have := lt44 t; omega⟩

theorem read0 (t : Fin cfg0.N) (a : Fin 1024) (b : Fin 4096) : iblk m c 0 t (ix2 a b) = rows m c (ix2 (rowAt a) b) := by
  blk_simp [iblk]
  rw [V_main_arg0]
  unfold rows rowAt
  refine congrArg _ ?_
  blk_ext [idx0 t]

theorem read1 (t : Fin cfg0.N) (a : Fin 4096) : iblk m c 1 t (ix3 0 a 0) = gains m c (ix3 0 a 0) := by
  blk_simp [iblk]
  rw [V_main_arg1]
  unfold gains
  refine congrArg _ ?_
  blk_ext [idx1 t]

theorem read2 (t : Fin cfg0.N) (h : (t : ℕ) < 43) (a : Fin 4096) (b : Fin 256) :
    iblk m c 2 t (ix3 0 a b) = gates m c (ix3 0 a ⟨256 * (t : ℕ) + b, by omega⟩) := by
  blk_simp [iblk]
  rw [V_main_arg2]
  unfold gates
  refine congrArg _ ?_
  blk_ext [idx2 t h]

theorem read3 (t : Fin cfg0.N) (h : (t : ℕ) < 43) (a : Fin 4096) (b : Fin 256) :
    iblk m c 3 t (ix3 0 a b) = ups m c (ix3 0 a ⟨256 * (t : ℕ) + b, by omega⟩) := by
  blk_simp [iblk]
  rw [V_main_arg3]
  unfold ups
  refine congrArg _ ?_
  blk_ext [idx3 t h]

/-- The layer's weight with the gain, zero past the real width, at a row and column. -/
def gained (w : Vec Ideal S2x4096x11008 .f32) (g : Vec Ideal S2x4096x1 .f32) (k : Fin 4096) (l : Fin 11264) : EReal :=
  if h : (l : ℕ) < 11008 then w (ix3 0 k ⟨l, h⟩) * g (ix3 0 k 0) else 0

theorem cols2 (t : Fin cfg0.N) (k : Fin 4096) (l : Fin 256) :
    k0_pay4 (F := Ideal) (grid0.coords t) (iblk m c 2 t) (iblk m c 1 t) (ix2 k l) = gained (gates m c) (gains m c) k (colAt t l) := by
  rw [pay4, coord]
  unfold gained
  by_cases h : (t : ℕ) < 43
  · rw [if_pos h, dif_pos (by show 256 * (t : ℕ) + (l : ℕ) < 11008; omega), read2 m c t h, read1]
    rfl
  · rw [if_neg h, dif_neg (by show ¬ 256 * (t : ℕ) + (l : ℕ) < 11008; omega)]

theorem cols3 (t : Fin cfg0.N) (k : Fin 4096) (l : Fin 256) :
    k0_pay5 (F := Ideal) (grid0.coords t) (iblk m c 3 t) (iblk m c 1 t) (ix2 k l) = gained (ups m c) (gains m c) k (colAt t l) := by
  rw [pay5, coord]
  unfold gained
  by_cases h : (t : ℕ) < 43
  · rw [if_pos h, dif_pos (by show 256 * (t : ℕ) + (l : ℕ) < 11008; omega), read3 m c t h, read1]
    rfl
  · rw [if_neg h, dif_neg (by show ¬ 256 * (t : ℕ) + (l : ℕ) < 11008; omega)]

/-- The scale of a row of the last block. -/
def rowScale (n : Fin 1024) : EReal := Cert.Rows.scale fun k => rows m c (ix2 (rowAt n) k)

theorem scales_at (t : Fin cfg0.N) (a : Fin 1024) (l : Fin 128) : scales (iblk m c 0 t) (ix2 a l) = rowScale m c a := by
  unfold scales rowScale
  exact congrArg _ (funext fun k => read0 m c t a k)

theorem keep (t : Fin cfg0.N) (h : ¬ (t : ℕ) % 44 = 0) (y : S1024x128.Idx) :
    (outsAt0 m c t.val t.isLt).2.2.2 y = (outsAt0 m c (t.val - 1) (Nat.lt_of_le_of_lt (Nat.sub_le _ _) t.isLt)).2.2.2 y := by
  rw [outsAt0_B m c t h]
  rfl

theorem start (t : Fin cfg0.N) (h : (t : ℕ) % 44 = 0) (a : Fin 1024) (l : Fin 128) :
    (outsAt0 m c t.val t.isLt).2.2.2 (ix2 a l) = rowScale m c a := by
  rw [outsAt0_A m c t h]
  frame_out
  refine (congrFun (canon_loop _ _ _ _ _ _ _ _ _ _ _ _ _ _ _ _ _ _ _ _ _ _ (iblk m c 0 t) ((hs0_0 t).read_unread _)) (ix2 a l)).trans ?_
  exact scales_at m c t a l

/-- After every point the kept scales are the last block's. -/
theorem kept : ∀ (n : ℕ) (hn : n < cfg0.N) (a : Fin 1024) (l : Fin 128), (outsAt0 m c n hn).2.2.2 (ix2 a l) = rowScale m c a := by
  intro n
  induction n with
  | zero => exact fun hn a l => start m c ⟨0, hn⟩ (Nat.zero_mod _) a l
  | succ n ih =>
    intro hn a l
    have hN := lt44 ⟨n + 1, hn⟩
    exact (keep m c ⟨n + 1, hn⟩ (by show ¬ (n + 1) % 44 = 0; have : n + 1 < 44 := hN; omega) (ix2 a l)).trans (ih (Nat.lt_of_succ_lt hn) a l)

/-- The gated product at a row of the last block and a column. -/
def entry (n : Fin 1024) (l : Fin 11264) : EReal :=
  Cert.Rows.gated ((∑ k : Fin 4096, rows m c (ix2 (rowAt n) k) * gained (gates m c) (gains m c) k l) * rowScale m c n)
    ((∑ k : Fin 4096, rows m c (ix2 (rowAt n) k) * gained (ups m c) (gains m c) k l) * rowScale m c n)

/-- The three stored blocks at a point. -/
theorem stored4 (t : Fin cfg0.N) (a : Fin 1024) (b : Fin 256) : (outsAt0 m c t.val t.isLt).1 (ix2 a b) = entry m c a (colAt t b) := by
  have e : ∀ s : Vec Ideal S1024x128 .f32, (∀ l, s (ix2 a l) = rowScale m c a) →
      k0_pay1 (F := Ideal) (iblk m c 0 t) (k0_pay4 (grid0.coords t) (iblk m c 2 t) (iblk m c 1 t)) s (iblk m c 0 t)
          (k0_pay5 (grid0.coords t) (iblk m c 3 t) (iblk m c 1 t)) s (ix2 a b)
        = entry m c a (colAt t b) := fun s hs => by
    rw [pay1 _ _ _ _ a b _ hs]
    exact congrArg₂ Cert.Rows.gated (congrArg (· * _) (Finset.sum_congr rfl fun k _ => by rw [read0, cols2]))
      (congrArg (· * _) (Finset.sum_congr rfl fun k _ => by rw [read0, cols3]))
  by_cases h : t.val % 44 = 0
  · rw [outsAt0_A m c t h]
    frame_out
    refine e _ fun l => ?_
    rw [View.readCov_eq_canon']
    refine (congrFun (canon_loop _ _ _ _ _ _ _ _ _ _ _ _ _ _ _ _ _ _ _ _ _ _ (iblk m c 0 t) ((hs0_0 t).read_unread _)) _).trans ?_
    refine Eq.trans (congrArg _ ?_) (scales_at m c t a l)
    funext x
    match x with
    | ⟨0, _⟩ => exact Fin.ext (by show 0 + 1 * (a : ℕ) = a; omega)
    | ⟨1, _⟩ => exact Fin.ext (by show 0 + 1 * (l : ℕ) = l; omega)
  · rw [outsAt0_B m c t h]
    frame_out
    rw [(Memref.isWhole_whole (sig := sig) cc0_scratch0).read_unread]
    exact e _ fun l => (keep m c t h (ix2 a l)).symm.trans (kept m c t.val t.isLt a l)

theorem stored5 (t : Fin cfg0.N) (a : Fin 4096) (b : Fin 256) :
    (outsAt0 m c t.val t.isLt).2.1 (ix2 a b) = gained (gates m c) (gains m c) a (colAt t b) := by
  refine Eq.trans ?_ (cols2 m c t a b)
  by_cases h : t.val % 44 = 0
  · rw [outsAt0_A m c t h]
    frame_out
  · rw [outsAt0_B m c t h]
    frame_out

theorem stored6 (t : Fin cfg0.N) (a : Fin 4096) (b : Fin 256) :
    (outsAt0 m c t.val t.isLt).2.2.1 (ix2 a b) = gained (ups m c) (gains m c) a (colAt t b) := by
  refine Eq.trans ?_ (cols3 m c t a b)
  by_cases h : t.val % 44 = 0
  · rw [outsAt0_A m c t h]
    frame_out
  · rw [outsAt0_B m c t h]
    frame_out

/-- The arrays the call leaves. -/
theorem result4 : (dats m 0 c).arrAt 4 cfg0.N = fun y : S1024x11264.Idx => entry m c (y 0) (y 1) := by
  refine (dats m 0 c).arrAt_eq_of_covers 4 _ (by decide +kernel) fun t hf y => ?_
  blk_simp
  rw [after0_4]
  have ey : y = ix2 (n0 := 1024) (n1 := 256) (y 0) (y 1) := by funext a; match a with | ⟨0, _⟩ => rfl | ⟨1, _⟩ => rfl
  have e0 : (win0_4.blk t).view.emb y 0 = y 0 := Fin.ext (by blk_simp [idx4 t])
  have e1 : (win0_4.blk t).view.emb y 1 = colAt t (y 1) := Fin.ext (by unfold colAt; blk_simp [idx4 t]; exact congrArg (· + _) (Nat.mul_comm _ _))
  rw [e0, e1]
  exact (congrArg _ ey).trans (stored4 m c t (y 0) (y 1))

theorem result5 : (dats m 0 c).arrAt 5 cfg0.N = fun y : S4096x11264.Idx => gained (gates m c) (gains m c) (y 0) (y 1) := by
  refine (dats m 0 c).arrAt_eq_of_covers 5 _ (by decide +kernel) fun t hf y => ?_
  blk_simp
  rw [after0_5]
  have ey : y = ix2 (n0 := 4096) (n1 := 256) (y 0) (y 1) := by funext a; match a with | ⟨0, _⟩ => rfl | ⟨1, _⟩ => rfl
  have e0 : (win0_5.blk t).view.emb y 0 = y 0 := Fin.ext (by blk_simp [idx5 t])
  have e1 : (win0_5.blk t).view.emb y 1 = colAt t (y 1) := Fin.ext (by unfold colAt; blk_simp [idx5 t]; exact congrArg (· + _) (Nat.mul_comm _ _))
  rw [e0, e1]
  exact (congrArg _ ey).trans (stored5 m c t (y 0) (y 1))

theorem result6 : (dats m 0 c).arrAt 6 cfg0.N = fun y : S4096x11264.Idx => gained (ups m c) (gains m c) (y 0) (y 1) := by
  refine (dats m 0 c).arrAt_eq_of_covers 6 _ (by decide +kernel) fun t hf y => ?_
  blk_simp
  rw [after0_6]
  have ey : y = ix2 (n0 := 4096) (n1 := 256) (y 0) (y 1) := by funext a; match a with | ⟨0, _⟩ => rfl | ⟨1, _⟩ => rfl
  have e0 : (win0_6.blk t).view.emb y 0 = y 0 := Fin.ext (by blk_simp [idx6 t])
  have e1 : (win0_6.blk t).view.emb y 1 = colAt t (y 1) := Fin.ext (by unfold colAt; blk_simp [idx6 t]; exact congrArg (· + _) (Nat.mul_comm _ _))
  rw [e0, e1]
  exact (congrArg _ ey).trans (stored6 m c t (y 0) (y 1))

/-- The run, its three arrays named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩)
    (run_main m ρ)

end Cert.FfnUpFirstIdeal.Rows

end
-- ==== Proof.FfnFirst.Claims.lean ====
/- The gated product's first call's claims: whatever the arrays hold, the kernel's three arrays are the reference's. -/
module

public import proofs.«01_k».proof.Proof.FfnFirst.Kernel
public import proofs.«01_k».proof.Proof.Gen.FfnUpFirstRefIdeal.Read
public import proofs.«01_k».proof.Proof.Gen.FfnUpFirstRefIdeal.Run
public import proofs.«01_k».proof.Defs
public import Idealize.ShloMosaic.Lib.Claim

@[expose] public section

set_option maxRecDepth 16384

noncomputable section

namespace Cert.FfnUpFirstRefIdeal.Rows

open Cert.FfnUpFirstRefIdeal Cert.FfnUpFirstRefIdeal.Read Idealize.ShloMosaic Cert.Consts

variable (x : (⟨S16384x4096, .bf16⟩ : BufTy).Contents (Elt Ideal)) (g : (⟨S2x4096x1, .f32⟩ : BufTy).Contents (Elt Ideal))
  (w w' : (⟨S2x4096x11008, .f32⟩ : BufTy).Contents (Elt Ideal))

/-- The integer zero the padding is made of, as a number. -/
theorem zero_pad : FloatOps.sitofp (F := Ideal) .f32 (0#32) = (0 : EReal) := by
  show ((((0#32 : BitVec 32).toInt : ℤ) : ℝ) : EReal) = 0
  simp

/-- A row of the last block. -/
def row (n : Fin 1024) (k : Fin 4096) : EReal := x (ix2 (⟨15360 + n, by omega⟩ : Fin 16384) k)

/-- A normed row's product with a column of the layer's weight. -/
def normed (n : Fin 1024) (l : Fin 11008) : EReal :=
  ∑ k : Fin 4096, row x n k * Cert.Rows.scale (row x n) * g (ix3 0 k 0) * w (ix3 0 k l)

theorem product (n : Fin 1024) (l : Fin 11008) :
    val_main_v24 (F := Ideal) x g w w' (ix2 n l) = Cert.Rows.gated (normed x g w n l) (normed x g w' n l) := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_call0_v0, val_main_call0_v1, val_main_call0_v2, val_main_call0_v3, val_main_call0_v4, val_main_call0_v5, val_main_call0_cst,
    val_main_call0_cst_0]
  rw [ofBits_4096, ofBits_eps]
  rfl

theorem first (n : Fin 1024) (l : Fin 11264) : val_main_v38 (F := Ideal) x g w w' (ix2 n l)
    = if h : (l : ℕ) < 11008 then Cert.Rows.gated (normed x g w n ⟨l, h⟩) (normed x g w' n ⟨l, h⟩) else 0 := by
  pointwise [val_main_v38, val_main_v37, val_main_call1_v0, val_main_c]
  rw [zero_pad]
  by_cases h : (l : ℕ) < 11008
  · rw [dif_pos h, dif_pos h, product]
  · rw [dif_neg h, dif_neg h]

theorem second (k : Fin 4096) (l : Fin 11264) :
    val_main_v40 (F := Ideal) g w (ix2 k l) = Cert.FfnUpFirstIdeal.Rows.gained w g k l := by
  pointwise [val_main_v40, val_main_v39, val_main_call2_v0, val_main_c_2, val_main_v30, val_main_v29, val_main_v28, val_main_v27, val_main_v26,
    val_main_v25]
  rw [zero_pad]
  rfl

theorem third (k : Fin 4096) (l : Fin 11264) :
    val_main_v42 (F := Ideal) g w (ix2 k l) = Cert.FfnUpFirstIdeal.Rows.gained w g k l := by
  pointwise [val_main_v42, val_main_v41, val_main_call3_v0, val_main_c_3, val_main_v36, val_main_v35, val_main_v34, val_main_v33, val_main_v32,
    val_main_v31]
  rw [zero_pad]
  rfl

/-- The scale taken after the product and the gain on the weight, or both on the row: the same sum. -/
theorem normed_eq (n : Fin 1024) (l : Fin 11264) (h : (l : ℕ) < 11008) :
    (∑ k : Fin 4096, row x n k * Cert.FfnUpFirstIdeal.Rows.gained w g k l) * Cert.Rows.scale (row x n) = normed x g w n ⟨l, h⟩ := by
  rw [Cert.Rows.dot_scale]
  unfold normed Cert.FfnUpFirstIdeal.Rows.gained
  refine Finset.sum_congr rfl fun k _ => ?_
  rw [dif_pos h, mul_assoc (_ * _) (g _) (w _), mul_comm (g _) (w _)]

/-- Past the real width the product is zero. -/
theorem normed_zero (n : Fin 1024) (l : Fin 11264) (h : ¬ (l : ℕ) < 11008) :
    (∑ k : Fin 4096, row x n k * Cert.FfnUpFirstIdeal.Rows.gained w g k l) * Cert.Rows.scale (row x n) = 0 := by
  have e : ∀ k : Fin 4096, row x n k * Cert.FfnUpFirstIdeal.Rows.gained w g k l = 0 := fun k => by
    unfold Cert.FfnUpFirstIdeal.Rows.gained
    rw [dif_neg h, mul_zero]
  rw [Finset.sum_congr rfl fun k _ => e k, Finset.sum_const_zero, zero_mul]

end Cert.FfnUpFirstRefIdeal.Rows

namespace Cert.FfnUpFirst

open Idealize.ShloMosaic Idealize.SL.Sem Cert.FfnUpFirstIdeal.Rows

variable (m : (ℓ : Loc Cert.FfnUpFirstIdeal.nD Cert.FfnUpFirstIdeal.τ Cert.FfnUpFirstIdeal.sig) → Buf (Elt Ideal) ℓ) (c : Dev Cert.FfnUpFirstIdeal.nD)

theorem agree4 : Cert.FfnUpFirstRefIdeal.Read.val_main_v38 (F := Ideal) (rows m c) (gains m c) (gates m c) (ups m c)
    = (Cert.FfnUpFirstIdeal.Gen.dats m 0 c).arrAt 4 Cert.FfnUpFirstIdeal.cfg0.N := by
  rw [result4]
  funext y
  have ey : y = ix2 (y 0) (y 1) := by funext a; match a with | ⟨0, _⟩ => rfl | ⟨1, _⟩ => rfl
  refine (congrArg _ ey).trans ((Cert.FfnUpFirstRefIdeal.Rows.first _ _ _ _ (y 0) (y 1)).trans ?_)
  unfold entry rowScale
  by_cases h : (y 1 : ℕ) < 11008
  · rw [dif_pos h]
    exact (congrArg₂ Cert.Rows.gated (Cert.FfnUpFirstRefIdeal.Rows.normed_eq (rows m c) (gains m c) (gates m c) (y 0) (y 1) h)
      (Cert.FfnUpFirstRefIdeal.Rows.normed_eq (rows m c) (gains m c) (ups m c) (y 0) (y 1) h)).symm
  · rw [dif_neg h]
    refine ((congrArg₂ Cert.Rows.gated (Cert.FfnUpFirstRefIdeal.Rows.normed_zero (rows m c) (gains m c) (gates m c) (y 0) (y 1) h)
      (Cert.FfnUpFirstRefIdeal.Rows.normed_zero (rows m c) (gains m c) (ups m c) (y 0) (y 1) h)).trans ?_).symm
    unfold Cert.Rows.gated
    rw [mul_zero]

theorem agree5 : Cert.FfnUpFirstRefIdeal.Read.val_main_v40 (F := Ideal) (gains m c) (gates m c)
    = (Cert.FfnUpFirstIdeal.Gen.dats m 0 c).arrAt 5 Cert.FfnUpFirstIdeal.cfg0.N := by
  rw [result5]
  funext y
  have ey : y = ix2 (y 0) (y 1) := by funext a; match a with | ⟨0, _⟩ => rfl | ⟨1, _⟩ => rfl
  exact (congrArg _ ey).trans (Cert.FfnUpFirstRefIdeal.Rows.second _ _ (y 0) (y 1))

theorem agree6 : Cert.FfnUpFirstRefIdeal.Read.val_main_v42 (F := Ideal) (gains m c) (ups m c)
    = (Cert.FfnUpFirstIdeal.Gen.dats m 0 c).arrAt 6 Cert.FfnUpFirstIdeal.cfg0.N := by
  rw [result6]
  funext y
  have ey : y = ix2 (y 0) (y 1) := by funext a; match a with | ⟨0, _⟩ => rfl | ⟨1, _⟩ => rfl
  exact (congrArg _ ey).trans (Cert.FfnUpFirstRefIdeal.Rows.third _ _ (y 0) (y 1))

theorem algebraic : Cert.algebraic_FfnUpFirstIdeal_FfnUpFirstRefIdeal := by
  pair_intro
  · run_from Cert.FfnUpFirstIdeal.Rows.run m g
  · run_from Cert.FfnUpFirstRefIdeal.Value.run m' g'
    · obtain ⟨a0, a1, a2, a3⟩ := hagree c
      refine (Cert.FfnUpFirstRefIdeal.Read.val_main_v38_eq (F := Ideal) _ _).trans ?_
      simp only [a0, a1, a2, a3]
      exact agree4 m c
    · exact (Cert.FfnUpFirstRefIdeal.Read.val_main_v40_eq (F := Ideal) _ _).trans (agree5 m c)
    · exact (Cert.FfnUpFirstRefIdeal.Read.val_main_v42_eq (F := Ideal) _ _).trans (agree6 m c)

/-- The reference runs host operations alone and has no semaphore. -/
theorem frame_reference : Cert.quiescent_FfnUpFirstRefIdeal := fun m ρ _ =>
  (θ_run Cert.FfnUpFirstRefIdeal.defs _ _).mono (fun r h => ⟨fun c => (h c).2.2.2, sem_eq_zero_of_no_sems (by decide) r.2⟩)
    (Cert.FfnUpFirstRefIdeal.Value.run (F := Ideal) m ρ)

end Cert.FfnUpFirst

end
-- ==== Proof.Rows.Groups.lean ====
/- A row of 4096 entries laid out as four groups of 1024, and its product with a column taken group by group. -/
module

public import proofs.«01_k».proof.Proof.Rows.Base

@[expose] public section

noncomputable section

namespace Cert.Rows

/-- Entry `k` of the four groups side by side. -/
def pick (a b c d : Fin 1024 → EReal) (k : Fin 4096) : EReal :=
  if h0 : (k : ℕ) < 1024 then a ⟨k, h0⟩ else
  if h1 : (k : ℕ) - 1024 < 1024 then b ⟨(k : ℕ) - 1024, h1⟩ else
  if h2 : (k : ℕ) - 1024 - 1024 < 1024 then c ⟨(k : ℕ) - 1024 - 1024, h2⟩ else
    d ⟨(k : ℕ) - 1024 - 1024 - 1024, by omega⟩

variable (a b c d : Fin 1024 → EReal) (x : Fin 1024)

theorem pick_0 : pick a b c d ⟨x, by omega⟩ = a x := by
  unfold pick
  rw [dif_pos x.isLt]

theorem pick_1 : pick a b c d ⟨1024 + x, by omega⟩ = b x := by
  unfold pick
  rw [dif_neg (by show ¬ 1024 + (x : ℕ) < 1024; omega), dif_pos (by show 1024 + (x : ℕ) - 1024 < 1024; omega)]
  exact congrArg b (Fin.ext (by show 1024 + (x : ℕ) - 1024 = x; omega))

theorem pick_2 : pick a b c d ⟨2048 + x, by omega⟩ = c x := by
  unfold pick
  rw [dif_neg (by show ¬ 2048 + (x : ℕ) < 1024; omega), dif_neg (by show ¬ 2048 + (x : ℕ) - 1024 < 1024; omega),
    dif_pos (by show 2048 + (x : ℕ) - 1024 - 1024 < 1024; omega)]
  exact congrArg c (Fin.ext (by show 2048 + (x : ℕ) - 1024 - 1024 = x; omega))

theorem pick_3 : pick a b c d ⟨3072 + x, by omega⟩ = d x := by
  unfold pick
  rw [dif_neg (by show ¬ 3072 + (x : ℕ) < 1024; omega), dif_neg (by show ¬ 3072 + (x : ℕ) - 1024 < 1024; omega),
    dif_neg (by show ¬ 3072 + (x : ℕ) - 1024 - 1024 < 1024; omega)]
  exact congrArg d (Fin.ext (by show 3072 + (x : ℕ) - 1024 - 1024 - 1024 = x; omega))

theorem sum_four (f : Fin 4096 → EReal) :
    ∑ k, f k = ∑ x : Fin 1024, f ⟨x, by omega⟩ + ∑ x : Fin 1024, f ⟨1024 + x, by omega⟩ + ∑ x : Fin 1024, f ⟨2048 + x, by omega⟩
      + ∑ x : Fin 1024, f ⟨3072 + x, by omega⟩ := by
  refine (Fin.sum_univ_add (a := 3072) (b := 1024) f).trans (congrArg₂ (· + ·) ?_ rfl)
  refine (Fin.sum_univ_add (a := 2048) (b := 1024) _).trans (congrArg₂ (· + ·) ?_ rfl)
  exact Fin.sum_univ_add (a := 1024) (b := 1024) _

/-- The product added to `r` group by group. -/
theorem pick_dot (r : EReal) (w : Fin 4096 → EReal) :
    r + ∑ k, pick a b c d k * w k
      = r + ∑ x, a x * w ⟨x, by omega⟩ + ∑ x : Fin 1024, b x * w ⟨1024 + x, by omega⟩ + ∑ x : Fin 1024, c x * w ⟨2048 + x, by omega⟩
        + ∑ x : Fin 1024, d x * w ⟨3072 + x, by omega⟩ := by
  rw [sum_four]
  simp only [pick_0, pick_1, pick_2, pick_3, add_assoc]

end Cert.Rows

end
-- ==== Proof.Out.Kernel.lean ====
/- The output projection's kernel: at the points of the first fifteen row blocks the residual and, one after another, the four
   mixers' products with their bands of the weight's staged columns; at the points of the last row block, which an earlier call has
   computed, the copies of what that call left. -/
module

public import proofs.«01_k».proof.Proof.Gen.OutProjIdeal.Value
public import proofs.«01_k».proof.Proof.Rows.Groups

@[expose] public section

set_option maxRecDepth 16384

noncomputable section

namespace Cert.OutProjIdeal.Rows

open Cert.OutProjIdeal Cert.OutProjIdeal.Gen Idealize.ShloMosaic Idealize.ShloMosaic.TcCoe Idealize.SL.Sem

theorem pay1 (r : Vec Ideal S1024x512 .f32) (a0 a1 a2 a3 : Vec Ideal S1024x1024 .bf16) (w0 w1 w2 w3 : Vec Ideal S1024x512 .bf16) (n : Fin 1024) (l : Fin 512) :
    k0_pay1 (F := Ideal) r a0 w0 a1 w1 a2 w2 a3 w3 (ix2 n l)
      = r (ix2 n l) + ∑ x : Fin 1024, a0 (ix2 n x) * w0 (ix2 x l) + ∑ x : Fin 1024, a1 (ix2 n x) * w1 (ix2 x l)
        + ∑ x : Fin 1024, a2 (ix2 n x) * w2 (ix2 x l) + ∑ x : Fin 1024, a3 (ix2 n x) * w3 (ix2 x l) := by
  pointwise [k0_pay1]

/-- The second result's block is the first's, cast. -/
theorem pay2 (r : Vec Ideal S1024x512 .f32) (a0 a1 a2 a3 : Vec Ideal S1024x1024 .bf16) (w0 w1 w2 w3 : Vec Ideal S1024x512 .bf16) (n : Fin 1024) (l : Fin 512) :
    k0_pay2 (F := Ideal) r a0 w0 a1 w1 a2 w2 a3 w3 (ix2 n l) = k0_pay1 (F := Ideal) r a0 w0 a1 w1 a2 w2 a3 w3 (ix2 n l) := by
  pointwise [k0_pay2]

variable (m : (ℓ : Loc nD τ sig) → Buf (Elt Ideal) ℓ) (c : Dev nD)

theorem lt128 (t : Fin cfg0.N) : (t : ℕ) < 128 := t.isLt

theorem idxA : ∀ t : Fin cfg0.N, win0_0.index t = ![(t : ℕ) / 8, 0] ∧ win0_1.index t = ![(t : ℕ) / 8, 0] ∧ win0_2.index t = ![(t : ℕ) / 8, 0]
    ∧ win0_3.index t = ![(t : ℕ) / 8, 0] := (by decide +kernel : ∀ t : Fin grid0.N, _)
theorem idx4 : ∀ t : Fin cfg0.N, (t : ℕ) < 120 → win0_4.index t = ![0, (t : ℕ) % 8] := (by decide +kernel : ∀ t : Fin grid0.N, _)
theorem idx5 : ∀ t : Fin cfg0.N, win0_5.index t = ![(t : ℕ) / 8, (t : ℕ) % 8] := (by decide +kernel : ∀ t : Fin grid0.N, _)
theorem idx6 : ∀ t : Fin cfg0.N, 120 ≤ (t : ℕ) → win0_6.index t = ![0, (t : ℕ) % 8] := (by decide +kernel : ∀ t : Fin grid0.N, _)
theorem idx7 : ∀ t : Fin cfg0.N, 120 ≤ (t : ℕ) → win0_7.index t = ![0, (t : ℕ) % 8] := (by decide +kernel : ∀ t : Fin grid0.N, _)
theorem idx8 : ∀ t : Fin cfg0.N, win0_8.index t = ![(t : ℕ) / 8, (t : ℕ) % 8] := (by decide +kernel : ∀ t : Fin grid0.N, _)
theorem idx9 : ∀ t : Fin cfg0.N, win0_9.index t = ![(t : ℕ) / 8, (t : ℕ) % 8] := (by decide +kernel : ∀ t : Fin grid0.N, _)

/-- The four mixers' outputs, the weight, the residual and the last row block's two results, as the call finds them. -/
def mix0 : Vec Ideal S16384x1024 .bf16 := m ((c : Thread nD τ).loc main_arg0)
def mix1 : Vec Ideal S16384x1024 .bf16 := m ((c : Thread nD τ).loc main_arg1)
def mix2 : Vec Ideal S16384x1024 .bf16 := m ((c : Thread nD τ).loc main_arg2)
def mix3 : Vec Ideal S16384x1024 .bf16 := m ((c : Thread nD τ).loc main_arg3)
def weight : Vec Ideal S4096x4096 .bf16 := m ((c : Thread nD τ).loc main_arg4)
def resid : Vec Ideal S16384x4096 .f32 := m ((c : Thread nD τ).loc main_arg5)
def last : Vec Ideal S1024x4096 .f32 := m ((c : Thread nD τ).loc main_arg6)
def lastB : Vec Ideal S1024x4096 .bf16 := m ((c : Thread nD τ).loc main_arg7)

/-- The array's row and column of a point's block. -/
def rowAt (t : Fin cfg0.N) (a : Fin 1024) : Fin 16384 := ⟨1024 * ((t : ℕ) / 8) + a, by have := lt128 t; omega⟩
def colAt (t : Fin cfg0.N) (b : Fin 512) : Fin 4096 := ⟨512 * ((t : ℕ) % 8) + b, by have := lt128 t; omega⟩

theorem read0 (t : Fin cfg0.N) (a b : Fin 1024) : iblk m c 0 t (ix2 a b) = mix0 m c (ix2 (rowAt t a) b) := by
  blk_simp [iblk]
  rw [V_main_arg0]
  unfold mix0 rowAt
  refine congrArg _ ?_
  blk_ext [(idxA t).1]

theorem read1 (t : Fin cfg0.N) (a b : Fin 1024) : iblk m c 1 t (ix2 a b) = mix1 m c (ix2 (rowAt t a) b) := by
  blk_simp [iblk]
  rw [V_main_arg1]
  unfold mix1 rowAt
  refine congrArg _ ?_
  blk_ext [(idxA t).2.1]

theorem read2 (t : Fin cfg0.N) (a b : Fin 1024) : iblk m c 2 t (ix2 a b) = mix2 m c (ix2 (rowAt t a) b) := by
  blk_simp [iblk]
  rw [V_main_arg2]
  unfold mix2 rowAt
  refine congrArg _ ?_
  blk_ext [(idxA t).2.2.1]

theorem read3 (t : Fin cfg0.N) (a b : Fin 1024) : iblk m c 3 t (ix2 a b) = mix3 m c (ix2 (rowAt t a) b) := by
  blk_simp [iblk]
  rw [V_main_arg3]
  unfold mix3 rowAt
  refine congrArg _ ?_
  blk_ext [(idxA t).2.2.2]

theorem read4 (t : Fin cfg0.N) (h : (t : ℕ) < 120) (a : Fin 4096) (b : Fin 512) : iblk m c 4 t (ix2 a b) = weight m c (ix2 a (colAt t b)) := by
  blk_simp [iblk]
  rw [V_main_arg4]
  unfold weight colAt
  refine congrArg _ ?_
  blk_ext [idx4 t h]

theorem read5 (t : Fin cfg0.N) (a : Fin 1024) (b : Fin 512) : iblk m c 5 t (ix2 a b) = resid m c (ix2 (rowAt t a) (colAt t b)) := by
  blk_simp [iblk]
  rw [V_main_arg5]
  unfold resid rowAt colAt
  refine congrArg _ ?_
  blk_ext [idx5 t]

theorem read6 (t : Fin cfg0.N) (h : 120 ≤ (t : ℕ)) (a : Fin 1024) (b : Fin 512) : iblk m c 6 t (ix2 a b) = last m c (ix2 a (colAt t b)) := by
  blk_simp [iblk]
  rw [V_main_arg6]
  unfold last colAt
  refine congrArg _ ?_
  blk_ext [idx6 t h]

theorem read7 (t : Fin cfg0.N) (h : 120 ≤ (t : ℕ)) (a : Fin 1024) (b : Fin 512) : iblk m c 7 t (ix2 a b) = lastB m c (ix2 a (colAt t b)) := by
  blk_simp [iblk]
  rw [V_main_arg7]
  unfold lastB colAt
  refine congrArg _ ?_
  blk_ext [idx7 t h]

/-- A band of 1024 rows of the staged columns, read. -/
theorem readBand (t : Fin cfg0.N) (h : (t : ℕ) < 120) (o : ℕ) (ho : o + 1024 ≤ 4096) (inb : ∀ a, (![o, 0] : Fin 2 → ℕ) a + (![1024, 512] : Fin 2 → ℕ) a ≤ S4096x512.size a)
    (a : Fin 1024) (b : Fin 512) :
    View.ld (iblk m c 4 t) (Rect.unit (s := S4096x512) ![o, 0] ![1024, 512] inb) (ix2 a b) = weight m c (ix2 (⟨o + a, by omega⟩ : Fin 4096) (colAt t b)) := by
  refine Eq.trans ?_ (read4 m c t h ⟨o + a, by omega⟩ b)
  refine View.ld_unit_apply_of (S := S4096x512) _ ![o, 0] _ _ _ _ fun x => ?_
  match x with
  | ⟨0, _⟩ => rfl
  | ⟨1, _⟩ => exact (Nat.zero_add _).symm

/-- The projection and the residual at a row and column of the arrays. -/
def entry (n : Fin 16384) (l : Fin 4096) : EReal :=
  resid m c (ix2 n l) + ∑ k, Cert.Rows.pick (fun x => mix0 m c (ix2 n x)) (fun x => mix1 m c (ix2 n x)) (fun x => mix2 m c (ix2 n x))
    (fun x => mix3 m c (ix2 n x)) k * weight m c (ix2 k l)

/-- The first result's block at a point of the first fifteen row blocks, as the kernel computes it. -/
theorem block (t : Fin cfg0.N) (h : (t : ℕ) < 120) (a : Fin 1024) (b : Fin 512) :
    k0_pay1 (F := Ideal) (iblk m c 5 t) (iblk m c 0 t)
      (View.ld (iblk m c 4 t) (Rect.unit ![0, 0] ![1024, 512] inb_S4096x512_S1024x512_0_0)) (iblk m c 1 t)
      (View.ld (iblk m c 4 t) (Rect.unit ![1024, 0] ![1024, 512] inb_S4096x512_S1024x512_1024_0)) (iblk m c 2 t)
      (View.ld (iblk m c 4 t) (Rect.unit ![2048, 0] ![1024, 512] inb_S4096x512_S1024x512_2048_0)) (iblk m c 3 t)
      (View.ld (iblk m c 4 t) (Rect.unit ![3072, 0] ![1024, 512] inb_S4096x512_S1024x512_3072_0)) (ix2 a b)
      = entry m c (rowAt t a) (colAt t b) := by
  rw [pay1]
  unfold entry
  rw [Cert.Rows.pick_dot, read5]
  refine congrArg₂ (· + ·) (congrArg₂ (· + ·) (congrArg₂ (· + ·) (congrArg₂ (· + ·) rfl ?_) ?_) ?_) ?_ <;> refine Finset.sum_congr rfl fun x _ => ?_
  · rw [read0]
    refine congrArg (_ * ·) ((readBand m c t h 0 (by omega) _ x b).trans (congrArg (fun y => weight m c (ix2 y (colAt t b))) (Fin.ext ?_)))
    exact Nat.zero_add _
  · rw [read1]
    exact congrArg (_ * ·) (readBand m c t h 1024 (by omega) _ x b)
  · rw [read2]
    exact congrArg (_ * ·) (readBand m c t h 2048 (by omega) _ x b)
  · rw [read3]
    exact congrArg (_ * ·) (readBand m c t h 3072 (by omega) _ x b)

/-- The call's arrays: the rows of the first fifteen row blocks above the last one's. -/
def joined (z : Vec Ideal S1024x4096 .f32) (n : Fin 16384) (l : Fin 4096) : EReal :=
  if (n : ℕ) < 15360 then entry m c n l else z (ix2 (⟨(n : ℕ) - 15360, by omega⟩ : Fin 1024) l)

/-- A block that is the entry's above and a given block below is a block of the array. -/
theorem joined_at (z : Vec Ideal S1024x4096 .f32) (t : Fin cfg0.N) (a : Fin 1024) (b : Fin 512) (v : EReal)
    (h0 : (t : ℕ) < 120 → v = entry m c (rowAt t a) (colAt t b)) (h1 : 120 ≤ (t : ℕ) → v = z (ix2 a (colAt t b))) :
    v = joined m c z (rowAt t a) (colAt t b) := by
  have ht := lt128 t
  unfold joined
  by_cases h : (t : ℕ) < 120
  · rw [if_pos (by show 1024 * ((t : ℕ) / 8) + (a : ℕ) < 15360; omega)]
    exact h0 h
  · rw [if_neg (by show ¬ 1024 * ((t : ℕ) / 8) + (a : ℕ) < 15360; omega), h1 (Nat.not_lt.1 h)]
    refine congrArg (fun r : Fin 1024 => z (ix2 r (colAt t b))) (Fin.ext ?_)
    show (a : ℕ) = 1024 * ((t : ℕ) / 8) + (a : ℕ) - 15360
    omega

theorem stored8 (t : Fin cfg0.N) (a : Fin 1024) (b : Fin 512) :
    (outsAt0 m c t.val t.isLt).1 (ix2 a b) = joined m c (last m c) (rowAt t a) (colAt t b) := by
  refine joined_at m c _ t a b _ (fun h => ?_) (fun h => ?_)
  · rw [outsAt0_A m c t h (Nat.not_le.2 h)]
    frame_out
    exact block m c t h a b
  · rw [outsAt0_B m c t (Nat.not_lt.2 h) h]
    frame_out
    exact read6 m c t h a b

theorem stored9 (t : Fin cfg0.N) (a : Fin 1024) (b : Fin 512) :
    (outsAt0 m c t.val t.isLt).2 (ix2 a b) = joined m c (lastB m c) (rowAt t a) (colAt t b) := by
  refine joined_at m c _ t a b _ (fun h => ?_) (fun h => ?_)
  · rw [outsAt0_A m c t h (Nat.not_le.2 h)]
    frame_out
    exact (pay2 _ _ _ _ _ _ _ _ _ a b).trans (block m c t h a b)
  · rw [outsAt0_B m c t (Nat.not_lt.2 h) h]
    frame_out
    exact read7 m c t h a b

/-- The arrays the call leaves. -/
theorem result8 : (dats m 0 c).arrAt 8 cfg0.N = fun y : S16384x4096.Idx => joined m c (last m c) (y 0) (y 1) := by
  refine (dats m 0 c).arrAt_eq_of_covers 8 _ (by decide +kernel) fun t hf y => ?_
  blk_simp
  rw [after0_8]
  have ey : y = ix2 (n0 := 1024) (n1 := 512) (y 0) (y 1) := by funext a; match a with | ⟨0, _⟩ => rfl | ⟨1, _⟩ => rfl
  have e0 : (win0_8.blk t).view.emb y 0 = rowAt t (y 0) := Fin.ext (by unfold rowAt; blk_simp [idx8 t]; exact congrArg (· + _) (Nat.mul_comm _ _))
  have e1 : (win0_8.blk t).view.emb y 1 = colAt t (y 1) := Fin.ext (by unfold colAt; blk_simp [idx8 t]; exact congrArg (· + _) (Nat.mul_comm _ _))
  rw [e0, e1]
  exact (congrArg _ ey).trans (stored8 m c t (y 0) (y 1))

theorem result9 : (dats m 0 c).arrAt 9 cfg0.N = fun y : S16384x4096.Idx => joined m c (lastB m c) (y 0) (y 1) := by
  refine (dats m 0 c).arrAt_eq_of_covers 9 _ (by decide +kernel) fun t hf y => ?_
  blk_simp
  rw [after0_9]
  have ey : y = ix2 (n0 := 1024) (n1 := 512) (y 0) (y 1) := by funext a; match a with | ⟨0, _⟩ => rfl | ⟨1, _⟩ => rfl
  have e0 : (win0_9.blk t).view.emb y 0 = rowAt t (y 0) := Fin.ext (by unfold rowAt; blk_simp [idx9 t]; exact congrArg (· + _) (Nat.mul_comm _ _))
  have e1 : (win0_9.blk t).view.emb y 1 = colAt t (y 1) := Fin.ext (by unfold colAt; blk_simp [idx9 t]; exact congrArg (· + _) (Nat.mul_comm _ _))
  rw [e0, e1]
  exact (congrArg _ ey).trans (stored9 m c t (y 0) (y 1))

end Cert.OutProjIdeal.Rows

end
-- ==== Proof.Out.Claims.lean ====
/- The output projection's claims: whatever the arrays hold, the kernel's two arrays are the reference's. -/
module

public import proofs.«01_k».proof.Proof.Out.Kernel
public import proofs.«01_k».proof.Proof.Gen.OutProjRefIdeal.Read
public import proofs.«01_k».proof.Proof.Gen.OutProjRefIdeal.Run
public import proofs.«01_k».proof.Defs
public import Idealize.ShloMosaic.Lib.Claim

@[expose] public section

set_option maxRecDepth 16384

noncomputable section

namespace Cert.OutProjRefIdeal.Rows

open Cert.OutProjRefIdeal Cert.OutProjRefIdeal.Read Idealize.ShloMosaic

variable (x0 x1 x2 x3 : (⟨S16384x1024, .bf16⟩ : BufTy).Contents (Elt Ideal)) (w : (⟨S4096x4096, .bf16⟩ : BufTy).Contents (Elt Ideal))
  (r : (⟨S16384x4096, .f32⟩ : BufTy).Contents (Elt Ideal)) (z : (⟨S1024x4096, .f32⟩ : BufTy).Contents (Elt Ideal))
  (z' : (⟨S1024x4096, .bf16⟩ : BufTy).Contents (Elt Ideal)) (n : Fin 16384) (l : Fin 4096)

/-- The residual and the product of the four outputs side by side with the weight. -/
def entry : EReal :=
  r (ix2 n l) + ∑ k, Cert.Rows.pick (fun x => x0 (ix2 n x)) (fun x => x1 (ix2 n x)) (fun x => x2 (ix2 n x)) (fun x => x3 (ix2 n x)) k * w (ix2 k l)

theorem first : val_main_v7 (F := Ideal) x0 x1 x2 x3 w r z (ix2 n l)
    = if (n : ℕ) < 15360 then entry x0 x1 x2 x3 w r n l else z (ix2 (⟨(n : ℕ) - 15360, by omega⟩ : Fin 1024) l) := by
  pointwise [val_main_v7, val_main_v6, val_main_v5, val_main_v4, val_main_v3, val_main_v2, val_main_v1, val_main_v0]
  rfl

theorem second : val_main_v9 (F := Ideal) x0 x1 x2 x3 w r z' (ix2 n l)
    = if (n : ℕ) < 15360 then entry x0 x1 x2 x3 w r n l else z' (ix2 (⟨(n : ℕ) - 15360, by omega⟩ : Fin 1024) l) := by
  pointwise [val_main_v9, val_main_v8, val_main_v6, val_main_v5, val_main_v4, val_main_v3, val_main_v2, val_main_v1, val_main_v0]
  rfl

end Cert.OutProjRefIdeal.Rows

namespace Cert.OutProj

open Idealize.ShloMosaic Idealize.SL.Sem Cert.OutProjIdeal.Rows

variable (m : (ℓ : Loc Cert.OutProjIdeal.nD Cert.OutProjIdeal.τ Cert.OutProjIdeal.sig) → Buf (Elt Ideal) ℓ) (c : Dev Cert.OutProjIdeal.nD)

theorem agree8 : Cert.OutProjRefIdeal.Read.val_main_v7 (F := Ideal) (mix0 m c) (mix1 m c) (mix2 m c) (mix3 m c) (weight m c) (resid m c) (last m c)
    = (Cert.OutProjIdeal.Gen.dats m 0 c).arrAt 8 Cert.OutProjIdeal.cfg0.N := by
  rw [result8]
  funext y
  have ey : y = ix2 (y 0) (y 1) := by funext a; match a with | ⟨0, _⟩ => rfl | ⟨1, _⟩ => rfl
  exact (congrArg _ ey).trans (Cert.OutProjRefIdeal.Rows.first _ _ _ _ _ _ _ (y 0) (y 1))

theorem agree9 : Cert.OutProjRefIdeal.Read.val_main_v9 (F := Ideal) (mix0 m c) (mix1 m c) (mix2 m c) (mix3 m c) (weight m c) (resid m c) (lastB m c)
    = (Cert.OutProjIdeal.Gen.dats m 0 c).arrAt 9 Cert.OutProjIdeal.cfg0.N := by
  rw [result9]
  funext y
  have ey : y = ix2 (y 0) (y 1) := by funext a; match a with | ⟨0, _⟩ => rfl | ⟨1, _⟩ => rfl
  exact (congrArg _ ey).trans (Cert.OutProjRefIdeal.Rows.second _ _ _ _ _ _ _ (y 0) (y 1))

theorem algebraic : Cert.algebraic_OutProjIdeal_OutProjRefIdeal := by
  pair_intro
  · run_from Cert.OutProjIdeal.Value.run_blocks m g
  · run_from Cert.OutProjRefIdeal.Value.run m' g'
    · obtain ⟨a0, a1, a2, a3, a4, a5, a6, a7⟩ := hagree c
      refine (Cert.OutProjRefIdeal.Read.val_main_v7_eq (F := Ideal) _ _ _ _ _ _ _).trans ?_
      simp only [a0, a1, a2, a3, a4, a5, a6, a7]
      exact agree8 m c
    · obtain ⟨a0, a1, a2, a3, a4, a5, a6, a7⟩ := hagree c
      refine (Cert.OutProjRefIdeal.Read.val_main_v9_eq (F := Ideal) _ _ _ _ _ _ _).trans ?_
      simp only [a0, a1, a2, a3, a4, a5, a6, a7]
      exact agree9 m c

/-- The reference runs host operations alone and has no semaphore. -/
theorem frame_reference : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

end Cert.OutProj

end
-- ==== Proof.OutFirst.Kernel.lean ====
/- The output projection's first kernel, which computes the last row block: at a point it stores the weight's 256 columns cast, and
   the residual with the four mixers' products added one after another, each with its band of the columns just stored. -/
module

public import proofs.«01_k».proof.Proof.Gen.OutProjFirstIdeal.Value
public import proofs.«01_k».proof.Proof.Rows.Groups

@[expose] public section

set_option maxRecDepth 16384

noncomputable section

namespace Cert.OutProjFirstIdeal.Rows

open Cert.OutProjFirstIdeal Cert.OutProjFirstIdeal.Gen Idealize.ShloMosaic Idealize.ShloMosaic.TcCoe Idealize.SL.Sem

theorem pay1 (v : Vec Ideal S1x4096x256 .f32) (k : Fin 4096) (l : Fin 256) : k0_pay1 (F := Ideal) v (ix2 k l) = v (ix3 0 k l) := by
  pointwise [k0_pay1]

theorem pay2 (r : Vec Ideal S1024x256 .f32) (a0 a1 a2 a3 : Vec Ideal S1024x1024 .bf16) (w0 w1 w2 w3 : Vec Ideal S1024x256 .bf16) (n : Fin 1024) (l : Fin 256) :
    k0_pay2 (F := Ideal) r a0 w0 a1 w1 a2 w2 a3 w3 (ix2 n l)
      = r (ix2 n l) + ∑ x : Fin 1024, a0 (ix2 n x) * w0 (ix2 x l) + ∑ x : Fin 1024, a1 (ix2 n x) * w1 (ix2 x l)
        + ∑ x : Fin 1024, a2 (ix2 n x) * w2 (ix2 x l) + ∑ x : Fin 1024, a3 (ix2 n x) * w3 (ix2 x l) := by
  pointwise [k0_pay2]

/-- The second result's block is the first's, cast. -/
theorem pay3 (r : Vec Ideal S1024x256 .f32) (a0 a1 a2 a3 : Vec Ideal S1024x1024 .bf16) (w0 w1 w2 w3 : Vec Ideal S1024x256 .bf16) (n : Fin 1024) (l : Fin 256) :
    k0_pay3 (F := Ideal) r a0 w0 a1 w1 a2 w2 a3 w3 (ix2 n l) = k0_pay2 (F := Ideal) r a0 w0 a1 w1 a2 w2 a3 w3 (ix2 n l) := by
  pointwise [k0_pay3]

variable (m : (ℓ : Loc nD τ sig) → Buf (Elt Ideal) ℓ) (c : Dev nD)

theorem lt16 (t : Fin cfg0.N) : (t : ℕ) < 16 := t.isLt

theorem idxA : ∀ t : Fin cfg0.N, win0_0.index t = ![15, 0] ∧ win0_1.index t = ![15, 0] ∧ win0_2.index t = ![15, 0]
    ∧ win0_3.index t = ![15, 0] := (by decide +kernel : ∀ t : Fin grid0.N, _)
theorem idx4 : ∀ t : Fin cfg0.N, win0_4.index t = ![0, 0, (t : ℕ)] := (by decide +kernel : ∀ t : Fin grid0.N, _)
theorem idx5 : ∀ t : Fin cfg0.N, win0_5.index t = ![15, (t : ℕ)] := (by decide +kernel : ∀ t : Fin grid0.N, _)
theorem idx6 : ∀ t : Fin cfg0.N, win0_6.index t = ![0, (t : ℕ)] := (by decide +kernel : ∀ t : Fin grid0.N, _)
theorem idx7 : ∀ t : Fin cfg0.N, win0_7.index t = ![0, (t : ℕ)] := (by decide +kernel : ∀ t : Fin grid0.N, _)
theorem idx8 : ∀ t : Fin cfg0.N, win0_8.index t = ![0, (t : ℕ)] := (by decide +kernel : ∀ t : Fin grid0.N, _)

/-- The four mixers' outputs, the layers' weights and the residual, as the call finds them. -/
def mix0 : Vec Ideal S16384x1024 .bf16 := m ((c : Thread nD τ).loc main_arg0)
def mix1 : Vec Ideal S16384x1024 .bf16 := m ((c : Thread nD τ).loc main_arg1)
def mix2 : Vec Ideal S16384x1024 .bf16 := m ((c : Thread nD τ).loc main_arg2)
def mix3 : Vec Ideal S16384x1024 .bf16 := m ((c : Thread nD τ).loc main_arg3)
def weights : Vec Ideal S2x4096x4096 .f32 := m ((c : Thread nD τ).loc main_arg4)
def resid : Vec Ideal S16384x4096 .f32 := m ((c : Thread nD τ).loc main_arg5)

/-- A row of the last row block in the arrays of all rows, and the array's column of a point's block. -/
def rowAt (a : Fin 1024) : Fin 16384 := ⟨15360 + a, by omega⟩
def colAt (t : Fin cfg0.N) (b : Fin 256) : Fin 4096 := ⟨256 * (t : ℕ) + b, by have := lt16 t; omega⟩

theorem read0 (t : Fin cfg0.N) (a b : Fin 1024) : iblk m c 0 t (ix2 a b) = mix0 m c (ix2 (rowAt a) b) := by
  blk_simp [iblk]
  rw [V_main_arg0]
  unfold mix0 rowAt
  refine congrArg _ ?_
  blk_ext [(idxA t).1]

theorem read1 (t : Fin cfg0.N) (a b : Fin 1024) : iblk m c 1 t (ix2 a b) = mix1 m c (ix2 (rowAt a) b) := by
  blk_simp [iblk]
  rw [V_main_arg1]
  unfold mix1 rowAt
  refine congrArg _ ?_
  blk_ext [(idxA t).2.1]

theorem read2 (t : Fin cfg0.N) (a b : Fin 1024) : iblk m c 2 t (ix2 a b) = mix2 m c (ix2 (rowAt a) b) := by
  blk_simp [iblk]
  rw [V_main_arg2]
  unfold mix2 rowAt
  refine congrArg _ ?_
  blk_ext [(idxA t).2.2.1]

theorem read3 (t : Fin cfg0.N) (a b : Fin 1024) : iblk m c 3 t (ix2 a b) = mix3 m c (ix2 (rowAt a) b) := by
  blk_simp [iblk]
  rw [V_main_arg3]
  unfold mix3 rowAt
  refine congrArg _ ?_
  blk_ext [(idxA t).2.2.2]

theorem read4 (t : Fin cfg0.N) (a : Fin 4096) (b : Fin 256) : iblk m c 4 t (ix3 0 a b) = weights m c (ix3 0 a (colAt t b)) := by
  blk_simp [iblk]
  rw [V_main_arg4]
  unfold weights colAt
  refine congrArg _ ?_
  blk_ext [idx4 t]

theorem read5 (t : Fin cfg0.N) (a : Fin 1024) (b : Fin 256) : iblk m c 5 t (ix2 a b) = resid m c (ix2 (rowAt a) (colAt t b)) := by
  blk_simp [iblk]
  rw [V_main_arg5]
  unfold resid rowAt colAt
  refine congrArg _ ?_
  blk_ext [idx5 t]

/-- A band of 1024 rows of the columns just stored, read back. -/
theorem readBand (t : Fin cfg0.N) (o : ℕ) (ho : o + 1024 ≤ 4096) (inb : ∀ a, (![o, 0] : Fin 2 → ℕ) a + (![1024, 256] : Fin 2 → ℕ) a ≤ S4096x256.size a)
    (a : Fin 1024) (b : Fin 256) :
    (ms0_8 t).view.readCov (Val := Elt Ideal) [⟨Rect.unit ![0, 0] ![4096, 256] inb_S4096x256_S4096x256_0_0, k0_pay1 (F := Ideal) (iblk m c 4 t)⟩]
      (Rect.unit (s := S4096x256) ![o, 0] ![1024, 256] inb).toLoadRect (ix2 a b) = weights m c (ix3 0 (⟨o + a, by omega⟩ : Fin 4096) (colAt t b)) := by
  have h0 : (![0, 0] : Fin S4096x256.rank → ℕ) = fun _ => 0 := by funext x; match x with | ⟨0, _⟩ => rfl | ⟨1, _⟩ => rfl
  rw [View.readCov_eq_canon_ld _ _ _ (fun y => ⟨_, List.mem_singleton_self _, View.mem_set_unit_zero h0 inb_S4096x256_S4096x256_0_0 y⟩)]
  refine (congrFun (congrArg (View.ld · _) (View.canon_unit_zero h0 inb_S4096x256_S4096x256_0_0 _)) _).trans ?_
  refine Eq.trans ?_ ((pay1 _ ⟨o + a, by omega⟩ b).trans (read4 m c t ⟨o + a, by omega⟩ b))
  refine View.ld_unit_apply_of (S := S4096x256) _ ![o, 0] _ _ _ _ fun x => ?_
  match x with
  | ⟨0, _⟩ => rfl
  | ⟨1, _⟩ => exact (Nat.zero_add _).symm

/-- The projection and the residual at a row of the last row block and a column. -/
def entry (n : Fin 1024) (l : Fin 4096) : EReal :=
  resid m c (ix2 (rowAt n) l) + ∑ k, Cert.Rows.pick (fun x => mix0 m c (ix2 (rowAt n) x)) (fun x => mix1 m c (ix2 (rowAt n) x))
    (fun x => mix2 m c (ix2 (rowAt n) x)) (fun x => mix3 m c (ix2 (rowAt n) x)) k * weights m c (ix3 0 k l)

/-- The first result's block at a point, as the kernel computes it. -/
theorem block (t : Fin cfg0.N) (a : Fin 1024) (b : Fin 256) :
    (outsAt0 m c t).1 (ix2 a b) = entry m c a (colAt t b) := by
  unfold outsAt0
  frame_out
  refine (pay2 _ _ _ _ _ _ _ _ _ a b).trans ?_
  unfold entry
  rw [Cert.Rows.pick_dot, read5]
  refine congrArg₂ (· + ·) (congrArg₂ (· + ·) (congrArg₂ (· + ·) (congrArg₂ (· + ·) rfl ?_) ?_) ?_) ?_ <;> refine Finset.sum_congr rfl fun x _ => ?_
  · rw [read0]
    refine congrArg (_ * ·) ((readBand m c t 0 (by omega) _ x b).trans (congrArg (fun y => weights m c (ix3 0 y (colAt t b))) (Fin.ext ?_)))
    exact Nat.zero_add _
  · rw [read1]
    exact congrArg (_ * ·) (readBand m c t 1024 (by omega) _ x b)
  · rw [read2]
    exact congrArg (_ * ·) (readBand m c t 2048 (by omega) _ x b)
  · rw [read3]
    exact congrArg (_ * ·) (readBand m c t 3072 (by omega) _ x b)

theorem block' (t : Fin cfg0.N) (a : Fin 1024) (b : Fin 256) :
    (outsAt0 m c t).2.1 (ix2 a b) = entry m c a (colAt t b) := by
  refine Eq.trans ?_ (block m c t a b)
  unfold outsAt0
  frame_out
  exact pay3 _ _ _ _ _ _ _ _ _ a b

theorem stored (t : Fin cfg0.N) (a : Fin 4096) (b : Fin 256) :
    (outsAt0 m c t).2.2 (ix2 a b) = weights m c (ix3 0 a (colAt t b)) := by
  unfold outsAt0
  frame_out
  exact (pay1 _ a b).trans (read4 m c t a b)

/-- The weight the call leaves, at a row and column. -/
def cast (k l : Fin 4096) : EReal := weights m c (ix3 0 k l)

/-- The arrays the call leaves. -/
theorem result6 : (dats m 0 c).arrAt 6 cfg0.N = fun y : S1024x4096.Idx => entry m c (y 0) (y 1) := by
  refine (dats m 0 c).arrAt_eq_of_covers 6 _ (by decide +kernel) fun t hf y => ?_
  blk_simp
  rw [after0_6]
  have ey : y = ix2 (n0 := 1024) (n1 := 256) (y 0) (y 1) := by funext a; match a with | ⟨0, _⟩ => rfl | ⟨1, _⟩ => rfl
  have e0 : (win0_6.blk t).view.emb y 0 = y 0 := Fin.ext (by blk_simp [idx6 t])
  have e1 : (win0_6.blk t).view.emb y 1 = colAt t (y 1) := Fin.ext (by unfold colAt; blk_simp [idx6 t]; exact congrArg (· + _) (Nat.mul_comm _ _))
  rw [e0, e1]
  exact (congrArg _ ey).trans (block m c t (y 0) (y 1))

theorem result7 : (dats m 0 c).arrAt 7 cfg0.N = fun y : S1024x4096.Idx => entry m c (y 0) (y 1) := by
  refine (dats m 0 c).arrAt_eq_of_covers 7 _ (by decide +kernel) fun t hf y => ?_
  blk_simp
  rw [after0_7]
  have ey : y = ix2 (n0 := 1024) (n1 := 256) (y 0) (y 1) := by funext a; match a with | ⟨0, _⟩ => rfl | ⟨1, _⟩ => rfl
  have e0 : (win0_7.blk t).view.emb y 0 = y 0 := Fin.ext (by blk_simp [idx7 t])
  have e1 : (win0_7.blk t).view.emb y 1 = colAt t (y 1) := Fin.ext (by unfold colAt; blk_simp [idx7 t]; exact congrArg (· + _) (Nat.mul_comm _ _))
  rw [e0, e1]
  exact (congrArg _ ey).trans (block' m c t (y 0) (y 1))

theorem result8 : (dats m 0 c).arrAt 8 cfg0.N = fun y : S4096x4096.Idx => cast m c (y 0) (y 1) := by
  refine (dats m 0 c).arrAt_eq_of_covers 8 _ (by decide +kernel) fun t hf y => ?_
  blk_simp
  rw [after0_8]
  have ey : y = ix2 (n0 := 4096) (n1 := 256) (y 0) (y 1) := by funext a; match a with | ⟨0, _⟩ => rfl | ⟨1, _⟩ => rfl
  have e0 : (win0_8.blk t).view.emb y 0 = y 0 := Fin.ext (by blk_simp [idx8 t])
  have e1 : (win0_8.blk t).view.emb y 1 = colAt t (y 1) := Fin.ext (by unfold colAt; blk_simp [idx8 t]; exact congrArg (· + _) (Nat.mul_comm _ _))
  rw [e0, e1]
  exact (congrArg _ ey).trans (stored m c t (y 0) (y 1))

end Cert.OutProjFirstIdeal.Rows

end
-- ==== Proof.OutFirst.Claims.lean ====
/- The output projection's first call's claims: whatever the arrays hold, the kernel's three arrays are the reference's. -/
module

public import proofs.«01_k».proof.Proof.OutFirst.Kernel
public import proofs.«01_k».proof.Proof.Gen.OutProjFirstRefIdeal.Read
public import proofs.«01_k».proof.Proof.Gen.OutProjFirstRefIdeal.Run
public import proofs.«01_k».proof.Defs
public import Idealize.ShloMosaic.Lib.Claim

@[expose] public section

set_option maxRecDepth 16384

noncomputable section

namespace Cert.OutProjFirstRefIdeal.Rows

open Cert.OutProjFirstRefIdeal Cert.OutProjFirstRefIdeal.Read Idealize.ShloMosaic

variable (x0 x1 x2 x3 : (⟨S16384x1024, .bf16⟩ : BufTy).Contents (Elt Ideal)) (w : (⟨S2x4096x4096, .f32⟩ : BufTy).Contents (Elt Ideal))
  (r : (⟨S16384x4096, .f32⟩ : BufTy).Contents (Elt Ideal)) (n : Fin 1024) (l : Fin 4096)

/-- The residual and the product of the four outputs side by side with the layer's weight, at a row of the last block. -/
def entry : EReal :=
  r (ix2 (⟨15360 + n, by omega⟩ : Fin 16384) l)
    + ∑ k, Cert.Rows.pick (fun x => x0 (ix2 (⟨15360 + n, by omega⟩ : Fin 16384) x)) (fun x => x1 (ix2 (⟨15360 + n, by omega⟩ : Fin 16384) x))
      (fun x => x2 (ix2 (⟨15360 + n, by omega⟩ : Fin 16384) x)) (fun x => x3 (ix2 (⟨15360 + n, by omega⟩ : Fin 16384) x)) k * w (ix3 0 k l)

theorem first : val_main_v7 (F := Ideal) x0 x1 x2 x3 w r (ix2 n l) = entry x0 x1 x2 x3 w r n l := by
  pointwise [val_main_v7, val_main_v6, val_main_v5, val_main_v4, val_main_v3, val_main_v2, val_main_v1, val_main_v0]
  rfl

theorem second : val_main_v8 (F := Ideal) x0 x1 x2 x3 w r (ix2 n l) = entry x0 x1 x2 x3 w r n l := by
  pointwise [val_main_v8, val_main_v7, val_main_v6, val_main_v5, val_main_v4, val_main_v3, val_main_v2, val_main_v1, val_main_v0]
  rfl

theorem third (k : Fin 4096) : val_main_v11 (F := Ideal) w (ix2 k l) = w (ix3 0 k l) := by
  pointwise [val_main_v11, val_main_v10, val_main_v9]

end Cert.OutProjFirstRefIdeal.Rows

namespace Cert.OutProjFirst

open Idealize.ShloMosaic Idealize.SL.Sem Cert.OutProjFirstIdeal.Rows

variable (m : (ℓ : Loc Cert.OutProjFirstIdeal.nD Cert.OutProjFirstIdeal.τ Cert.OutProjFirstIdeal.sig) → Buf (Elt Ideal) ℓ) (c : Dev Cert.OutProjFirstIdeal.nD)

theorem agree6 : Cert.OutProjFirstRefIdeal.Read.val_main_v7 (F := Ideal) (mix0 m c) (mix1 m c) (mix2 m c) (mix3 m c) (weights m c) (resid m c)
    = (Cert.OutProjFirstIdeal.Gen.dats m 0 c).arrAt 6 Cert.OutProjFirstIdeal.cfg0.N := by
  rw [result6]
  funext y
  have ey : y = ix2 (y 0) (y 1) := by funext a; match a with | ⟨0, _⟩ => rfl | ⟨1, _⟩ => rfl
  exact (congrArg _ ey).trans (Cert.OutProjFirstRefIdeal.Rows.first _ _ _ _ _ _ (y 0) (y 1))

theorem agree7 : Cert.OutProjFirstRefIdeal.Read.val_main_v8 (F := Ideal) (mix0 m c) (mix1 m c) (mix2 m c) (mix3 m c) (weights m c) (resid m c)
    = (Cert.OutProjFirstIdeal.Gen.dats m 0 c).arrAt 7 Cert.OutProjFirstIdeal.cfg0.N := by
  rw [result7]
  funext y
  have ey : y = ix2 (y 0) (y 1) := by funext a; match a with | ⟨0, _⟩ => rfl | ⟨1, _⟩ => rfl
  exact (congrArg _ ey).trans (Cert.OutProjFirstRefIdeal.Rows.second _ _ _ _ _ _ (y 0) (y 1))

theorem agree8 : Cert.OutProjFirstRefIdeal.Read.val_main_v11 (F := Ideal) (weights m c)
    = (Cert.OutProjFirstIdeal.Gen.dats m 0 c).arrAt 8 Cert.OutProjFirstIdeal.cfg0.N := by
  rw [result8]
  funext y
  have ey : y = ix2 (y 0) (y 1) := by funext a; match a with | ⟨0, _⟩ => rfl | ⟨1, _⟩ => rfl
  exact (congrArg _ ey).trans (Cert.OutProjFirstRefIdeal.Rows.third _ (y 1) (y 0))

theorem algebraic : Cert.algebraic_OutProjFirstIdeal_OutProjFirstRefIdeal := by
  pair_intro
  · run_from Cert.OutProjFirstIdeal.Value.run_blocks m g
  · run_from Cert.OutProjFirstRefIdeal.Value.run m' g'
    · exact (Cert.OutProjFirstRefIdeal.Read.val_main_v7_eq (F := Ideal) _ _ _ _ _ _).trans (agree6 m c)
    · exact (Cert.OutProjFirstRefIdeal.Read.val_main_v8_eq (F := Ideal) _ _ _ _ _ _).trans (agree7 m c)
    · exact (Cert.OutProjFirstRefIdeal.Read.val_main_v11_eq (F := Ideal) _).trans (agree8 m c)

/-- The reference runs host operations alone and has no semaphore. -/
theorem frame_reference : Cert.quiescent_OutProjFirstRefIdeal := fun m ρ _ =>
  (θ_run Cert.OutProjFirstRefIdeal.defs _ _).mono (fun r h => ⟨fun c => (h c).2.2.2, sem_eq_zero_of_no_sems (by decide) r.2⟩)
    (Cert.OutProjFirstRefIdeal.Value.run (F := Ideal) m ρ)

end Cert.OutProjFirst

end
-- ==== Proof.Down.Body.lean ====
/- The down projection's body, at any grid point: what the two output buffers hold after it, from what they held before it and
   the five input blocks. -/
module

public import proofs.«01_k».proof.Proof.Gen.MmResIdeal.Frame
public import proofs.«01_k».proof.Proof.Gen.MmResIdeal.Skeleton
public import Idealize.ShloMosaic.Lib.Pipeline.TableIdle
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.MmResIdeal.Down

open Cert.MmResIdeal Cert.MmResIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The product's block after a point: the first step of a row block starts it from the residual, a later one adds to it, the
    last row block's first step copies the given one, its other steps leave it. -/
def stepO (i : grid0.Coords) (a : Vec F S1024x2816 .bf16) (w : Vec F S2816x1024 .bf16) (r xf o : Vec F S1024x1024 .f32) :
    Vec F S1024x1024 .f32 :=
  if k0_cond5 i = 1#1 then xf
  else if k0_cond1 i = 1#1 then
    if k0_cond3 i = 1#1 then k0_pay2 (if k0_cond2 i = 1#1 then k0_pay1 r a w else o) a w
    else if k0_cond2 i = 1#1 then k0_pay1 r a w else o
  else o

/-- The rounded block after a point: the last step of a row block rounds the product's block `o'`, the last row block's first
    step copies the given one, every other point leaves it. -/
def stepB (i : grid0.Coords) (xbf : Vec F S1024x1024 .bf16) (o' : Vec F S1024x1024 .f32) (b : Vec F S1024x1024 .bf16) :
    Vec F S1024x1024 .bf16 :=
  if k0_cond5 i = 1#1 then xbf
  else if k0_cond1 i = 1#1 then if k0_cond4 i = 1#1 then k0_pay3 o' else b
  else b

/-- A load of a whole buffer's own sizes reads what the buffer holds. -/
theorem seen {s : Shape} {e : EltTy} {m : Memref sig .tc .vmem s e} (h : m.IsWhole) (X : s.Idx → Elt F e) {off : Fin s.rank → ℕ}
    (inb : ∀ a, off a + s.size a ≤ s.size a) :
    m.view.readAt (Elt F) (Rect.unit off s.size inb).toLoadRect (h.unread X) = X :=
  (View.readAt_full m.view _ inb).trans (h.read_unread X)

set_option maxHeartbeats 2000000 in
/-- The body on whole buffers: the inputs stay, the outputs step. -/
theorem body (c : Dev nD) (i : grid0.Coords)
    (g3 : k0_cond3 i = 1#1 ↔ ¬ k0_cond2 i = 1#1) (g4 : k0_cond4 i = 1#1 → k0_cond3 i = 1#1) (g5 : k0_cond5 i = 1#1 → ¬ k0_cond1 i = 1#1)
    (arg3 : Memref sig .tc .vmem S1024x2816 .bf16) (harg3 : arg3.IsWhole)
    (arg4 : Memref sig .tc .vmem S2816x1024 .bf16) (harg4 : arg4.IsWhole)
    (arg5 : Memref sig .tc .vmem S1024x1024 .f32) (harg5 : arg5.IsWhole)
    (arg6 : Memref sig .tc .vmem S1024x1024 .f32) (harg6 : arg6.IsWhole)
    (arg7 : Memref sig .tc .vmem S1024x1024 .bf16) (harg7 : arg7.IsWhole)
    (arg8 : Memref sig .tc .vmem S1024x1024 .f32) (harg8 : arg8.IsWhole)
    (arg9 : Memref sig .tc .vmem S1024x1024 .bf16) (harg9 : arg9.IsWhole)
    (a : Vec F S1024x2816 .bf16) (w : Vec F S2816x1024 .bf16) (r xf o : Vec F S1024x1024 .f32) (xbf b : Vec F S1024x1024 .bf16)
    (E : Set ℕ) (K : PUnit → sProp 𝕄) :
    iprop(owns (c : Thread nD τ) arg3 fullShare a ∗ owns (c : Thread nD τ) arg4 fullShare w ∗ owns (c : Thread nD τ) arg5 fullShare r
        ∗ owns (c : Thread nD τ) arg6 fullShare xf ∗ owns (c : Thread nD τ) arg7 fullShare xbf
        ∗ owns (c : Thread nD τ) arg8 fullShare o ∗ owns (c : Thread nD τ) arg9 fullShare b
        ∗ (iprop(owns (c : Thread nD τ) arg3 fullShare a ∗ owns (c : Thread nD τ) arg4 fullShare w
            ∗ owns (c : Thread nD τ) arg5 fullShare r ∗ owns (c : Thread nD τ) arg6 fullShare xf
            ∗ owns (c : Thread nD τ) arg7 fullShare xbf
            ∗ owns (c : Thread nD τ) arg8 fullShare (stepO i a w r xf o)
            ∗ owns (c : Thread nD τ) arg9 fullShare (stepB i xbf (stepO i a w r xf o) b)) -∗ K ⟨⟩))
      ⊢ wp frame (wpE (defs₀ (F := F)) Variants.none c none) E
          (cc0_mm_res i arg3 harg3 arg4 harg4 arg5 harg5 arg6 harg6 arg7 harg7 arg8 harg8 arg9 harg9) K := by
  simp only [cc0_mm_res_eq_skeleton]; unfold cc0_mm_res_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, Hk⟩
  obtain rfl := harg3.eq_unread h3; obtain rfl := harg4.eq_unread h4; obtain rfl := harg5.eq_unread h5
  obtain rfl := harg6.eq_unread h6; obtain rfl := harg7.eq_unread h7; obtain rfl := harg8.eq_unread h8
  obtain rfl := harg9.eq_unread h9
  by_cases c1 : k0_cond1 i = 1#1
  · have c5 : ¬ k0_cond5 i = 1#1 := fun h => g5 h c1
    by_cases c2 : k0_cond2 i = 1#1
    · have c3 : ¬ k0_cond3 i = 1#1 := fun h => g3.mp h c2
      have c4 : ¬ k0_cond4 i = 1#1 := fun h => c3 (g4 h)
      sl_exec (disch := first | sl_exact c1 | sl_exact c2 | sl_exact c3 | sl_exact c4 | sl_exact c5)
      sl_step
      iapply Hk
      isplitl [H3]; · iexists _; isplitr; · ipureintro; exact harg3.read_unread _
                      iexact H3
      isplitl [H4]; · iexists _; isplitr; · ipureintro; exact harg4.read_unread _
                      iexact H4
      isplitl [H5]; · iexists _; isplitr; · ipureintro; exact harg5.read_unread _
                      iexact H5
      isplitl [H6]; · iexists _; isplitr; · ipureintro; exact harg6.read_unread _
                      iexact H6
      isplitl [H7]; · iexists _; isplitr; · ipureintro; exact harg7.read_unread _
                      iexact H7
      isplitl [H8]
      · iexists _; isplitr; swap; · iexact H8
        ipureintro
        exact (View.read_writes_full ..).trans (by simp only [stepO, if_neg c5, if_pos c1, if_neg c3, if_pos c2]; exact congr (congr (congrArg k0_pay1 (seen harg5 r _)) (seen harg3 a _)) (seen harg4 w _))
      · iexists _; isplitr; swap; · iexact H9
        ipureintro
        exact (harg9.read_unread _).trans (by simp only [stepB, if_neg c5, if_pos c1, if_neg c4])
    · have c3 : k0_cond3 i = 1#1 := g3.mpr c2
      by_cases c4 : k0_cond4 i = 1#1
      · sl_exec (disch := first | sl_exact c1 | sl_exact c2 | sl_exact c3 | sl_exact c4 | sl_exact c5)
        sl_step
        iapply Hk
        isplitl [H3]; · iexists _; isplitr; · ipureintro; exact harg3.read_unread _
                        iexact H3
        isplitl [H4]; · iexists _; isplitr; · ipureintro; exact harg4.read_unread _
                        iexact H4
        isplitl [H5]; · iexists _; isplitr; · ipureintro; exact harg5.read_unread _
                        iexact H5
        isplitl [H6]; · iexists _; isplitr; · ipureintro; exact harg6.read_unread _
                        iexact H6
        isplitl [H7]; · iexists _; isplitr; · ipureintro; exact harg7.read_unread _
                        iexact H7
        isplitl [H8]
        · iexists _; isplitr; swap; · iexact H8
          ipureintro
          exact (View.read_writes_full ..).trans (by simp only [stepO, if_neg c5, if_pos c1, if_pos c3, if_neg c2]; exact congr (congr (congrArg k0_pay2 (seen harg8 o _)) (seen harg3 a _)) (seen harg4 w _))
        · iexists _; isplitr; swap; · iexact H9
          ipureintro
          exact (View.read_writes_full ..).trans (by
            simp only [stepB, stepO, if_neg c5, if_pos c1, if_pos c3, if_pos c4, if_neg c2]
            exact congrArg k0_pay3 ((View.readCov_full arg8.view ..).trans
              (congr (congr (congrArg k0_pay2 (seen harg8 o _)) (seen harg3 a _)) (seen harg4 w _))))
      · sl_exec (disch := first | sl_exact c1 | sl_exact c2 | sl_exact c3 | sl_exact c4 | sl_exact c5)
        sl_step
        iapply Hk
        isplitl [H3]; · iexists _; isplitr; · ipureintro; exact harg3.read_unread _
                        iexact H3
        isplitl [H4]; · iexists _; isplitr; · ipureintro; exact harg4.read_unread _
                        iexact H4
        isplitl [H5]; · iexists _; isplitr; · ipureintro; exact harg5.read_unread _
                        iexact H5
        isplitl [H6]; · iexists _; isplitr; · ipureintro; exact harg6.read_unread _
                        iexact H6
        isplitl [H7]; · iexists _; isplitr; · ipureintro; exact harg7.read_unread _
                        iexact H7
        isplitl [H8]
        · iexists _; isplitr; swap; · iexact H8
          ipureintro
          exact (View.read_writes_full ..).trans (by simp only [stepO, if_neg c5, if_pos c1, if_pos c3, if_neg c2]; exact congr (congr (congrArg k0_pay2 (seen harg8 o _)) (seen harg3 a _)) (seen harg4 w _))
        · iexists _; isplitr; swap; · iexact H9
          ipureintro
          exact (harg9.read_unread _).trans (by simp only [stepB, if_neg c5, if_pos c1, if_neg c4])
  · by_cases c5 : k0_cond5 i = 1#1
    · sl_exec (disch := first | sl_exact c1 | sl_exact c2 | sl_exact c3 | sl_exact c4 | sl_exact c5)
      sl_step
      iapply Hk
      isplitl [H3]; · iexists _; isplitr; · ipureintro; exact harg3.read_unread _
                      iexact H3
      isplitl [H4]; · iexists _; isplitr; · ipureintro; exact harg4.read_unread _
                      iexact H4
      isplitl [H5]; · iexists _; isplitr; · ipureintro; exact harg5.read_unread _
                      iexact H5
      isplitl [H6]; · iexists _; isplitr; · ipureintro; exact harg6.read_unread _
                      iexact H6
      isplitl [H7]; · iexists _; isplitr; · ipureintro; exact harg7.read_unread _
                      iexact H7
      isplitl [H8]
      · iexists _; isplitr; swap; · iexact H8
        ipureintro
        exact (View.read_writes_full ..).trans (by simp only [stepO, if_pos c5]; exact seen harg6 xf _)
      · iexists _; isplitr; swap; · iexact H9
        ipureintro
        exact (View.read_writes_full ..).trans (by simp only [stepB, if_pos c5]; exact seen harg7 xbf _)
    · sl_exec (disch := first | sl_exact c1 | sl_exact c2 | sl_exact c3 | sl_exact c4 | sl_exact c5)
      sl_step
      iapply Hk
      isplitl [H3]; · iexists _; isplitr; · ipureintro; exact harg3.read_unread _
                      iexact H3
      isplitl [H4]; · iexists _; isplitr; · ipureintro; exact harg4.read_unread _
                      iexact H4
      isplitl [H5]; · iexists _; isplitr; · ipureintro; exact harg5.read_unread _
                      iexact H5
      isplitl [H6]; · iexists _; isplitr; · ipureintro; exact harg6.read_unread _
                      iexact H6
      isplitl [H7]; · iexists _; isplitr; · ipureintro; exact harg7.read_unread _
                      iexact H7
      isplitl [H8]
      · iexists _; isplitr; swap; · iexact H8
        ipureintro
        exact (harg8.read_unread _).trans (by simp only [stepO, if_neg c5, if_neg c1])
      · iexists _; isplitr; swap; · iexact H9
        ipureintro
        exact (harg9.read_unread _).trans (by simp only [stepB, if_neg c5, if_neg c1])

end Cert.MmResIdeal.Down

end
-- ==== Proof.Down.Points.lean ====
/- The down projection's grid: which conditions of the body hold at a point, and at which points an output's buffer holds
   nothing yet. -/
module

public import proofs.«01_k».proof.Proof.Down.Body

@[expose] public section

set_option maxRecDepth 16384

noncomputable section

namespace Cert.MmResIdeal.Down

open Cert.MmResIdeal Cert.MmResIdeal.Gen
open Idealize.ShloMosaic Idealize.ShloMosaic.TcCoe
open Idealize.ShloMosaic.Pipeline (Cfg Window)

/-- A row block that is computed. -/
theorem cond1 : ∀ t : Fin grid0.N, k0_cond1 (grid0.coords t) = 1#1 ↔ t.val < 240 := by decide +kernel
/-- The first step of a row block. -/
theorem cond2 : ∀ t : Fin grid0.N, k0_cond2 (grid0.coords t) = 1#1 ↔ t.val % 4 = 0 := by decide +kernel
/-- A later step. -/
theorem cond3 : ∀ t : Fin grid0.N, k0_cond3 (grid0.coords t) = 1#1 ↔ ¬ t.val % 4 = 0 := by decide +kernel
/-- The last step. -/
theorem cond4 : ∀ t : Fin grid0.N, k0_cond4 (grid0.coords t) = 1#1 ↔ t.val % 4 = 3 := by decide +kernel
/-- The first step of a block of the given row block. -/
theorem cond5 : ∀ t : Fin grid0.N, k0_cond5 (grid0.coords t) = 1#1 ↔ 240 ≤ t.val ∧ t.val % 4 = 0 := by decide +kernel

/-- The points at which the body stores nothing into the product's buffer. -/
theorem idleO (t : Fin grid0.N) : cfg0.idle 5 (grid0.coords t) = true ↔ 240 ≤ t.val ∧ ¬ t.val % 4 = 0 := by
  have h1 := cond1 t; have h2 := cond2 t; have h3 := cond3 t; have h5 := cond5 t
  show (!(k0_cond1 (grid0.coords t) == 1#1 && k0_cond2 (grid0.coords t) == 1#1)
    && !(k0_cond1 (grid0.coords t) == 1#1 && k0_cond3 (grid0.coords t) == 1#1) && !(k0_cond5 (grid0.coords t) == 1#1)) = true ↔ _
  simp only [Bool.and_eq_true, Bool.not_eq_true', Bool.and_eq_false_iff, beq_eq_false_iff_ne, ne_eq, h1, h2, h3, h5]
  omega

/-- The points at which the body stores nothing into the rounded block's buffer. -/
theorem idleB (t : Fin grid0.N) :
    cfg0.idle 6 (grid0.coords t) = true ↔ ¬ (t.val < 240 ∧ t.val % 4 = 3) ∧ ¬ (240 ≤ t.val ∧ t.val % 4 = 0) := by
  have h1 := cond1 t; have h4 := cond4 t; have h5 := cond5 t
  show (!(k0_cond1 (grid0.coords t) == 1#1 && k0_cond4 (grid0.coords t) == 1#1) && !(k0_cond5 (grid0.coords t) == 1#1)) = true ↔ _
  simp only [Bool.and_eq_true, Bool.not_eq_true', Bool.and_eq_false_iff, beq_eq_false_iff_ne, ne_eq, h1, h4, h5]
  omega

/-- The product's buffer holds nothing yet exactly at the first step of a block. -/
theorem freshO (n : ℕ) (h : n ≤ cfg0.N) : cfg0.fresh 5 n = decide (n % 4 = 0) :=
  cfg0.fresh_tab 5 (fun n => decide (n % 4 = 0)) rfl (fun t => by
    have hf := flush0_5 t; have hi := idleO t
    have hN : t.val < 256 := lt_of_lt_of_eq t.isLt N_0
    rw [Bool.eq_iff_iff]
    simp only [Bool.or_eq_true, Bool.and_eq_true, decide_eq_true_eq]
    rw [hf, show cfg0.idle 5 (cfg0.grid.coords t) = true ↔ _ from hi]
    omega) n h

/-- The rounded block's buffer holds nothing yet at any point before the given row block's first, nor at a block's first. -/
theorem freshB (n : ℕ) (h : n ≤ cfg0.N) : cfg0.fresh 6 n = decide (n ≤ 240 ∨ n % 4 = 0) :=
  cfg0.fresh_tab 6 (fun n => decide (n ≤ 240 ∨ n % 4 = 0)) rfl (fun t => by
    have hf := flush0_6 t; have hi := idleB t
    have hN : t.val < 256 := lt_of_lt_of_eq t.isLt N_0
    rw [Bool.eq_iff_iff]
    simp only [Bool.or_eq_true, Bool.and_eq_true, decide_eq_true_eq]
    rw [hf, show cfg0.idle 6 (cfg0.grid.coords t) = true ↔ _ from hi]
    omega) n h

end Cert.MmResIdeal.Down

end
-- ==== Proof.Down.Run.lean ====
/- The down projection's run, over any scalars: what the two output buffers hold after each point, the body at every point, and
   that the argument arrays end as launched. -/
module

public import proofs.«01_k».proof.Proof.Down.Points
public import Idealize.ShloMosaic.Lib.Claim

@[expose] public section

set_option maxRecDepth 16384

noncomputable section

namespace Cert.MmResIdeal.Down

open Cert.MmResIdeal Cert.MmResIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product's block after point `t`, from what it was before. -/
def nextO (c : Dev nD) (t : Fin cfg0.N) (o : Vec F S1024x1024 .f32) : Vec F S1024x1024 .f32 :=
  stepO (grid0.coords t) (iblk m c 0 t) (iblk m c 1 t) (iblk m c 2 t) (iblk m c 3 t) o

/-- The rounded block after point `t`, from the product's block after it and what it was before. -/
def nextB (c : Dev nD) (t : Fin cfg0.N) (o : Vec F S1024x1024 .f32) (b : Vec F S1024x1024 .bf16) :
    Vec F S1024x1024 .bf16 :=
  stepB (grid0.coords t) (iblk m c 4 t) o b

/-- Both blocks after a point (from the given blocks, before the first). -/
def outs (c : Dev nD) : (n : ℕ) → n < cfg0.N → Vec F S1024x1024 .f32 × Vec F S1024x1024 .bf16
  | 0, h => (nextO m c ⟨0, h⟩ (iblk m c 3 ⟨0, h⟩), nextB m c ⟨0, h⟩ (nextO m c ⟨0, h⟩ (iblk m c 3 ⟨0, h⟩)) (iblk m c 4 ⟨0, h⟩))
  | n + 1, h =>
    (nextO m c ⟨n + 1, h⟩ (outs c n (Nat.lt_of_succ_lt h)).1,
      nextB m c ⟨n + 1, h⟩ (nextO m c ⟨n + 1, h⟩ (outs c n (Nat.lt_of_succ_lt h)).1) (outs c n (Nat.lt_of_succ_lt h)).2)

/-- The blocks after a later point, from those after the point before. -/
theorem outs_next (c : Dev nD) (t : Fin cfg0.N) (h : t.val ≠ 0) (h' : t.val - 1 < cfg0.N) :
    outs m c t.val t.isLt = (nextO m c t (outs m c (t.val - 1) h').1,
      nextB m c t (nextO m c t (outs m c (t.val - 1) h').1) (outs m c (t.val - 1) h').2) := by
  obtain ⟨n, hn⟩ := t
  cases n with
  | zero => exact absurd rfl h
  | succ n => rfl

/-- At the first point, whatever the blocks were. -/
theorem outs_first (c : Dev nD) (t : Fin cfg0.N) (h : t.val = 0) :
    ∃ o b, outs m c t.val t.isLt = (nextO m c t o, nextB m c t (nextO m c t o) b) := by
  obtain ⟨n, hn⟩ := t
  cases n with
  | zero => exact ⟨_, _, rfl⟩
  | succ n => exact absurd h (Nat.succ_ne_zero n)

/-- A block's first step does not read what the product's buffer held. -/
theorem nextO_first (c : Dev nD) (t : Fin cfg0.N) (h : t.val % 4 = 0) (o o' : Vec F S1024x1024 .f32) : nextO m c t o = nextO m c t o' := by
  unfold nextO stepO
  by_cases h1 : k0_cond1 (grid0.coords t) = 1#1
  · simp only [if_pos h1, if_pos ((cond2 t).mpr h)]
  · have h5 : k0_cond5 (grid0.coords t) = 1#1 := (cond5 t).mpr ⟨by have := mt (cond1 t).mpr h1; omega, h⟩
    simp only [if_pos h5]

/-- Where the body stores nothing into the product's buffer the block stays. -/
theorem nextO_idle (c : Dev nD) (t : Fin cfg0.N) (h : cfg0.idle 5 (grid0.coords t) = true) (o) : nextO m c t o = o := by
  obtain ⟨h1, h2⟩ := (idleO t).mp h
  unfold nextO stepO
  rw [if_neg (fun h => h2 ((cond5 t).mp h).2), if_neg (fun h => by have := (cond1 t).mp h; omega)]

/-- Where the body stores nothing into the rounded block's buffer the block stays. -/
theorem nextB_idle (c : Dev nD) (t : Fin cfg0.N) (h : cfg0.idle 6 (grid0.coords t) = true) (o b) : nextB m c t o b = b := by
  obtain ⟨h1, h2⟩ := (idleB t).mp h
  unfold nextB stepB
  rw [if_neg (fun h => h2 ((cond5 t).mp h))]
  by_cases c1 : k0_cond1 (grid0.coords t) = 1#1
  · rw [if_pos c1, if_neg (fun h => h1 ⟨(cond1 t).mp c1, (cond4 t).mp h⟩)]
  · rw [if_neg c1]

/-- Where it stores into it, it does not read what the buffer held. -/
theorem nextB_live (c : Dev nD) (t : Fin cfg0.N) (h : ¬ cfg0.idle 6 (grid0.coords t) = true) (o b b') : nextB m c t o b = nextB m c t o b' := by
  unfold nextB stepB
  by_cases c5 : k0_cond5 (grid0.coords t) = 1#1
  · simp only [if_pos c5]
  · have h' := mt (idleB t).mpr h
    have h5 := mt (cond5 t).mpr c5
    have h1 : t.val < 240 ∧ t.val % 4 = 3 := by by_contra hc; exact h' ⟨hc, h5⟩
    simp only [if_neg c5, if_pos ((cond1 t).mpr h1.1), if_pos ((cond4 t).mpr h1.2)]

/-! ## The proof data -/

/-- The arrays as launched; after a point each input's buffer holds its block and the outputs' what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outs m c t.val t.isLt).1 := by dsimp only [dats]
theorem after6 (c : Dev nD) (t : Fin cfg0.N) : (dats m 0 c).after 6 t = (outs m c t.val t.isLt).2 := by dsimp only [dats]

/-- What the product's buffer holds before a point: anything at a block's first step, else what the point before left. -/
theorem before5 (c : Dev nD) (t : Fin cfg0.N) (d) :
    (dats m 0 c).before 5 t d = if cfg0.fresh 5 t.val then d else (dats m 0 c).after 5 ⟨t.val - 1, by omega⟩ :=
  (dats m 0 c).before_out_traj 5 rfl (fun _ _ => rfl) (fun t h hi _ => by
    rw [after5, after5, outs_next m c t h (by omega)]
    exact nextO_idle m c t hi _) t.val t rfl d

/-- What the rounded block's buffer holds before a point. -/
theorem before6 (c : Dev nD) (t : Fin cfg0.N) (d) :
    (dats m 0 c).before 6 t d = if cfg0.fresh 6 t.val then d else (dats m 0 c).after 6 ⟨t.val - 1, by omega⟩ :=
  (dats m 0 c).before_out_traj 6 rfl (fun _ _ => rfl) (fun t h hi _ => by
    rw [after6, after6, outs_next m c t h (by omega)]
    exact nextB_idle m c t hi _ _) t.val t rfl d

/-- The product's block after a point, from what its buffer held before. -/
theorem step5 (c : Dev nD) (t : Fin cfg0.N) (d) : nextO m c t ((dats m 0 c).before 5 t d) = (outs m c t.val t.isLt).1 := by
  rw [before5]
  by_cases h0 : t.val % 4 = 0
  · by_cases ht : t.val = 0
    · obtain ⟨o, b, e⟩ := outs_first m c t ht
      rw [e]; exact nextO_first m c t h0 _ _
    · rw [outs_next m c t ht (by omega)]; exact nextO_first m c t h0 _ _
  · rw [freshO t.val (le_of_lt t.isLt), if_neg (by simpa using h0), after5, outs_next m c t (by omega) (by omega)]

/-- The rounded block after a point that stores it or writes it back, from what its buffer held before. -/
theorem step6 (c : Dev nD) (t : Fin cfg0.N) (d) (h : ¬ (cfg0.idle 6 (grid0.coords t) = true ∧ ¬ t.val % 4 = 3)) :
    nextB m c t (outs m c t.val t.isLt).1 ((dats m 0 c).before 6 t d) = (outs m c t.val t.isLt).2 := by
  by_cases hl : cfg0.idle 6 (grid0.coords t) = true
  · have h3 : t.val % 4 = 3 := by by_contra hc; exact h ⟨hl, hc⟩
    have hi := (idleB t).mp hl
    rw [before6, freshB t.val (le_of_lt t.isLt), if_neg (by simp only [decide_eq_true_eq]; omega), after6,
      outs_next m c t (by omega) (by omega)]
  · by_cases ht : t.val = 0
    · obtain ⟨o, b, e⟩ := outs_first m c t ht
      rw [e]; exact nextB_live m c t hl _ _ _
    · rw [outs_next m c t ht (by omega)]; exact nextB_live m c t hl _ _ _

/-! ## The body at every point -/

/-- The product's buffer after the body is what the point is to leave. -/
theorem leaves5 (c : Dev nD) (t : Fin cfg0.N) (d) :
    owns (c : Thread nD τ) (st0_5 t) fullShare (nextO m c t ((dats m 0 c).before 5 t d)) ⊢ (dats m 0 c).leavesExact 5 t := by
  by_cases hi : cfg0.idle 5 (grid0.coords t) = true
  · by_cases hf : (cfg0.win 5).flush t = true
    · have e : (dats m 0 c).leavesExact 5 t = owns (c : Thread nD τ) (st0_5 t) fullShare ((dats m 0 c).after 5 t) := by
        unfold Dat.leavesExact; rw [hi, hf]
      rw [e, after5, step5]
    · rw [(dats m 0 c).leavesExact_idle 5 t hi (by simpa using hf), nextO_idle m c t hi]
      iintro H; iexists _; iexact H
  · have e : (dats m 0 c).leavesExact 5 t = owns (c : Thread nD τ) (st0_5 t) fullShare ((dats m 0 c).after 5 t) := by
      unfold Dat.leavesExact; rw [show cfg0.idle 5 (cfg0.grid.coords t) = false from by simpa using hi]
    rw [e, after5, step5]

/-- So is the rounded block's. -/
theorem leaves6 (c : Dev nD) (t : Fin cfg0.N) (d) :
    owns (c : Thread nD τ) (st0_6 t) fullShare (nextB m c t (outs m c t.val t.isLt).1 ((dats m 0 c).before 6 t d))
      ⊢ (dats m 0 c).leavesExact 6 t := by
  by_cases hi : cfg0.idle 6 (grid0.coords t) = true
  · by_cases hf : (cfg0.win 6).flush t = true
    · have e : (dats m 0 c).leavesExact 6 t = owns (c : Thread nD τ) (st0_6 t) fullShare ((dats m 0 c).after 6 t) := by
        unfold Dat.leavesExact; rw [hi, hf]
      rw [e, after6, step6 m c t d (fun h => h.2 ((flush0_6 t).mp hf))]
    · rw [(dats m 0 c).leavesExact_idle 6 t hi (by simpa using hf), nextB_idle m c t hi]
      iintro H; iexists _; iexact H
  · have e : (dats m 0 c).leavesExact 6 t = owns (c : Thread nD τ) (st0_6 t) fullShare ((dats m 0 c).after 6 t) := by
      unfold Dat.leavesExact; rw [show cfg0.idle 6 (cfg0.grid.coords t) = false from by simpa using hi]
    rw [e, after6, step6 m c t d (fun h => hi h.1)]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t
    ∗ (dats m 0 c).leavesExact 5 t ∗ (dats m 0 c).leavesExact 6 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  have l0 : (dats m 0 c).leavesExact 0 t = owns (c : Thread nD τ) (st0_0 t) fullShare (iblk m c 0 t) := by rw [← after0]
  have l1 : (dats m 0 c).leavesExact 1 t = owns (c : Thread nD τ) (st0_1 t) fullShare (iblk m c 1 t) := by rw [← after1]
  have l2 : (dats m 0 c).leavesExact 2 t = owns (c : Thread nD τ) (st0_2 t) fullShare (iblk m c 2 t) := by rw [← after2]
  have l3 : (dats m 0 c).leavesExact 3 t = owns (c : Thread nD τ) (st0_3 t) fullShare (iblk m c 3 t) := by rw [← after3]
  have l4 : (dats m 0 c).leavesExact 4 t = owns (c : Thread nD τ) (st0_4 t) fullShare (iblk m c 4 t) := by rw [← after4]
  unfold bodyPre bodyPost bodyAt0
  rw [show (dats m 0 c).Φ t.succ = (dats m 0 c).Φ t.castSucc from rfl,
    show (dats m 0 c).owesAt () t.succ = (dats m 0 c).owesAt () t.castSucc from rfl, l0, l1, l2, l3, l4]
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c (grid0.coords t) ((cond3 t).trans (not_congr (cond2 t).symm))
    (fun h => (cond3 t).mpr (by have := (cond4 t).mp h; omega)) (fun h h' => by have := (cond5 t).mp h; have := (cond1 t).mp h'; omega)
    _ _ _ _ _ _ _ _ _ _ _ _ _ _ (iblk m c 0 t) (iblk m c 1 t) (iblk m c 2 t) (iblk m c 3 t) ((dats m 0 c).before 5 t d5)
    (iblk m c 4 t) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (leaves5 m c t d5); iexact H5
  iapply (leaves6 m c t d6)
  rw [← step5 m c t d5]; iexact H6

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every array of the pipeline ends at what the proof data says, every other buffer as launched, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.MmResIdeal.Down

end
-- ==== Proof.Down.Kernel.lean ====
/- The down projection's values: at the last step of a block of the first fifteen row blocks the residual and the product over all
   11264 columns, taken 2816 at a time; at the last row block's points the blocks an earlier call left. -/
module

public import proofs.«01_k».proof.Proof.Down.Run
public import proofs.«01_k».proof.Proof.Rows.Base
public import Idealize.ShloMosaic.Lib.Pipeline.Value

@[expose] public section

set_option maxRecDepth 16384

noncomputable section

namespace Cert.MmResIdeal.Down

open Cert.MmResIdeal Cert.MmResIdeal.Gen Idealize.ShloMosaic Idealize.ShloMosaic.TcCoe Idealize.SL.Sem

theorem pay1 (r : Vec Ideal S1024x1024 .f32) (a : Vec Ideal S1024x2816 .bf16) (w : Vec Ideal S2816x1024 .bf16) (n l : Fin 1024) :
    k0_pay1 (F := Ideal) r a w (ix2 n l) = r (ix2 n l) + ∑ x : Fin 2816, a (ix2 n x) * w (ix2 x l) := by
  pointwise [k0_pay1]

theorem pay2 (o : Vec Ideal S1024x1024 .f32) (a : Vec Ideal S1024x2816 .bf16) (w : Vec Ideal S2816x1024 .bf16) (n l : Fin 1024) :
    k0_pay2 (F := Ideal) o a w (ix2 n l) = o (ix2 n l) + ∑ x : Fin 2816, a (ix2 n x) * w (ix2 x l) := by
  pointwise [k0_pay2]

theorem pay3 (o : Vec Ideal S1024x1024 .f32) (n l : Fin 1024) : k0_pay3 (F := Ideal) o (ix2 n l) = o (ix2 n l) := by
  pointwise [k0_pay3]

variable (m : (ℓ : Loc nD τ sig) → Buf (Elt Ideal) ℓ) (c : Dev nD)

theorem lt256 (t : Fin cfg0.N) : (t : ℕ) < 256 := t.isLt

theorem idx0 : ∀ t : Fin cfg0.N, (t : ℕ) < 240 → win0_0.index t = ![(t : ℕ) / 16, (t : ℕ) % 4] := (by decide +kernel : ∀ t : Fin grid0.N, _)
theorem idx1 : ∀ t : Fin cfg0.N, (t : ℕ) < 240 → win0_1.index t = ![(t : ℕ) % 4, (t : ℕ) / 4 % 4] := (by decide +kernel : ∀ t : Fin grid0.N, _)
theorem idx2 : ∀ t : Fin cfg0.N, (t : ℕ) < 240 → win0_2.index t = ![(t : ℕ) / 16, (t : ℕ) / 4 % 4] := (by decide +kernel : ∀ t : Fin grid0.N, _)
theorem idx3 : ∀ t : Fin cfg0.N, 240 ≤ (t : ℕ) → win0_3.index t = ![0, (t : ℕ) / 4 % 4] := (by decide +kernel : ∀ t : Fin grid0.N, _)
theorem idx4 : ∀ t : Fin cfg0.N, 240 ≤ (t : ℕ) → win0_4.index t = ![0, (t : ℕ) / 4 % 4] := (by decide +kernel : ∀ t : Fin grid0.N, _)
theorem idx5 : ∀ t : Fin cfg0.N, win0_5.index t = ![(t : ℕ) / 16, (t : ℕ) / 4 % 4] := (by decide +kernel : ∀ t : Fin grid0.N, _)
theorem idx6 : ∀ t : Fin cfg0.N, win0_6.index t = ![(t : ℕ) / 16, (t : ℕ) / 4 % 4] := (by decide +kernel : ∀ t : Fin grid0.N, _)

/-- The gated product, the weight, the residual and the last row block's two results, as the call finds them. -/
def gated : Vec Ideal S16384x11264 .bf16 := m ((c : Thread nD τ).loc main_arg0)
def weight : Vec Ideal S11264x4096 .bf16 := m ((c : Thread nD τ).loc main_arg1)
def resid : Vec Ideal S16384x4096 .f32 := m ((c : Thread nD τ).loc main_arg2)
def last : Vec Ideal S1024x4096 .f32 := m ((c : Thread nD τ).loc main_arg3)
def lastB : Vec Ideal S1024x4096 .bf16 := m ((c : Thread nD τ).loc main_arg4)

/-- The array's row and column of a point's block, and the summed column of its step. -/
def rowAt (t : Fin cfg0.N) (a : Fin 1024) : Fin 16384 := ⟨1024 * ((t : ℕ) / 16) + a, by have := lt256 t; omega⟩
def colAt (t : Fin cfg0.N) (b : Fin 1024) : Fin 4096 := ⟨1024 * ((t : ℕ) / 4 % 4) + b, by have := lt256 t; omega⟩
def midAt (k : Fin 4) (x : Fin 2816) : Fin 11264 := ⟨2816 * k + x, by omega⟩
def stepAt (t : Fin cfg0.N) : Fin 4 := ⟨(t : ℕ) % 4, by omega⟩

theorem read0 (t : Fin cfg0.N) (h : (t : ℕ) < 240) (a : Fin 1024) (b : Fin 2816) :
    iblk m c 0 t (ix2 a b) = gated m c (ix2 (rowAt t a) (midAt (stepAt t) b)) := by
  blk_simp [iblk]
  rw [V_main_arg0]
  unfold gated rowAt midAt stepAt
  refine congrArg _ ?_
  blk_ext [idx0 t h]

theorem read1 (t : Fin cfg0.N) (h : (t : ℕ) < 240) (a : Fin 2816) (b : Fin 1024) :
    iblk m c 1 t (ix2 a b) = weight m c (ix2 (midAt (stepAt t) a) (colAt t b)) := by
  blk_simp [iblk]
  rw [V_main_arg1]
  unfold weight colAt midAt stepAt
  refine congrArg _ ?_
  blk_ext [idx1 t h]

theorem read2 (t : Fin cfg0.N) (h : (t : ℕ) < 240) (a b : Fin 1024) : iblk m c 2 t (ix2 a b) = resid m c (ix2 (rowAt t a) (colAt t b)) := by
  blk_simp [iblk]
  rw [V_main_arg2]
  unfold resid rowAt colAt
  refine congrArg _ ?_
  blk_ext [idx2 t h]

theorem read3 (t : Fin cfg0.N) (h : 240 ≤ (t : ℕ)) (a b : Fin 1024) : iblk m c 3 t (ix2 a b) = last m c (ix2 a (colAt t b)) := by
  blk_simp [iblk]
  rw [V_main_arg3]
  unfold last colAt
  refine congrArg _ ?_
  blk_ext [idx3 t h]

theorem read4 (t : Fin cfg0.N) (h : 240 ≤ (t : ℕ)) (a b : Fin 1024) : iblk m c 4 t (ix2 a b) = lastB m c (ix2 a (colAt t b)) := by
  blk_simp [iblk]
  rw [V_main_arg4]
  unfold lastB colAt
  refine congrArg _ ?_
  blk_ext [idx4 t h]

/-- The part of a row's product with a column that step `k` adds. -/
def part (n : Fin 16384) (l : Fin 4096) (k : Fin 4) : EReal :=
  ∑ x, gated m c (ix2 n (midAt k x)) * weight m c (ix2 (midAt k x) l)

/-- The residual and the product at a row and column of the arrays. -/
def entry (n : Fin 16384) (l : Fin 4096) : EReal :=
  resid m c (ix2 n l) + ∑ k, gated m c (ix2 n k) * weight m c (ix2 k l)

/-- A sum over the columns, in the four steps' parts. -/
theorem sum_parts (f : Fin 11264 → EReal) :
    ∑ k, f k = ∑ x, f (midAt 0 x) + ∑ x, f (midAt 1 x) + ∑ x, f (midAt 2 x) + ∑ x, f (midAt 3 x) := by
  refine (Fin.sum_univ_add (a := 8448) (b := 2816) f).trans (congrArg₂ (· + ·) ?_ rfl)
  refine (Fin.sum_univ_add (a := 5632) (b := 2816) _).trans (congrArg₂ (· + ·) ?_ rfl)
  refine (Fin.sum_univ_add (a := 2816) (b := 2816) _).trans (congrArg₂ (· + ·) ?_ rfl)
  refine Finset.sum_congr rfl fun x _ => congrArg f (Fin.ext ?_)
  show (x : ℕ) = 2816 * 0 + x
  omega

theorem entry_parts (n : Fin 16384) (l : Fin 4096) :
    entry m c n l = resid m c (ix2 n l) + part m c n l 0 + part m c n l 1 + part m c n l 2 + part m c n l 3 := by
  unfold entry part
  rw [sum_parts]
  simp only [add_assoc]

/-- A staged row's product with a staged column is the point's part. -/
theorem part_at (t : Fin cfg0.N) (h : (t : ℕ) < 240) (A : Vec Ideal S1024x2816 .bf16) (W : Vec Ideal S2816x1024 .bf16)
    (hA : A = iblk m c 0 t) (hW : W = iblk m c 1 t) (a b : Fin 1024) :
    ∑ x : Fin 2816, A (ix2 a x) * W (ix2 x b) = part m c (rowAt t a) (colAt t b) (stepAt t) := by
  refine Finset.sum_congr rfl fun x _ => congrArg₂ (· * ·) ?_ ?_
  · rw [hA]; exact read0 m c t h a x
  · rw [hW]; exact read1 m c t h x b

/-- A block's first step. -/
theorem nextO_start (t : Fin cfg0.N) (h : (t : ℕ) < 240) (h0 : (t : ℕ) % 4 = 0) (o) (a b : Fin 1024) :
    nextO m c t o (ix2 a b) = resid m c (ix2 (rowAt t a) (colAt t b)) + part m c (rowAt t a) (colAt t b) (stepAt t) := by
  unfold nextO stepO
  rw [if_neg (fun h' => by have := (cond5 t).mp h'; omega), if_pos ((cond1 t).mpr h), if_neg (fun h' => (cond3 t).mp h' h0),
    if_pos ((cond2 t).mpr h0)]
  exact (pay1 _ _ _ a b).trans (congrArg₂ (· + ·) (read2 m c t h a b) (part_at m c t h _ _ rfl rfl a b))

/-- A later step. -/
theorem nextO_more (t : Fin cfg0.N) (h : (t : ℕ) < 240) (h0 : ¬ (t : ℕ) % 4 = 0) (o) (a b : Fin 1024) :
    nextO m c t o (ix2 a b) = o (ix2 a b) + part m c (rowAt t a) (colAt t b) (stepAt t) := by
  unfold nextO stepO
  rw [if_neg (fun h' => by have := (cond5 t).mp h'; omega), if_pos ((cond1 t).mpr h), if_pos ((cond3 t).mpr h0),
    if_neg (fun h' => h0 ((cond2 t).mp h'))]
  exact (pay2 _ _ _ a b).trans (congrArg (_ + ·) (part_at m c t h _ _ rfl rfl a b))

/-- The point before, in the same block. -/
def prev (t : Fin cfg0.N) : Fin cfg0.N := ⟨(t : ℕ) - 1, by omega⟩

theorem rowAt_prev (t : Fin cfg0.N) (h : ¬ (t : ℕ) % 4 = 0) (a : Fin 1024) : rowAt (prev t) a = rowAt t a := by
  unfold rowAt prev
  refine Fin.ext ?_
  show 1024 * (((t : ℕ) - 1) / 16) + a = 1024 * ((t : ℕ) / 16) + a
  omega

theorem colAt_prev (t : Fin cfg0.N) (h : ¬ (t : ℕ) % 4 = 0) (b : Fin 1024) : colAt (prev t) b = colAt t b := by
  unfold colAt prev
  refine Fin.ext ?_
  show 1024 * (((t : ℕ) - 1) / 4 % 4) + b = 1024 * ((t : ℕ) / 4 % 4) + b
  omega

theorem outs_start (t : Fin cfg0.N) (h : (t : ℕ) < 240) (h0 : (t : ℕ) % 4 = 0) (a b : Fin 1024) :
    (outs m c t.val t.isLt).1 (ix2 a b) = resid m c (ix2 (rowAt t a) (colAt t b)) + part m c (rowAt t a) (colAt t b) 0 := by
  have e : stepAt t = 0 := Fin.ext h0
  rw [← step5 m c t (iblk m c 3 t), nextO_start m c t h h0, e]

theorem outs_more (t : Fin cfg0.N) (h : (t : ℕ) < 240) (h0 : ¬ (t : ℕ) % 4 = 0) (a b : Fin 1024) :
    (outs m c t.val t.isLt).1 (ix2 a b)
      = (outs m c (prev t).val (prev t).isLt).1 (ix2 a b) + part m c (rowAt t a) (colAt t b) (stepAt t) := by
  rw [outs_next m c t (by omega) (prev t).isLt]
  exact nextO_more m c t h h0 _ a b

/-- The product's block after a block's last step: four steps' parts on the residual. -/
theorem outs_entry (t : Fin cfg0.N) (h : (t : ℕ) < 240) (h3 : (t : ℕ) % 4 = 3) (a b : Fin 1024) :
    (outs m c t.val t.isLt).1 (ix2 a b) = entry m c (rowAt t a) (colAt t b) := by
  have p1 : ((prev t : Fin cfg0.N) : ℕ) = t - 1 := rfl
  have p2 : ((prev (prev t) : Fin cfg0.N) : ℕ) = t - 1 - 1 := rfl
  have p3 : ((prev (prev (prev t)) : Fin cfg0.N) : ℕ) = t - 1 - 1 - 1 := rfl
  have e3 : stepAt t = 3 := Fin.ext h3
  have e2 : stepAt (prev t) = 2 := Fin.ext (by show ((t : ℕ) - 1) % 4 = 2; omega)
  have e1 : stepAt (prev (prev t)) = 1 := Fin.ext (by show ((t : ℕ) - 1 - 1) % 4 = 1; omega)
  rw [entry_parts, outs_more m c t h (by omega), outs_more m c (prev t) (by omega) (by omega),
    outs_more m c (prev (prev t)) (by omega) (by omega), outs_start m c (prev (prev (prev t))) (by omega) (by omega), e3, e2, e1,
    rowAt_prev (prev (prev t)) (by omega), rowAt_prev (prev t) (by omega), rowAt_prev t (by omega),
    colAt_prev (prev (prev t)) (by omega), colAt_prev (prev t) (by omega), colAt_prev t (by omega)]

/-- At the last row block both blocks are the given ones from a block's first step on. -/
theorem outs_given (t : Fin cfg0.N) (h : 240 ≤ (t : ℕ)) (h0 : (t : ℕ) % 4 = 0) (a b : Fin 1024) :
    (outs m c t.val t.isLt).1 (ix2 a b) = last m c (ix2 a (colAt t b)) ∧ (outs m c t.val t.isLt).2 (ix2 a b) = lastB m c (ix2 a (colAt t b)) := by
  have c5 := (cond5 t).mpr ⟨h, h0⟩
  rw [outs_next m c t (by omega) (by omega)]
  constructor
  · show nextO m c t _ (ix2 a b) = _
    unfold nextO stepO
    rw [if_pos c5]
    exact read3 m c t h a b
  · show nextB m c t _ _ (ix2 a b) = _
    unfold nextB stepB
    rw [if_pos c5]
    exact read4 m c t h a b

theorem outs_stay (t : Fin cfg0.N) (h : 240 ≤ (t : ℕ)) (h0 : ¬ (t : ℕ) % 4 = 0) :
    outs m c t.val t.isLt = outs m c (prev t).val (prev t).isLt := by
  rw [outs_next m c t (by omega) (prev t).isLt, nextO_idle m c t ((idleO t).mpr ⟨h, h0⟩), nextB_idle m c t ((idleB t).mpr (by omega))]
  rfl

theorem outs_last (t : Fin cfg0.N) (h : 240 ≤ (t : ℕ)) (h3 : (t : ℕ) % 4 = 3) (a b : Fin 1024) :
    (outs m c t.val t.isLt).1 (ix2 a b) = last m c (ix2 a (colAt t b)) ∧ (outs m c t.val t.isLt).2 (ix2 a b) = lastB m c (ix2 a (colAt t b)) := by
  have p1 : ((prev t : Fin cfg0.N) : ℕ) = t - 1 := rfl
  have p2 : ((prev (prev t) : Fin cfg0.N) : ℕ) = t - 1 - 1 := rfl
  have p3 : ((prev (prev (prev t)) : Fin cfg0.N) : ℕ) = t - 1 - 1 - 1 := rfl
  rw [outs_stay m c t h (by omega), outs_stay m c (prev t) (by omega) (by omega), outs_stay m c (prev (prev t)) (by omega) (by omega)]
  have g := outs_given m c (prev (prev (prev t))) (by omega) (by omega) a b
  rwa [colAt_prev (prev (prev t)) (by omega), colAt_prev (prev t) (by omega), colAt_prev t (by omega)] at g

/-- The call's arrays: the rows of the first fifteen row blocks above the last one's. -/
def joined (z : Vec Ideal S1024x4096 .f32) (n : Fin 16384) (l : Fin 4096) : EReal :=
  if (n : ℕ) < 15360 then entry m c n l else z (ix2 (⟨(n : ℕ) - 15360, by omega⟩ : Fin 1024) l)

/-- A block that is the entry's above and a given block below is a block of the array. -/
theorem joined_at (z : Vec Ideal S1024x4096 .f32) (t : Fin cfg0.N) (a b : Fin 1024) (v : EReal)
    (h0 : (t : ℕ) < 240 → v = entry m c (rowAt t a) (colAt t b)) (h1 : 240 ≤ (t : ℕ) → v = z (ix2 a (colAt t b))) :
    v = joined m c z (rowAt t a) (colAt t b) := by
  have ht := lt256 t
  unfold joined
  by_cases h : (t : ℕ) < 240
  · rw [if_pos (by show 1024 * ((t : ℕ) / 16) + (a : ℕ) < 15360; omega)]
    exact h0 h
  · rw [if_neg (by show ¬ 1024 * ((t : ℕ) / 16) + (a : ℕ) < 15360; omega), h1 (Nat.not_lt.1 h)]
    refine congrArg (fun r : Fin 1024 => z (ix2 r (colAt t b))) (Fin.ext ?_)
    show (a : ℕ) = 1024 * ((t : ℕ) / 16) + (a : ℕ) - 15360
    omega

theorem stored5 (t : Fin cfg0.N) (h3 : (t : ℕ) % 4 = 3) (a b : Fin 1024) :
    (outs m c t.val t.isLt).1 (ix2 a b) = joined m c (last m c) (rowAt t a) (colAt t b) :=
  joined_at m c _ t a b _ (fun h => outs_entry m c t h h3 a b) (fun h => (outs_last m c t h h3 a b).1)

/-- The rounded block is the product's, whose rounding changes nothing here. -/
theorem stored6 (t : Fin cfg0.N) (h3 : (t : ℕ) % 4 = 3) (a b : Fin 1024) :
    (outs m c t.val t.isLt).2 (ix2 a b) = joined m c (lastB m c) (rowAt t a) (colAt t b) := by
  refine joined_at m c _ t a b _ (fun h => ?_) (fun h => (outs_last m c t h h3 a b).2)
  rw [← outs_entry m c t h h3 a b, ← step6 m c t (iblk m c 4 t) (fun h' => h'.2 h3)]
  unfold nextB stepB
  rw [if_neg (fun h' => by have := (cond5 t).mp h'; omega), if_pos ((cond1 t).mpr h), if_pos ((cond4 t).mpr h3)]
  exact pay3 _ a b

/-- The arrays the call leaves. -/
theorem result5 : (dats m 0 c).arrAt 5 cfg0.N = fun y : S16384x4096.Idx => joined m c (last m c) (y 0) (y 1) := by
  refine (dats m 0 c).arrAt_eq_of_covers 5 _ (by decide +kernel) fun t hf y => ?_
  blk_simp
  rw [after5]
  have ey : y = ix2 (n0 := 1024) (n1 := 1024) (y 0) (y 1) := by funext a; match a with | ⟨0, _⟩ => rfl | ⟨1, _⟩ => rfl
  have e0 : (win0_5.blk t).view.emb y 0 = rowAt t (y 0) := Fin.ext (by unfold rowAt; blk_simp [idx5 t]; exact congrArg (· + _) (Nat.mul_comm _ _))
  have e1 : (win0_5.blk t).view.emb y 1 = colAt t (y 1) := Fin.ext (by unfold colAt; blk_simp [idx5 t]; exact congrArg (· + _) (Nat.mul_comm _ _))
  rw [e0, e1]
  exact (congrArg _ ey).trans (stored5 m c t ((flush0_5 t).mp hf) (y 0) (y 1))

theorem result6 : (dats m 0 c).arrAt 6 cfg0.N = fun y : S16384x4096.Idx => joined m c (lastB m c) (y 0) (y 1) := by
  refine (dats m 0 c).arrAt_eq_of_covers 6 _ (by decide +kernel) fun t hf y => ?_
  blk_simp
  rw [after6]
  have ey : y = ix2 (n0 := 1024) (n1 := 1024) (y 0) (y 1) := by funext a; match a with | ⟨0, _⟩ => rfl | ⟨1, _⟩ => rfl
  have e0 : (win0_6.blk t).view.emb y 0 = rowAt t (y 0) := Fin.ext (by unfold rowAt; blk_simp [idx6 t]; exact congrArg (· + _) (Nat.mul_comm _ _))
  have e1 : (win0_6.blk t).view.emb y 1 = colAt t (y 1) := Fin.ext (by unfold colAt; blk_simp [idx6 t]; exact congrArg (· + _) (Nat.mul_comm _ _))
  rw [e0, e1]
  exact (congrArg _ ey).trans (stored6 m c t ((flush0_6 t).mp hf) (y 0) (y 1))

/-- The run with the two output arrays named. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩)
    (run_main m ρ)

end Cert.MmResIdeal.Down

end
-- ==== Proof.Down.Claims.lean ====
/- The down projection's claims: whatever the arrays hold, the kernel's two arrays are the reference's; both of the kernel's frames
   are its one run's. -/
module

public import proofs.«01_k».proof.Proof.Down.Kernel
public import proofs.«01_k».proof.Proof.Gen.MmRes
public import proofs.«01_k».proof.Proof.Gen.MmResRefIdeal.Read
public import proofs.«01_k».proof.Proof.Gen.MmResRefIdeal.Run
public import proofs.«01_k».proof.Defs
public import Idealize.ShloMosaic.Lib.Claim

@[expose] public section

set_option maxRecDepth 16384

noncomputable section

namespace Cert.MmResRefIdeal.Rows

open Cert.MmResRefIdeal Cert.MmResRefIdeal.Read Idealize.ShloMosaic

variable (x : (⟨S16384x11264, .bf16⟩ : BufTy).Contents (Elt Ideal)) (w : (⟨S11264x4096, .bf16⟩ : BufTy).Contents (Elt Ideal))
  (r : (⟨S16384x4096, .f32⟩ : BufTy).Contents (Elt Ideal)) (z : (⟨S1024x4096, .f32⟩ : BufTy).Contents (Elt Ideal))
  (z' : (⟨S1024x4096, .bf16⟩ : BufTy).Contents (Elt Ideal)) (n : Fin 16384) (l : Fin 4096)

/-- The residual and the product of the gated rows with the weight. -/
def entry : EReal := r (ix2 n l) + ∑ k, x (ix2 n k) * w (ix2 k l)

theorem first : val_main_v6 (F := Ideal) x w r z (ix2 n l)
    = if (n : ℕ) < 15360 then entry x w r n l else z (ix2 (⟨(n : ℕ) - 15360, by omega⟩ : Fin 1024) l) := by
  pointwise [val_main_v6, val_main_v5, val_main_v4, val_main_v3, val_main_v2, val_main_v1, val_main_v0]
  rfl

theorem second : val_main_v8 (F := Ideal) x w r z' (ix2 n l)
    = if (n : ℕ) < 15360 then entry x w r n l else z' (ix2 (⟨(n : ℕ) - 15360, by omega⟩ : Fin 1024) l) := by
  pointwise [val_main_v8, val_main_v7, val_main_v5, val_main_v4, val_main_v3, val_main_v2, val_main_v1, val_main_v0]
  rfl

end Cert.MmResRefIdeal.Rows

namespace Cert.MmRes

open Idealize.ShloMosaic Idealize.SL.Sem Cert.MmResIdeal.Down

variable (m : (ℓ : Loc Cert.MmResIdeal.nD Cert.MmResIdeal.τ Cert.MmResIdeal.sig) → Buf (Elt Ideal) ℓ) (c : Dev Cert.MmResIdeal.nD)

theorem agree5 : Cert.MmResRefIdeal.Read.val_main_v6 (F := Ideal) (gated m c) (weight m c) (resid m c) (last m c)
    = (dats m 0 c).arrAt 5 Cert.MmResIdeal.cfg0.N := by
  rw [result5]
  funext y
  have ey : y = ix2 (y 0) (y 1) := by funext a; match a with | ⟨0, _⟩ => rfl | ⟨1, _⟩ => rfl
  exact (congrArg _ ey).trans (Cert.MmResRefIdeal.Rows.first _ _ _ _ (y 0) (y 1))

theorem agree6 : Cert.MmResRefIdeal.Read.val_main_v8 (F := Ideal) (gated m c) (weight m c) (resid m c) (lastB m c)
    = (dats m 0 c).arrAt 6 Cert.MmResIdeal.cfg0.N := by
  rw [result6]
  funext y
  have ey : y = ix2 (y 0) (y 1) := by funext a; match a with | ⟨0, _⟩ => rfl | ⟨1, _⟩ => rfl
  exact (congrArg _ ey).trans (Cert.MmResRefIdeal.Rows.second _ _ _ _ (y 0) (y 1))

theorem algebraic : Cert.algebraic_MmResIdeal_MmResRefIdeal := by
  pair_intro
  · run_from Cert.MmResIdeal.Down.run_blocks m g
  · run_from Cert.MmResRefIdeal.Value.run m' g'
    · exact (Cert.MmResRefIdeal.Read.val_main_v6_eq (F := Ideal) _ _ _ _).trans (agree5 m c)
    · obtain ⟨a0, a1, a2, a3, a4⟩ := hagree c
      refine (Cert.MmResRefIdeal.Read.val_main_v8_eq (F := Ideal) _ _ _ _).trans ?_
      simp only [a0, a1, a2, a3, a4]
      exact agree6 m c

/-- The reference runs host operations alone and has no semaphore. -/
theorem frame_reference : Cert.quiescent_MmResRefIdeal := fun m ρ _ =>
  (θ_run Cert.MmResRefIdeal.defs _ _).mono (fun r h => ⟨fun c => (h c).2.2, sem_eq_zero_of_no_sems (by decide) r.2⟩)
    (Cert.MmResRefIdeal.Value.run (F := Ideal) m ρ)

/-- The idealized kernel's frame. -/
theorem frame_ideal : Cert.quiescent_MmResIdeal := fun m ρ _ => frame (F := Ideal) m ρ

/-- The two programs' bodies have the same text. -/
theorem defs₀_eq : Cert.MmRes.defs₀ (F := Bits) = Cert.MmResIdeal.defs₀ (F := Bits) := by
  unfold Cert.MmRes.defs₀ Cert.MmResIdeal.defs₀
  refine congrArg _ ?_
  funext l a
  match l, a with
  | 0, (_, _) => rfl

theorem defs_eq : Cert.MmRes.defs (F := Bits) = Cert.MmResIdeal.defs (F := Bits) := congrArg (Pipeline.defs Cert.MmRes.pcfgs) defs₀_eq

/-- The kernel's frame: the two programs have the same text, so the run is the same at its scalars. -/
theorem frame_kernel : Cert.quiescent_MmRes := fun m ρ _ => by
  rw [defs_eq]
  exact (θ_run Cert.MmResIdeal.defs _ _).mono (fun _ h => h) (frame (F := Bits) m ρ)

end Cert.MmRes

end
-- ==== Proof.Conv.Kernel.lean ====
/- The short gated convolution's kernel: each point stages 512 rows of the gate and of the two factors, and the eight rows of the
   factors before them, which the first point of a batch multiplies by zero. -/
module

public import proofs.«01_k».proof.Proof.Gen.SconvIdeal.Value
public import Idealize.ShloMosaic.Lib.KernelVsHost
public import Idealize.ShloMosaic.Lib.Pipeline.ValueKit
public import Idealize.ShloMosaic.Lib.Pointwise
public import Idealize.ShloMosaic.Lib.VecWindow

@[expose] public section

set_option maxRecDepth 16384

noncomputable section

namespace Cert.SconvIdeal.Conv

open Cert.SconvIdeal Cert.SconvIdeal.Gen Idealize.ShloMosaic Idealize.ShloMosaic.TcCoe Idealize.SL.Sem

/-- The grid step is the first of its batch. -/
def first (i : grid0.Coords) : BitVec 1 :=
  Scalar.cmpi .eq (Scalar.select (Scalar.andi (Scalar.xori
      (Scalar.cmpi .slt (Scalar.remsi (BitVec.ofNat 32 (i 0).val) (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi (BitVec.ofNat 32 (i 0).val) (Scalar.select (Scalar.cmpi .eq 16#32 0#32) 1#32 16#32)) 0#32))
    (Scalar.addi (Scalar.remsi (BitVec.ofNat 32 (i 0).val) (Scalar.select (Scalar.cmpi .eq 16#32 0#32) 1#32 16#32)) (Scalar.select (Scalar.cmpi .eq 16#32 0#32) 1#32 16#32))
    (Scalar.remsi (BitVec.ofNat 32 (i 0).val) (Scalar.select (Scalar.cmpi .eq 16#32 0#32) 1#32 16#32))) 0#32

theorem first_at : ∀ t : Fin cfg0.N, first (grid0.coords t) = if (t : ℕ) % 16 = 0 then 1#1 else 0#1 :=
  (by decide +kernel : ∀ t : Fin grid0.N, first (grid0.coords t) = if (t : ℕ) % 16 = 0 then 1#1 else 0#1)

/-- The products of the staged rows, the eight before them first. -/
def prods (i : grid0.Coords) (x y : Vec Ideal S512x1024 .f32) (xh yh : Vec Ideal S8x1024 .f32) : FVec Ideal S520x1024 .f32 :=
  concatenate S520x1024 0 [⟨S8x1024, mulf (mulf xh yh) (broadcast S8x1024 (Scalar.select (first i) (Scalar.ofBits .f32 0x00000000#32) (Scalar.ofBits .f32 0x3F800000#32)))⟩,
    ⟨S512x1024, mulf x y⟩] concatenates_S8x1024_S512x1024_S520x1024_d0

theorem prods_at (t : Fin cfg0.N) (x y : Vec Ideal S512x1024 .f32) (xh yh : Vec Ideal S8x1024 .f32) (r : Fin 520) (b : Fin 1024) :
    prods (grid0.coords t) x y xh yh (ix2 r b)
      = if h : (r : ℕ) < 8 then (if (t : ℕ) % 16 = 0 then 0 else xh (ix2 ⟨r, h⟩ b) * yh (ix2 ⟨r, h⟩ b))
        else x (ix2 ⟨r - 8, by omega⟩ b) * y (ix2 ⟨r - 8, by omega⟩ b) := by
  unfold prods
  rw [first_at]
  pointwise
  split
  · split
    · rfl
    · rfl
  · rfl

/-- A staged tap: the products moved down `d` rows. -/
def moved (p : FVec Ideal S520x1024 .f32) (d : BitVec 32) : FVec Ideal S512x1024 .f32 :=
  extractStridedSlice S512x1024 ![8, 0] (dynamicRotate 0 d none p rotates_S520x1024_d0) slices_S520x1024_o8_0_S512x1024

theorem moved_at (p : FVec Ideal S520x1024 .f32) (d : BitVec 32) (hd : d.toNat ≤ 8) (a : Fin 512) (b : Fin 1024) :
    moved p d (ix2 a b) = p (ix2 ⟨(a : ℕ) + 8 - d.toNat, by omega⟩ b) := by
  unfold moved
  rw [extractStridedSlice_apply ![8, 0] _ slices_S520x1024_o8_0_S512x1024 (ix2 a b) (ix2 (⟨(a : ℕ) + 8, by omega⟩ : Fin 520) b)
    (fun x => match x with
      | ⟨0, _⟩ => by show (a : ℕ) + 8 = 8 + (a : ℕ); omega
      | ⟨1, _⟩ => by show (b : ℕ) = 0 + (b : ℕ); omega)]
  refine dynamicRotate_apply (0 : Fin 2) d p _ _ _ fun x => ?_
  match x with
  | ⟨0, _⟩ => show (a : ℕ) + 8 - d.toNat = ((a : ℕ) + 8 + 520 - d.toNat % 520) % 520; omega
  | ⟨1, _⟩ => rfl

theorem pay2 (i : grid0.Coords) (x y : Vec Ideal S512x1024 .f32) (xh yh : Vec Ideal S8x1024 .f32) (w : Vec Ideal S3x1024 .f32)
    (a : Fin 512) (b : Fin 1024) :
    k0_pay2 (F := Ideal) i x y xh yh w (ix2 a b)
      = moved (prods i x y xh yh) 2#32 (ix2 a b) * w (ix2 (0 : Fin 3) b) + moved (prods i x y xh yh) 1#32 (ix2 a b) * w (ix2 (1 : Fin 3) b)
        + prods i x y xh yh (ix2 (⟨(a : ℕ) + 8, by omega⟩ : Fin 520) b) * w (ix2 (2 : Fin 3) b) := by
  have e : k0_pay2 (F := Ideal) i x y xh yh w
      = addf (addf
          (mulf (moved (prods i x y xh yh) 2#32) (broadcastTo S512x1024 (extractStridedSlice S1x1024 ![0, 0] w slices_S3x1024_o0_0_S1x1024) broadcasts_S1x1024_S512x1024))
          (mulf (moved (prods i x y xh yh) 1#32) (broadcastTo S512x1024 (extractStridedSlice S1x1024 ![1, 0] w slices_S3x1024_o1_0_S1x1024) broadcasts_S1x1024_S512x1024)))
        (mulf (extractStridedSlice S512x1024 ![8, 0] (prods i x y xh yh) slices_S520x1024_o8_0_S512x1024)
          (broadcastTo S512x1024 (extractStridedSlice S1x1024 ![2, 0] w slices_S3x1024_o2_0_S1x1024) broadcasts_S1x1024_S512x1024)) := rfl
  rw [e]
  generalize moved (prods i x y xh yh) 2#32 = p2
  generalize moved (prods i x y xh yh) 1#32 = p1
  generalize prods i x y xh yh = p0
  pointwise
  rw [show (⟨8 + (a : ℕ), by omega⟩ : Fin 520) = ⟨(a : ℕ) + 8, by omega⟩ from Fin.ext (Nat.add_comm _ _)]

theorem pay1 (v g : Vec Ideal S512x1024 .f32) (y : S512x1024.Idx) : k0_pay1 (F := Ideal) v g y = g y * v y := by
  pointwise [k0_pay1]

variable (m : (ℓ : Loc nD τ sig) → Buf (Elt Ideal) ℓ) (c : Dev nD)

theorem lt32 (t : Fin cfg0.N) : (t : ℕ) < 32 := t.isLt

theorem idx0 : ∀ t : Fin cfg0.N, win0_0.index t = ![(t : ℕ), 7] := (by decide +kernel : ∀ t : Fin grid0.N, _)
theorem idx1 : ∀ t : Fin cfg0.N, win0_1.index t = ![(t : ℕ), 8] := (by decide +kernel : ∀ t : Fin grid0.N, _)
theorem idx2 : ∀ t : Fin cfg0.N, win0_2.index t = ![(t : ℕ), 9] := (by decide +kernel : ∀ t : Fin grid0.N, _)
theorem idx3 : ∀ t : Fin cfg0.N, win0_3.index t = ![64 * (t : ℕ) - 1, 8] := (by decide +kernel : ∀ t : Fin grid0.N, _)
theorem idx4 : ∀ t : Fin cfg0.N, win0_4.index t = ![64 * (t : ℕ) - 1, 9] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(t : ℕ), 0] := (by decide +kernel : ∀ t : Fin grid0.N, _)

/-- The packed projection and the taps' weights, as the call finds them. -/
def proj : Vec Ideal S16384x11776 .f32 := m ((c : Thread nD τ).loc main_arg0)
def taps : Vec Ideal S3x1024 .f32 := m ((c : Thread nD τ).loc main_arg1)

/-- A staged row in the array, a row of the eight before, and a column of the band that begins at `o`. -/
def rowAt (t : Fin cfg0.N) (a : Fin 512) : Fin 16384 := ⟨512 * (t : ℕ) + a, by have := lt32 t; omega⟩
def haloAt (t : Fin cfg0.N) (a : Fin 8) : Fin 16384 := ⟨8 * (64 * (t : ℕ) - 1) + a, by have := lt32 t; omega⟩
def lane (o : ℕ) (ho : o + 1024 ≤ 11776) (b : Fin 1024) : Fin 11776 := ⟨o + b, by omega⟩

theorem read0 (t : Fin cfg0.N) (a : Fin 512) (b : Fin 1024) : X0_0 m c t (ix2 a b) = proj m c (ix2 (rowAt t a) (lane 7168 (by omega) b)) := by
  unfold X0_0 Pipeline.Window.fill
  rw [dif_pos (moved0_0 t _)]
  blk_simp [iblk]
  rw [V_main_arg0]
  unfold proj rowAt lane
  refine congrArg _ ?_
  blk_ext [idx0 t]

theorem read1 (t : Fin cfg0.N) (a : Fin 512) (b : Fin 1024) : X0_1 m c t (ix2 a b) = proj m c (ix2 (rowAt t a) (lane 8192 (by omega) b)) := by
  unfold X0_1 Pipeline.Window.fill
  rw [dif_pos (moved0_1 t _)]
  blk_simp [iblk]
  rw [V_main_arg0]
  unfold proj rowAt lane
  refine congrArg _ ?_
  blk_ext [idx1 t]

theorem read2 (t : Fin cfg0.N) (a : Fin 512) (b : Fin 1024) : X0_2 m c t (ix2 a b) = proj m c (ix2 (rowAt t a) (lane 9216 (by omega) b)) := by
  unfold X0_2 Pipeline.Window.fill
  rw [dif_pos (moved0_2 t _)]
  blk_simp [iblk]
  rw [V_main_arg0]
  unfold proj rowAt lane
  refine congrArg _ ?_
  blk_ext [idx2 t]

theorem read3 (t : Fin cfg0.N) (a : Fin 8) (b : Fin 1024) : X0_3 m c t (ix2 a b) = proj m c (ix2 (haloAt t a) (lane 8192 (by omega) b)) := by
  unfold X0_3 Pipeline.Window.fill
  rw [dif_pos (moved0_3 t _)]
  blk_simp [iblk]
  rw [V_main_arg0]
  unfold proj haloAt lane
  refine congrArg _ ?_
  blk_ext [idx3 t]

theorem read4 (t : Fin cfg0.N) (a : Fin 8) (b : Fin 1024) : X0_4 m c t (ix2 a b) = proj m c (ix2 (haloAt t a) (lane 9216 (by omega) b)) := by
  unfold X0_4 Pipeline.Window.fill
  rw [dif_pos (moved0_4 t _)]
  blk_simp [iblk]
  rw [V_main_arg0]
  unfold proj haloAt lane
  refine congrArg _ ?_
  blk_ext [idx4 t]

theorem read5 (t : Fin cfg0.N) (a : Fin 3) (b : Fin 1024) : iblk m c 5 t (ix2 a b) = taps m c (ix2 a b) := by
  blk_simp [iblk]
  rw [V_main_arg1]
  unfold taps
  refine congrArg _ ?_
  blk_ext [idx5 t]

/-- The product of the two factors `d` rows before row `n`, zero before the batch of 8192 rows begins. -/
def back (X : Vec Ideal S16384x11776 .f32) (n : Fin 16384) (b : Fin 1024) (d : ℕ) : EReal :=
  if (n : ℕ) % 8192 < d then 0
  else X (ix2 (⟨(n : ℕ) - d, by omega⟩ : Fin 16384) (lane 8192 (by omega) b)) * X (ix2 (⟨(n : ℕ) - d, by omega⟩ : Fin 16384) (lane 9216 (by omega) b))

/-- The gate times the three taps. -/
def entry (X : Vec Ideal S16384x11776 .f32) (W : Vec Ideal S3x1024 .f32) (n : Fin 16384) (b : Fin 1024) : EReal :=
  X (ix2 n (lane 7168 (by omega) b))
    * (back X n b 2 * W (ix2 (0 : Fin 3) b) + back X n b 1 * W (ix2 (1 : Fin 3) b) + back X n b 0 * W (ix2 (2 : Fin 3) b))

/-- The staged products are those of the rows before. -/
theorem staged (t : Fin cfg0.N) (a : Fin 512) (b : Fin 1024) (d : ℕ) (hd : d ≤ 8) :
    prods (grid0.coords t) (X0_1 m c t) (X0_2 m c t) (X0_3 m c t) (X0_4 m c t) (ix2 (⟨(a : ℕ) + 8 - d, by omega⟩ : Fin 520) b)
      = back (proj m c) (rowAt t a) b d := by
  have ht := lt32 t
  rw [prods_at]
  unfold back
  have en : ((rowAt t a : Fin 16384) : ℕ) = 512 * (t : ℕ) + a := rfl
  by_cases h : (a : ℕ) < d
  · rw [dif_pos (show (a : ℕ) + 8 - d < 8 by omega)]
    by_cases h0 : (t : ℕ) % 16 = 0
    · rw [if_pos h0, if_pos (by rw [en]; omega)]
    · rw [if_neg h0, if_neg (by rw [en]; omega), read3, read4]
      have er : haloAt t ⟨(a : ℕ) + 8 - d, by omega⟩ = ⟨((rowAt t a : Fin 16384) : ℕ) - d, by omega⟩ := Fin.ext (by
        show 8 * (64 * (t : ℕ) - 1) + ((a : ℕ) + 8 - d) = 512 * (t : ℕ) + a - d
        omega)
      rw [er]
  · rw [dif_neg (show ¬ (a : ℕ) + 8 - d < 8 by omega), if_neg (by rw [en]; omega), read1, read2]
    have er : rowAt t ⟨(a : ℕ) + 8 - d - 8, by omega⟩ = ⟨((rowAt t a : Fin 16384) : ℕ) - d, by omega⟩ := Fin.ext (by
      show 512 * (t : ℕ) + ((a : ℕ) + 8 - d - 8) = 512 * (t : ℕ) + a - d; omega)
    rw [er]

/-- The stored block at a point. -/
theorem point (t : Fin cfg0.N) (a : Fin 512) (b : Fin 1024) : outsAt0 m c t (ix2 a b) = entry (proj m c) (taps m c) (rowAt t a) b := by
  have e : outsAt0 m c t (ix2 a b)
      = k0_pay1 (F := Ideal) (k0_pay2 (F := Ideal) (grid0.coords t) (X0_1 m c t) (X0_2 m c t) (X0_3 m c t) (X0_4 m c t) (iblk m c 5 t)) (X0_0 m c t) (ix2 a b) := by
    unfold outsAt0
    frame_out
  rw [e, pay1, pay2, moved_at _ _ (by decide), moved_at _ _ (by decide), read0]
  have e2 := staged m c t a b 2 (by omega)
  have e1 := staged m c t a b 1 (by omega)
  have e0 := staged m c t a b 0 (by omega)
  unfold entry
  rw [← e2, ← e1, ← e0, ← read5 m c t, ← read5 m c t, ← read5 m c t]
  rfl

/-- The array the call leaves. -/
theorem result : (dats m 0 c).arrAt 6 cfg0.N = fun y : S16384x1024.Idx => entry (proj m c) (taps m c) (y 0) (y 1) := by
  refine (dats m 0 c).arrAt_eq_of_covers 6 _ (by decide +kernel) fun t hf y => ?_
  blk_simp
  rw [after0_6]
  have ey : y = ix2 (n0 := 512) (n1 := 1024) (y 0) (y 1) := by funext a; match a with | ⟨0, _⟩ => rfl | ⟨1, _⟩ => rfl
  have e0 : (win0_6.blk t).view.emb y 0 = rowAt t (y 0) := Fin.ext (by unfold rowAt; blk_simp [idx6 t]; exact congrArg (· + _) (Nat.mul_comm _ _))
  have e1 : (win0_6.blk t).view.emb y 1 = y 1 := Fin.ext (by blk_simp [idx6 t])
  rw [e0, e1]
  exact (congrArg _ ey).trans (point m c t (y 0) (y 1))

end Cert.SconvIdeal.Conv

end
-- ==== Proof.Conv.Claims.lean ====
/- The short gated convolution's claims: whatever the arrays hold, the kernel's array is the reference's. -/
module

public import proofs.«01_k».proof.Proof.Conv.Kernel
public import proofs.«01_k».proof.Proof.Gen.SconvRefIdeal.Read
public import proofs.«01_k».proof.Proof.Gen.SconvRefIdeal.Run
public import proofs.«01_k».proof.Defs
public import Idealize.ShloMosaic.Lib.Claim

@[expose] public section

set_option maxRecDepth 16384

noncomputable section

namespace Cert.SconvRefIdeal.Conv

open Cert.SconvRefIdeal Cert.SconvRefIdeal.Gen Cert.SconvRefIdeal.Read Idealize.ShloMosaic
open Cert.SconvIdeal.Conv (lane back entry)

variable (x0 : (⟨S16384x11776, .f32⟩ : BufTy).Contents (Elt Ideal)) (x1 : (⟨S3x1024, .f32⟩ : BufTy).Contents (Elt Ideal))

theorem pad_zero (i : S_.Idx) : val_main_call0_v0 (F := Ideal) i = 0 := by
  rw [val_main_call0_v0_apply, val_main_c_apply]
  show (((0#32).toInt : ℝ) : EReal) = 0
  simp

/-- The product of the two factors at a row of a batch. -/
theorem v6_at (b : Fin 2) (s : Fin 8192) (l : Fin 1024) :
    val_main_v6 (F := Ideal) x0 (ix3 b s l)
      = x0 (ix2 (⟨b * 8192 + s, by omega⟩ : Fin 16384) (lane 8192 (by omega) l)) * x0 (ix2 (⟨b * 8192 + s, by omega⟩ : Fin 16384) (lane 9216 (by omega) l)) := by
  pointwise [val_main_v6, val_main_v5, val_main_v4, val_main_v3, val_main_v2]
  rfl

/-- Two rows of zero before each batch. -/
theorem v7_at (b : Fin 2) (s : Fin 8194) (l : Fin 1024) :
    val_main_v7 (F := Ideal) x0 (ix3 b s l) = if h : (s : ℕ) < 2 then 0 else val_main_v6 (F := Ideal) x0 (ix3 b ⟨s - 2, by omega⟩ l) := by
  unfold val_main_v7
  split
  · rename_i h
    exact (pad_apply_of_not_inside _ _ _ _ _ _ _ _ (1 : Fin 3) (fun hh => by have h1 : 2 ≤ (s : ℕ) := hh.1; omega)).trans (pad_zero _)
  · rename_i h
    exact pad_apply_of_inside _ _ _ _ _ _ _ _ _ (fun a => match a with
      | ⟨0, _⟩ => by show (b : ℕ) = 0 + (b : ℕ) * (0 + 1); omega
      | ⟨1, _⟩ => by show (s : ℕ) = 2 + ((s : ℕ) - 2) * (0 + 1); omega
      | ⟨2, _⟩ => by show (l : ℕ) = 0 + (l : ℕ) * (0 + 1); omega)

/-- A padded row is the product some rows back. -/
theorem back_eq (n : Fin 16384) (l : Fin 1024) (d : ℕ) (hd : d ≤ 2) :
    val_main_v7 (F := Ideal) x0 (ix3 (⟨(n : ℕ) / 8192, by omega⟩ : Fin 2) (⟨(n : ℕ) % 8192 + (2 - d), by omega⟩ : Fin 8194) l) = back x0 n l d := by
  rw [v7_at]
  unfold back
  by_cases h : (n : ℕ) % 8192 < d
  · rw [dif_pos (by show (n : ℕ) % 8192 + (2 - d) < 2; omega), if_pos h]
  · rw [dif_neg (by show ¬ (n : ℕ) % 8192 + (2 - d) < 2; omega), if_neg h, v6_at]
    have er : (⟨(n : ℕ) / 8192 * 8192 + ((n : ℕ) % 8192 + (2 - d) - 2), by omega⟩ : Fin 16384) = ⟨(n : ℕ) - d, by omega⟩ :=
      Fin.ext (by show (n : ℕ) / 8192 * 8192 + ((n : ℕ) % 8192 + (2 - d) - 2) = (n : ℕ) - d; omega)
    exact congrArg (fun r : Fin 16384 => x0 (ix2 r (lane 8192 (by omega) l)) * x0 (ix2 r (lane 9216 (by omega) l))) er

theorem result (n : Fin 16384) (l : Fin 1024) : val_main_v30 (F := Ideal) x0 x1 (ix2 n l) = entry x0 x1 n l := by
  unfold entry
  rw [← back_eq x0 n l 2 (by omega), ← back_eq x0 n l 1 (by omega), ← back_eq x0 n l 0 (by omega)]
  unfold val_main_v30 val_main_v29 val_main_v28 val_main_v27 val_main_v26 val_main_v21 val_main_v20 val_main_v19 val_main_v14 val_main_v13 val_main_v8
  generalize val_main_v7 (F := Ideal) x0 = Y
  pointwise [val_main_v25, val_main_v24, val_main_v23, val_main_v22, val_main_v18, val_main_v17, val_main_v16, val_main_v15, val_main_v12, val_main_v11,
    val_main_v10, val_main_v9, val_main_v1, val_main_v0]
  simp only [Nat.add_comm 1, Nat.add_comm 2]
  rfl

end Cert.SconvRefIdeal.Conv

namespace Cert.Sconv

open Idealize.ShloMosaic Idealize.SL.Sem Cert.SconvIdeal.Conv

variable (m : (ℓ : Loc Cert.SconvIdeal.nD Cert.SconvIdeal.τ Cert.SconvIdeal.sig) → Buf (Elt Ideal) ℓ) (c : Dev Cert.SconvIdeal.nD)

theorem agree : Cert.SconvRefIdeal.Read.val_main_v30 (F := Ideal) (proj m c) (taps m c)
    = (Cert.SconvIdeal.Gen.dats m 0 c).arrAt 6 Cert.SconvIdeal.cfg0.N := by
  rw [result]
  funext y
  have ey : y = ix2 (y 0) (y 1) := by funext a; match a with | ⟨0, _⟩ => rfl | ⟨1, _⟩ => rfl
  exact (congrArg _ ey).trans (Cert.SconvRefIdeal.Conv.result _ _ (y 0) (y 1))

theorem algebraic : Cert.algebraic_SconvIdeal_SconvRefIdeal := by
  pair_intro
  · run_from Cert.SconvIdeal.Value.run_blocks m g
  · run_from Cert.SconvRefIdeal.Value.run m' g'
    exact (Cert.SconvRefIdeal.Read.val_main_v30_eq (F := Ideal) _ _).trans (agree m c)

/-- The reference runs host operations alone and has no semaphore. -/
theorem frame_reference : Cert.quiescent_SconvRefIdeal := fun m ρ _ =>
  (θ_run Cert.SconvRefIdeal.defs _ _).mono (fun r h => ⟨fun c => (h c).2, sem_eq_zero_of_no_sems (by decide) r.2⟩)
    (Cert.SconvRefIdeal.Value.run (F := Ideal) m ρ)

end Cert.Sconv

end
-- ==== Proof.Pack.Kernel.lean ====
/- The packing of the input projection's weights: a block of 256 rows is the transposed weights' block times the gain, or 16 rows
   further on past the columns that move to the end, or those 16 columns with zeros after them. -/
module

public import proofs.«01_k».proof.Proof.Gen.RegroupIdeal.Value
public import Idealize.ShloMosaic.Lib.IdealHost
public import Idealize.ShloMosaic.Lib.KernelVsHost
public import Idealize.ShloMosaic.Lib.Pipeline.ValueKit
public import Idealize.ShloMosaic.Lib.Pointwise
public import Idealize.ShloMosaic.Lib.VecWindow

@[expose] public section

set_option maxRecDepth 16384

noncomputable section

namespace Cert.RegroupIdeal.Pack

open Cert.RegroupIdeal Cert.RegroupIdeal.Gen Idealize.ShloMosaic Idealize.ShloMosaic.TcCoe Idealize.SL.Sem

theorem pay2 (g : Vec Ideal S1x1x4096 .f32) (x : Vec Ideal S1x256x4096 .f32) (a : Fin 256) (k : Fin 4096) :
    k0_pay2 (F := Ideal) g x (ix3 0 a k) = x (ix3 0 a k) * g (ix3 0 0 k) := by
  pointwise [k0_pay2, k0_pay1]

theorem pay3 (g : Vec Ideal S1x1x4096 .f32) (x : Vec Ideal S1x240x4096 .f32) (y : Vec Ideal S1x16x4096 .f32) (a : Fin 256) (k : Fin 4096) :
    k0_pay3 (F := Ideal) g x y (ix3 0 a k)
      = (if h : (a : ℕ) < 240 then x (ix3 0 ⟨a, h⟩ k) else y (ix3 0 ⟨a - 240, by omega⟩ k)) * g (ix3 0 0 k) := by
  pointwise [k0_pay3, k0_pay1]

theorem pay4 (g : Vec Ideal S1x1x4096 .f32) (x : Vec Ideal S1x16x4096 .f32) (a : Fin 256) (k : Fin 4096) :
    k0_pay4 (F := Ideal) g x (ix3 0 a k) = if h : (a : ℕ) < 16 then x (ix3 0 ⟨a, h⟩ k) * g (ix3 0 0 k) else 0 := by
  pointwise [k0_pay4, k0_pay1]

variable (m : (ℓ : Loc nD τ sig) → Buf (Elt Ideal) ℓ) (c : Dev nD)

theorem lt92 (t : Fin cfg0.N) : (t : ℕ) < 92 := t.isLt

theorem idx0 : ∀ t : Fin cfg0.N, win0_0.index t = ![(t : ℕ) / 46, min ((t : ℕ) % 46) 44, 0] := (by decide +kernel : ∀ t : Fin grid0.N, _)
theorem idx1 : ∀ t : Fin cfg0.N, win0_1.index t = ![(t : ℕ) / 46, min (16 * ((t : ℕ) % 46 + 1)) 720, 0] := (by decide +kernel : ∀ t : Fin grid0.N, _)
theorem idx2 : ∀ t : Fin cfg0.N, win0_2.index t = ![(t : ℕ) / 46, 384, 0] := (by decide +kernel : ∀ t : Fin grid0.N, _)
theorem idx3 : ∀ t : Fin cfg0.N, win0_3.index t = ![(t : ℕ) / 46, 0, 0] := (by decide +kernel : ∀ t : Fin grid0.N, _)
theorem idx4 : ∀ t : Fin cfg0.N, win0_4.index t = ![(t : ℕ) / 46, (t : ℕ) % 46, 0] := (by decide +kernel : ∀ t : Fin grid0.N, _)

/-- The layers' weights and gains, as the call finds them. -/
def weights : Vec Ideal S2x4096x11536 .f32 := m ((c : Thread nD τ).loc main_arg0)
def gains : Vec Ideal S2x4096 .f32 := m ((c : Thread nD τ).loc main_arg1)

theorem turned_at (l : Fin 2) (n : Fin 11536) (k : Fin 4096) : V m c main_v0 (ix3 l n k) = weights m c (ix3 l k n) := by
  have e : V m c main_v0 = transpose S2x11536x4096 [0, 2, 1] (m ((c : Thread nD τ).loc main_arg0)) transposes_S2x4096x11536_S2x11536x4096_0_2_1 := by
    unfold V; after_results
  rw [e]
  unfold weights
  pointwise

theorem gains_at (l : Fin 2) (k : Fin 4096) : V m c main_v1 (ix3 l 0 k) = gains m c (ix2 l k) := by
  have e : V m c main_v1 = broadcastInDim S2x1x4096 ![0, 2] bcast_S2x4096_S2x1x4096_0_2 (m ((c : Thread nD τ).loc main_arg1)) := by
    unfold V; after_results
  rw [e]
  unfold gains
  pointwise

/-- The layer of a point, and the row of its block in the packed array. -/
def layerAt (t : Fin cfg0.N) : Fin 2 := ⟨(t : ℕ) / 46, by have := lt92 t; omega⟩
def rowAt (t : Fin cfg0.N) (a : Fin 256) : Fin 11776 := ⟨256 * ((t : ℕ) % 46) + a, by omega⟩

theorem read0 (t : Fin cfg0.N) (a : Fin 256) (k : Fin 4096) :
    X0_0 m c t (ix3 0 a k) = weights m c (ix3 (layerAt t) k ⟨256 * min ((t : ℕ) % 46) 44 + a, by omega⟩) := by
  refine Eq.trans ?_ (turned_at m c (layerAt t) ⟨256 * min ((t : ℕ) % 46) 44 + a, by omega⟩ k)
  unfold X0_0 Pipeline.Window.fill
  rw [dif_pos (moved0_0 t _)]
  blk_simp [iblk]
  unfold layerAt
  refine congrArg (V m c main_v0) ?_
  blk_ext [idx0 t]

theorem read1 (t : Fin cfg0.N) (a : Fin 16) (k : Fin 4096) :
    iblk m c 1 t (ix3 0 a k) = weights m c (ix3 (layerAt t) k ⟨16 * min (16 * ((t : ℕ) % 46 + 1)) 720 + a, by omega⟩) := by
  refine Eq.trans ?_ (turned_at m c (layerAt t) ⟨16 * min (16 * ((t : ℕ) % 46 + 1)) 720 + a, by omega⟩ k)
  blk_simp [iblk]
  unfold layerAt
  refine congrArg (V m c main_v0) ?_
  blk_ext [idx1 t]

theorem read2 (t : Fin cfg0.N) (a : Fin 16) (k : Fin 4096) :
    iblk m c 2 t (ix3 0 a k) = weights m c (ix3 (layerAt t) k ⟨6144 + a, by omega⟩) := by
  refine Eq.trans ?_ (turned_at m c (layerAt t) ⟨6144 + a, by omega⟩ k)
  blk_simp [iblk]
  unfold layerAt
  refine congrArg (V m c main_v0) ?_
  blk_ext [idx2 t]

theorem read3 (t : Fin cfg0.N) (k : Fin 4096) : iblk m c 3 t (ix3 0 0 k) = gains m c (ix2 (layerAt t) k) := by
  refine Eq.trans ?_ (gains_at m c (layerAt t) k)
  blk_simp [iblk]
  unfold layerAt
  refine congrArg (V m c main_v1) ?_
  blk_ext [idx3 t]

/-- The packed weights at a layer, a row and a column. -/
def packed (X : Vec Ideal S2x4096x11536 .f32) (G : Vec Ideal S2x4096 .f32) (l : Fin 2) (n : Fin 11776) (k : Fin 4096) : EReal :=
  if h : (n : ℕ) < 6144 then X (ix3 l k ⟨n, by omega⟩) * G (ix2 l k)
  else if h : (n : ℕ) < 11520 then X (ix3 l k ⟨n + 16, by omega⟩) * G (ix2 l k)
  else if h : (n : ℕ) < 11536 then X (ix3 l k ⟨n - 5376, by omega⟩) * G (ix2 l k)
  else 0

/-- The stored block at a point. -/
theorem stored (t : Fin cfg0.N) (a : Fin 256) (k : Fin 4096) :
    outsAt0 m c t.val t.isLt (ix3 0 a k) = packed (weights m c) (gains m c) (layerAt t) (rowAt t a) k := by
  have ht := lt92 t
  have en : ((rowAt t a : Fin 11776) : ℕ) = 256 * ((t : ℕ) % 46) + a := rfl
  have col : ∀ (p q : ℕ) (hp : p < 11536) (hq : q < 11536), p = q →
      weights m c (ix3 (layerAt t) k ⟨p, hp⟩) * gains m c (ix2 (layerAt t) k)
        = weights m c (ix3 (layerAt t) k ⟨q, hq⟩) * gains m c (ix2 (layerAt t) k) := fun p q hp hq e => by subst e; rfl
  unfold packed
  by_cases h0 : (t : ℕ) % 46 ≤ 23
  · rw [outsAt0_A m c t h0 (by omega) (by omega)]
    frame_out
    rw [dif_pos (show ((rowAt t a : Fin 11776) : ℕ) < 6144 by omega), pay2, read0, read3]
    exact col _ _ _ _ (by rw [en]; omega)
  · rw [dif_neg (show ¬ ((rowAt t a : Fin 11776) : ℕ) < 6144 by omega)]
    by_cases h1 : (t : ℕ) % 46 ≤ 44
    · rw [outsAt0_B m c t h0 (by omega) (by omega)]
      frame_out
      rw [dif_pos (show ((rowAt t a : Fin 11776) : ℕ) < 11520 by omega), pay3, read3]
      by_cases h : (a : ℕ) < 240
      · rw [dif_pos h]
        rw [show View.ld (X0_0 m c t) (Rect.unit ![0, 16, 0] ![1, 240, 4096] inb_S1x256x4096_S1x240x4096_0_16_0) (ix3 0 ⟨a, h⟩ k)
            = X0_0 m c t (ix3 0 ⟨16 + a, by omega⟩ k) from View.ld_unit_apply_of (S := S1x256x4096) _ ![0, 16, 0] _ _ _ _ fun x => by
              match x with
              | ⟨0, _⟩ => rfl
              | ⟨1, _⟩ => rfl
              | ⟨2, _⟩ => exact (Nat.zero_add _).symm, read0]
        exact col _ _ _ _ (by rw [en]; show _ + (16 + (a : ℕ)) = _; omega)
      · rw [dif_neg h, read1]
        exact col _ _ _ _ (by rw [en]; show _ + ((a : ℕ) - 240) = _; omega)
    · rw [outsAt0_C m c t h0 (by omega) (by omega)]
      frame_out
      rw [dif_neg (show ¬ ((rowAt t a : Fin 11776) : ℕ) < 11520 by omega), pay4]
      by_cases h : (a : ℕ) < 16
      · rw [dif_pos h, dif_pos (show ((rowAt t a : Fin 11776) : ℕ) < 11536 by omega), read2, read3]
        exact col _ _ _ _ (by rw [en]; show 6144 + (a : ℕ) = _; omega)
      · rw [dif_neg h, dif_neg (show ¬ ((rowAt t a : Fin 11776) : ℕ) < 11536 by omega)]

/-- The array the call leaves. -/
theorem result : (dats m 0 c).arrAt 4 cfg0.N = fun y : S2x11776x4096.Idx => packed (weights m c) (gains m c) (y 0) (y 1) (y 2) := by
  refine (dats m 0 c).arrAt_eq_of_covers 4 _ (by decide +kernel) fun t hf y => ?_
  blk_simp
  rw [after0_4]
  have ey : y = ix3 (n0 := 1) (n1 := 256) (n2 := 4096) 0 (y 1) (y 2) := by
    funext a
    match a with
    | ⟨0, _⟩ => exact Subsingleton.elim (α := Fin 1) _ _
    | ⟨1, _⟩ => rfl
    | ⟨2, _⟩ => rfl
  have e0 : (win0_4.blk t).view.emb y 0 = layerAt t := Fin.ext (by unfold layerAt; blk_simp [idx4 t])
  have e1 : (win0_4.blk t).view.emb y 1 = rowAt t (y 1) := Fin.ext (by unfold rowAt; blk_simp [idx4 t]; exact congrArg (· + _) (Nat.mul_comm _ _))
  have e2 : (win0_4.blk t).view.emb y 2 = y 2 := Fin.ext (by blk_simp [idx4 t])
  rw [e0, e1, e2]
  exact (congrArg _ ey).trans (stored m c t (y 1) (y 2))

end Cert.RegroupIdeal.Pack

end
-- ==== Proof.Pack.Claims.lean ====
/- The packing's claims: whatever the arrays hold, the kernel's array is the reference's. -/
module

public import proofs.«01_k».proof.Proof.Pack.Kernel
public import proofs.«01_k».proof.Proof.Gen.RegroupRefIdeal.Read
public import proofs.«01_k».proof.Proof.Gen.RegroupRefIdeal.Run
public import proofs.«01_k».proof.Defs
public import Idealize.ShloMosaic.Lib.Claim

@[expose] public section

set_option maxRecDepth 16384

noncomputable section

namespace Cert.RegroupRefIdeal.Pack

open Cert.RegroupRefIdeal Cert.RegroupRefIdeal.Gen Cert.RegroupRefIdeal.Read Idealize.ShloMosaic
open Cert.RegroupIdeal.Pack (packed)

variable (x0 : (⟨S2x4096x11536, .f32⟩ : BufTy).Contents (Elt Ideal)) (x1 : (⟨S2x4096, .f32⟩ : BufTy).Contents (Elt Ideal))

theorem turned_at (l : Fin 2) (n : Fin 11536) (k : Fin 4096) :
    val_main_v3 (F := Ideal) x0 x1 (ix3 l n k) = x0 (ix3 l k n) * x1 (ix2 l k) := by
  pointwise [val_main_v3, val_main_v2, val_main_v1, val_main_v0]

theorem result (l : Fin 2) (n : Fin 11776) (k : Fin 4096) : val_main_v9 (F := Ideal) x0 x1 (ix3 l n k) = packed x0 x1 l n k := by
  unfold packed val_main_v9 val_main_v8 val_main_v4 val_main_v5 val_main_v6
  have e := turned_at x0 x1 l
  revert e
  generalize val_main_v3 (F := Ideal) x0 x1 = Y
  intro e
  pointwise [val_main_v7, val_main_cst]
  simp only [e]
  have col : ∀ (p q : ℕ) (hp : p < 11536) (hq : q < 11536), p = q →
      x0 (ix3 l k ⟨p, hp⟩) * x1 (ix2 l k) = x0 (ix3 l k ⟨q, hq⟩) * x1 (ix2 l k) := fun p q hp hq e => by subst e; rfl
  by_cases h0 : (n : ℕ) < 6144
  · rw [dif_pos h0, dif_pos h0]
  · rw [dif_neg h0, dif_neg h0]
    by_cases h1 : (n : ℕ) < 11520
    · rw [dif_pos (show (n : ℕ) - 6144 < 5376 by omega), dif_pos h1]
      exact col _ _ _ _ (by omega)
    · rw [dif_neg (show ¬ (n : ℕ) - 6144 < 5376 by omega), dif_neg h1]
      by_cases h2 : (n : ℕ) < 11536
      · rw [dif_pos (show (n : ℕ) - 6144 - 5376 < 16 by omega), dif_pos h2]
        exact col _ _ _ _ (by omega)
      · rw [dif_neg (show ¬ (n : ℕ) - 6144 - 5376 < 16 by omega), dif_neg h2]

end Cert.RegroupRefIdeal.Pack

namespace Cert.Regroup

open Idealize.ShloMosaic Idealize.SL.Sem Cert.RegroupIdeal.Pack

variable (m : (ℓ : Loc Cert.RegroupIdeal.nD Cert.RegroupIdeal.τ Cert.RegroupIdeal.sig) → Buf (Elt Ideal) ℓ) (c : Dev Cert.RegroupIdeal.nD)

theorem agree : Cert.RegroupRefIdeal.Read.val_main_v9 (F := Ideal) (weights m c) (gains m c)
    = (Cert.RegroupIdeal.Gen.dats m 0 c).arrAt 4 Cert.RegroupIdeal.cfg0.N := by
  rw [result]
  funext y
  have ey : y = ix3 (y 0) (y 1) (y 2) := by funext a; match a with | ⟨0, _⟩ => rfl | ⟨1, _⟩ => rfl | ⟨2, _⟩ => rfl
  exact (congrArg _ ey).trans (Cert.RegroupRefIdeal.Pack.result _ _ (y 0) (y 1) (y 2))

theorem algebraic : Cert.algebraic_RegroupIdeal_RegroupRefIdeal := by
  pair_intro
  · run_from Cert.RegroupIdeal.Value.run_blocks m g
  · run_from Cert.RegroupRefIdeal.Value.run m' g'
    exact (Cert.RegroupRefIdeal.Read.val_main_v9_eq (F := Ideal) _ _).trans (agree m c)

/-- The reference runs host operations alone and has no semaphore. -/
theorem frame_reference : Cert.quiescent_RegroupRefIdeal := fun m ρ _ =>
  (θ_run Cert.RegroupRefIdeal.defs _ _).mono (fun r h => ⟨fun c => (h c).2, sem_eq_zero_of_no_sems (by decide) r.2⟩)
    (Cert.RegroupRefIdeal.Value.run (F := Ideal) m ρ)

end Cert.Regroup

end
-- ==== Proof.lean ====
module

public import proofs.«01_k».proof.Proof.Swa.Claims
public import proofs.«01_k».proof.Proof.InProj.Claims
public import proofs.«01_k».proof.Proof.Ffn.Claims
public import proofs.«01_k».proof.Proof.FfnFirst.Claims
public import proofs.«01_k».proof.Proof.Out.Claims
public import proofs.«01_k».proof.Proof.OutFirst.Claims
public import proofs.«01_k».proof.Proof.Down.Claims
public import proofs.«01_k».proof.Proof.Conv.Claims
public import proofs.«01_k».proof.Proof.Pack.Claims
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnUpFirst.Frame
public import proofs.«01_k».proof.Proof.Gen.FfnUpFirstIdeal.Frame
public import proofs.«01_k».proof.Proof.Gen.FfnUpFirstRefIdeal.Run
public import proofs.«01_k».proof.Proof.Gen.FfnUpFirstRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.OutProjFirst.Frame
public import proofs.«01_k».proof.Proof.Gen.OutProjFirstIdeal.Value
public import proofs.«01_k».proof.Proof.Gen.OutProjFirstRefIdeal.Run
public import proofs.«01_k».proof.Proof.Gen.OutProjFirstRefIdeal.Read
public import proofs.«01_k».proof.Proof.Gen.Sconv.Frame
public import proofs.«01_k».proof.Proof.Gen.SconvIdeal.Value
public import proofs.«01_k».proof.Proof.Gen.SconvRefIdeal.Run
public import proofs.«01_k».proof.Proof.Gen.SconvRefIdeal.Read
public import proofs.«01_k».proof.Proof.Gen.Regroup.Frame
public import proofs.«01_k».proof.Proof.Gen.RegroupIdeal.Value
public import proofs.«01_k».proof.Proof.Gen.RegroupRefIdeal.Run
public import proofs.«01_k».proof.Proof.Gen.RegroupRefIdeal.Read
public import proofs.«01_k».proof.Proof.Gen.MmResIdeal.Frame
public import proofs.«01_k».proof.Proof.Gen.MmResRefIdeal.Run
public import proofs.«01_k».proof.Proof.Gen.MmResRefIdeal.Read
public import proofs.«01_k».proof.Proof.Gen.MmRes
public import proofs.«01_k».proof.Proof.Gen.MmResIdeal.Skeleton
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.InProj.Gen.facts,
  Cert.InProjIdeal.Gen.facts, Cert.FfnUp.Gen.facts, Cert.FfnUpIdeal.Gen.facts, Cert.FfnUpFirst.Gen.facts,
  Cert.FfnUpFirstIdeal.Gen.facts, Cert.OutProj.Gen.facts, Cert.OutProjIdeal.Gen.facts, Cert.OutProjFirst.Gen.facts,
  Cert.OutProjFirstIdeal.Gen.facts, Cert.MmRes.Gen.facts, Cert.MmResIdeal.Gen.facts, Cert.Sconv.Gen.facts,
  Cert.SconvIdeal.Gen.facts, Cert.Regroup.Gen.facts, Cert.RegroupIdeal.Gen.facts, Cert.InProjRefIdeal.Gen.facts,
  Cert.FfnUpRefIdeal.Gen.facts, Cert.FfnUpFirstRefIdeal.Gen.facts, Cert.OutProjRefIdeal.Gen.facts,
  Cert.OutProjFirstRefIdeal.Gen.facts, Cert.MmResRefIdeal.Gen.facts, Cert.SconvRefIdeal.Gen.facts, Cert.RegroupRefIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  Cert.Swa.frame_reference,
  fun m ρ _ => Cert.Swa.frame_reference m ρ trivial,
  fun m ρ _ => Cert.InProj.Gen.frame m ρ,
  fun m ρ _ => Cert.InProjIdeal.Gen.frame m ρ,
  fun m ρ _ => Cert.FfnUp.Gen.frame m ρ,
  fun m ρ _ => Cert.FfnUpIdeal.Gen.frame m ρ,
  fun m ρ _ => Cert.FfnUpFirst.Gen.frame m ρ,
  fun m ρ _ => Cert.FfnUpFirstIdeal.Gen.frame m ρ,
  fun m ρ _ => Cert.OutProj.Gen.frame m ρ,
  fun m ρ _ => Cert.OutProjIdeal.Gen.frame m ρ,
  fun m ρ _ => Cert.OutProjFirst.Gen.frame m ρ,
  fun m ρ _ => Cert.OutProjFirstIdeal.Gen.frame m ρ,
  Cert.MmRes.frame_kernel,
  Cert.MmRes.frame_ideal,
  fun m ρ _ => Cert.Sconv.Gen.frame m ρ,
  fun m ρ _ => Cert.SconvIdeal.Gen.frame m ρ,
  fun m ρ _ => Cert.Regroup.Gen.frame m ρ,
  fun m ρ _ => Cert.RegroupIdeal.Gen.frame m ρ,
  Cert.InProj.frame_reference,
  Cert.FfnUp.frame_reference,
  Cert.FfnUpFirst.frame_reference,
  Cert.OutProj.frame_reference,
  Cert.OutProjFirst.frame_reference,
  Cert.MmRes.frame_reference,
  Cert.Sconv.frame_reference,
  Cert.Regroup.frame_reference,
  Cert.Swa.preserves,
  Cert.Swa.algebraic,
  trivial,
  trivial,
  trivial,
  trivial,
  trivial,
  trivial,
  trivial,
  trivial,
  Cert.InProj.algebraic,
  Cert.FfnUp.algebraic,
  Cert.FfnUpFirst.algebraic,
  Cert.OutProj.algebraic,
  Cert.OutProjFirst.algebraic,
  Cert.MmRes.algebraic,
  Cert.Sconv.algebraic,
  Cert.Regroup.algebraic⟩

end Cert.Proof

end
